-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3x224x224 : Shape := ⟨4, ![1, 3, 224, 224]⟩
abbrev S1x224x224 : Shape := ⟨3, ![1, 224, 224]⟩
abbrev S64x3x3x3 : Shape := ⟨4, ![64, 3, 3, 3]⟩
abbrev S64 : Shape := ⟨1, ![64]⟩
abbrev S64x64x3x3 : Shape := ⟨4, ![64, 64, 3, 3]⟩
abbrev S128x64x3x3 : Shape := ⟨4, ![128, 64, 3, 3]⟩
abbrev S128 : Shape := ⟨1, ![128]⟩
abbrev S128x128x3x3 : Shape := ⟨4, ![128, 128, 3, 3]⟩
abbrev S1152x256 : Shape := ⟨2, ![1152, 256]⟩
abbrev S256 : Shape := ⟨1, ![256]⟩
abbrev S2304x256 : Shape := ⟨2, ![2304, 256]⟩
abbrev S2304x512 : Shape := ⟨2, ![2304, 512]⟩
abbrev S512 : Shape := ⟨1, ![512]⟩
abbrev S4608x512 : Shape := ⟨2, ![4608, 512]⟩
abbrev S3x224x224 : Shape := ⟨3, ![3, 224, 224]⟩
abbrev S224x224x3 : Shape := ⟨3, ![224, 224, 3]⟩
abbrev S3x3x3x64 : Shape := ⟨4, ![3, 3, 3, 64]⟩
abbrev S9x3x64 : Shape := ⟨3, ![9, 3, 64]⟩
abbrev S3x9x64 : Shape := ⟨3, ![3, 9, 64]⟩
abbrev S3x3x64x64 : Shape := ⟨4, ![3, 3, 64, 64]⟩
abbrev S9x64x64 : Shape := ⟨3, ![9, 64, 64]⟩
abbrev S_ : Shape := ⟨0, ![]⟩
abbrev S226x226x3 : Shape := ⟨3, ![226, 226, 3]⟩
abbrev S226x224x3 : Shape := ⟨3, ![226, 224, 3]⟩
abbrev S226x224x9 : Shape := ⟨3, ![226, 224, 9]⟩
abbrev S226x256x9 : Shape := ⟨3, ![226, 256, 9]⟩
abbrev S57856x9 : Shape := ⟨2, ![57856, 9]⟩
abbrev S1x64 : Shape := ⟨2, ![1, 64]⟩
abbrev S57344x64 : Shape := ⟨2, ![57344, 64]⟩
abbrev S57888x64 : Shape := ⟨2, ![57888, 64]⟩
abbrev S7680x9 : Shape := ⟨2, ![7680, 9]⟩
abbrev S7168x64 : Shape := ⟨2, ![7168, 64]⟩
abbrev S7168x9 : Shape := ⟨2, ![7168, 9]⟩
abbrev S1x9x64 : Shape := ⟨3, ![1, 9, 64]⟩
abbrev S9x64 : Shape := ⟨2, ![9, 64]⟩
abbrev S1x64x64 : Shape := ⟨3, ![1, 64, 64]⟩
abbrev S64x64 : Shape := ⟨2, ![64, 64]⟩
abbrev S224x256x64 : Shape := ⟨3, ![224, 256, 64]⟩
abbrev S224x224x64 : Shape := ⟨3, ![224, 224, 64]⟩
abbrev S112x112x64 : Shape := ⟨3, ![112, 112, 64]⟩
abbrev S112x128x64 : Shape := ⟨3, ![112, 128, 64]⟩
abbrev S112x128x256 : Shape := ⟨3, ![112, 128, 256]⟩
abbrev S14336x256 : Shape := ⟨2, ![14336, 256]⟩
abbrev S3x3x64x128 : Shape := ⟨4, ![3, 3, 64, 128]⟩
abbrev S9x64x128 : Shape := ⟨3, ![9, 64, 128]⟩
abbrev S3x3x128x128 : Shape := ⟨4, ![3, 3, 128, 128]⟩
abbrev S9x128x128 : Shape := ⟨3, ![9, 128, 128]⟩
abbrev S1x128 : Shape := ⟨2, ![1, 128]⟩
abbrev S14336x128 : Shape := ⟨2, ![14336, 128]⟩
abbrev S14624x64 : Shape := ⟨2, ![14624, 64]⟩
abbrev S14624x128 : Shape := ⟨2, ![14624, 128]⟩
abbrev S144x64 : Shape := ⟨2, ![144, 64]⟩
abbrev S14336x64 : Shape := ⟨2, ![14336, 64]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S112x128x128 : Shape := ⟨3, ![112, 128, 128]⟩
abbrev S112x112x128 : Shape := ⟨3, ![112, 112, 128]⟩
abbrev S56x56x128 : Shape := ⟨3, ![56, 56, 128]⟩
abbrev S56x64x128 : Shape := ⟨3, ![56, 64, 128]⟩
abbrev S56x64x512 : Shape := ⟨3, ![56, 64, 512]⟩
abbrev S3584x512 : Shape := ⟨2, ![3584, 512]⟩
abbrev S9x128x256 : Shape := ⟨3, ![9, 128, 256]⟩
abbrev S9x256x256 : Shape := ⟨3, ![9, 256, 256]⟩
abbrev S1x256 : Shape := ⟨2, ![1, 256]⟩
abbrev S3584x256 : Shape := ⟨2, ![3584, 256]⟩
abbrev S3744x128 : Shape := ⟨2, ![3744, 128]⟩
abbrev S3744x256 : Shape := ⟨2, ![3744, 256]⟩
abbrev S3584x128 : Shape := ⟨2, ![3584, 128]⟩
abbrev S1x128x256 : Shape := ⟨3, ![1, 128, 256]⟩
abbrev S128x256 : Shape := ⟨2, ![128, 256]⟩
abbrev S64x256 : Shape := ⟨2, ![64, 256]⟩
abbrev S1x256x256 : Shape := ⟨3, ![1, 256, 256]⟩
abbrev S256x256 : Shape := ⟨2, ![256, 256]⟩
abbrev S56x64x256 : Shape := ⟨3, ![56, 64, 256]⟩
abbrev S56x56x256 : Shape := ⟨3, ![56, 56, 256]⟩
abbrev S28x28x256 : Shape := ⟨3, ![28, 28, 256]⟩
abbrev S28x32x256 : Shape := ⟨3, ![28, 32, 256]⟩
abbrev S28x32x1024 : Shape := ⟨3, ![28, 32, 1024]⟩
abbrev S896x1024 : Shape := ⟨2, ![896, 1024]⟩
abbrev S9x256x512 : Shape := ⟨3, ![9, 256, 512]⟩
abbrev S9x512x512 : Shape := ⟨3, ![9, 512, 512]⟩
abbrev S1x512 : Shape := ⟨2, ![1, 512]⟩
abbrev S896x512 : Shape := ⟨2, ![896, 512]⟩
abbrev S992x256 : Shape := ⟨2, ![992, 256]⟩
abbrev S992x512 : Shape := ⟨2, ![992, 512]⟩
abbrev S896x256 : Shape := ⟨2, ![896, 256]⟩
abbrev S32x256 : Shape := ⟨2, ![32, 256]⟩
abbrev S1x256x512 : Shape := ⟨3, ![1, 256, 512]⟩
abbrev S256x512 : Shape := ⟨2, ![256, 512]⟩
abbrev S32x512 : Shape := ⟨2, ![32, 512]⟩
abbrev S1x512x512 : Shape := ⟨3, ![1, 512, 512]⟩
abbrev S512x512 : Shape := ⟨2, ![512, 512]⟩
abbrev S28x32x512 : Shape := ⟨3, ![28, 32, 512]⟩
abbrev S28x28x512 : Shape := ⟨3, ![28, 28, 512]⟩
abbrev S512x28x28 : Shape := ⟨3, ![512, 28, 28]⟩
abbrev S1x512x28x28 : Shape := ⟨4, ![1, 512, 28, 28]⟩

abbrev nBuf : Space → Nat
  | .hbm => 139
  | .vmem => 37
  | .smem => 0
  | _ => 0

abbrev hbmTy0_0 (i : Nat) : BufTy := match i % 128 with
  | 0 => ⟨S1x3x224x224, .f32⟩
  | 1 => ⟨S1x224x224, .i32⟩
  | 2 => ⟨S64x3x3x3, .f32⟩
  | 3 => ⟨S64, .f32⟩
  | 4 => ⟨S64x64x3x3, .f32⟩
  | 5 => ⟨S64, .f32⟩
  | 6 => ⟨S128x64x3x3, .f32⟩
  | 7 => ⟨S128, .f32⟩
  | 8 => ⟨S128x128x3x3, .f32⟩
  | 9 => ⟨S128, .f32⟩
  | 10 => ⟨S1152x256, .f32⟩
  | 11 => ⟨S256, .f32⟩
  | 12 => ⟨S2304x256, .f32⟩
  | 13 => ⟨S256, .f32⟩
  | 14 => ⟨S2304x256, .f32⟩
  | 15 => ⟨S256, .f32⟩
  | 16 => ⟨S2304x512, .f32⟩
  | 17 => ⟨S512, .f32⟩
  | 18 => ⟨S4608x512, .f32⟩
  | 19 => ⟨S512, .f32⟩
  | 20 => ⟨S4608x512, .f32⟩
  | 21 => ⟨S512, .f32⟩
  | 22 => ⟨S3x224x224, .f32⟩
  | 23 => ⟨S224x224x3, .f32⟩
  | 24 => ⟨S224x224x3, .bf16⟩
  | 25 => ⟨S3x3x3x64, .f32⟩
  | 26 => ⟨S9x3x64, .f32⟩
  | 27 => ⟨S3x9x64, .f32⟩
  | 28 => ⟨S3x3x64x64, .f32⟩
  | 29 => ⟨S9x64x64, .f32⟩
  | 30 => ⟨S_, .i32⟩
  | 31 => ⟨S_, .bf16⟩
  | 32 => ⟨S226x226x3, .bf16⟩
  | 33 => ⟨S226x224x3, .bf16⟩
  | 34 => ⟨S226x224x3, .bf16⟩
  | 35 => ⟨S226x224x3, .bf16⟩
  | 36 => ⟨S226x224x9, .bf16⟩
  | 37 => ⟨S_, .i32⟩
  | 38 => ⟨S_, .bf16⟩
  | 39 => ⟨S226x256x9, .bf16⟩
  | 40 => ⟨S57856x9, .bf16⟩
  | 41 => ⟨S3x9x64, .bf16⟩
  | 42 => ⟨S1x64, .f32⟩
  | 43 => ⟨S9x64x64, .bf16⟩
  | 44 => ⟨S1x64, .f32⟩
  | 45 => ⟨S57344x64, .bf16⟩
  | 46 => ⟨S224x256x64, .bf16⟩
  | 47 => ⟨S224x224x64, .bf16⟩
  | 48 => ⟨S112x112x64, .bf16⟩
  | 49 => ⟨S_, .i32⟩
  | 50 => ⟨S_, .bf16⟩
  | 51 => ⟨S112x128x64, .bf16⟩
  | 52 => ⟨S112x112x64, .bf16⟩
  | 53 => ⟨S_, .i32⟩
  | 54 => ⟨S_, .bf16⟩
  | 55 => ⟨S112x128x64, .bf16⟩
  | 56 => ⟨S112x112x64, .bf16⟩
  | 57 => ⟨S_, .i32⟩
  | 58 => ⟨S_, .bf16⟩
  | 59 => ⟨S112x128x64, .bf16⟩
  | 60 => ⟨S112x112x64, .bf16⟩
  | 61 => ⟨S_, .i32⟩
  | 62 => ⟨S_, .bf16⟩
  | 63 => ⟨S112x128x64, .bf16⟩
  | 64 => ⟨S112x128x256, .bf16⟩
  | 65 => ⟨S14336x256, .bf16⟩
  | 66 => ⟨S3x3x64x128, .f32⟩
  | 67 => ⟨S9x64x128, .f32⟩
  | 68 => ⟨S3x3x128x128, .f32⟩
  | 69 => ⟨S9x128x128, .f32⟩
  | 70 => ⟨S9x64x128, .bf16⟩
  | 71 => ⟨S1x128, .f32⟩
  | 72 => ⟨S9x128x128, .bf16⟩
  | 73 => ⟨S1x128, .f32⟩
  | 74 => ⟨S14336x128, .bf16⟩
  | 75 => ⟨S112x128x128, .bf16⟩
  | 76 => ⟨S112x112x128, .bf16⟩
  | 77 => ⟨S56x56x128, .bf16⟩
  | 78 => ⟨S_, .i32⟩
  | 79 => ⟨S_, .bf16⟩
  | 80 => ⟨S56x64x128, .bf16⟩
  | 81 => ⟨S56x56x128, .bf16⟩
  | 82 => ⟨S_, .i32⟩
  | 83 => ⟨S_, .bf16⟩
  | 84 => ⟨S56x64x128, .bf16⟩
  | 85 => ⟨S56x56x128, .bf16⟩
  | 86 => ⟨S_, .i32⟩
  | 87 => ⟨S_, .bf16⟩
  | 88 => ⟨S56x64x128, .bf16⟩
  | 89 => ⟨S56x56x128, .bf16⟩
  | 90 => ⟨S_, .i32⟩
  | 91 => ⟨S_, .bf16⟩
  | 92 => ⟨S56x64x128, .bf16⟩
  | 93 => ⟨S56x64x512, .bf16⟩
  | 94 => ⟨S3584x512, .bf16⟩
  | 95 => ⟨S9x128x256, .f32⟩
  | 96 => ⟨S9x256x256, .f32⟩
  | 97 => ⟨S9x256x256, .f32⟩
  | 98 => ⟨S9x128x256, .bf16⟩
  | 99 => ⟨S1x256, .f32⟩
  | 100 => ⟨S9x256x256, .bf16⟩
  | 101 => ⟨S1x256, .f32⟩
  | 102 => ⟨S9x256x256, .bf16⟩
  | 103 => ⟨S1x256, .f32⟩
  | 104 => ⟨S3584x256, .bf16⟩
  | 105 => ⟨S56x64x256, .bf16⟩
  | 106 => ⟨S56x56x256, .bf16⟩
  | 107 => ⟨S28x28x256, .bf16⟩
  | 108 => ⟨S_, .i32⟩
  | 109 => ⟨S_, .bf16⟩
  | 110 => ⟨S28x32x256, .bf16⟩
  | 111 => ⟨S28x28x256, .bf16⟩
  | 112 => ⟨S_, .i32⟩
  | 113 => ⟨S_, .bf16⟩
  | 114 => ⟨S28x32x256, .bf16⟩
  | 115 => ⟨S28x28x256, .bf16⟩
  | 116 => ⟨S_, .i32⟩
  | 117 => ⟨S_, .bf16⟩
  | 118 => ⟨S28x32x256, .bf16⟩
  | 119 => ⟨S28x28x256, .bf16⟩
  | 120 => ⟨S_, .i32⟩
  | 121 => ⟨S_, .bf16⟩
  | 122 => ⟨S28x32x256, .bf16⟩
  | 123 => ⟨S28x32x1024, .bf16⟩
  | 124 => ⟨S896x1024, .bf16⟩
  | 125 => ⟨S9x256x512, .f32⟩
  | 126 => ⟨S9x512x512, .f32⟩
  | 127 => ⟨S9x512x512, .f32⟩
  | _ => ⟨S1x3x224x224, .f32⟩

abbrev hbmTy0_1 (i : Nat) : BufTy := match i % 128 with
  | 0 => ⟨S9x256x512, .bf16⟩
  | 1 => ⟨S1x512, .f32⟩
  | 2 => ⟨S9x512x512, .bf16⟩
  | 3 => ⟨S1x512, .f32⟩
  | 4 => ⟨S9x512x512, .bf16⟩
  | 5 => ⟨S1x512, .f32⟩
  | 6 => ⟨S896x512, .f32⟩
  | 7 => ⟨S28x32x512, .f32⟩
  | 8 => ⟨S28x28x512, .f32⟩
  | 9 => ⟨S512x28x28, .f32⟩
  | 10 => ⟨S1x512x28x28, .f32⟩
  | _ => ⟨S1x3x224x224, .f32⟩

abbrev hbmTy (i : Nat) : BufTy := match i / 128 with
  | 0 => hbmTy0_0 i
  | 1 => hbmTy0_1 i
  | _ => ⟨S1x3x224x224, .f32⟩

abbrev bufTy : (tb : Table) → Fin (tcTables nBuf tb) → BufTy
  | .hbm, ⟨i, _⟩ => hbmTy i
  | .local _ .vmem, ⟨0, _⟩ => ⟨S3x9x64, .bf16⟩
  | .local _ .vmem, ⟨1, _⟩ => ⟨S1x64, .f32⟩
  | .local _ .vmem, ⟨2, _⟩ => ⟨S9x64x64, .bf16⟩
  | .local _ .vmem, ⟨3, _⟩ => ⟨S1x64, .f32⟩
  | .local _ .vmem, ⟨4, _⟩ => ⟨S57344x64, .bf16⟩
  | .local _ .vmem, ⟨5, _⟩ => ⟨S57888x64, .bf16⟩
  | .local _ .vmem, ⟨6, _⟩ => ⟨S7680x9, .bf16⟩
  | .local _ .vmem, ⟨7, _⟩ => ⟨S14336x256, .bf16⟩
  | .local _ .vmem, ⟨8, _⟩ => ⟨S9x64x128, .bf16⟩
  | .local _ .vmem, ⟨9, _⟩ => ⟨S1x128, .f32⟩
  | .local _ .vmem, ⟨10, _⟩ => ⟨S9x128x128, .bf16⟩
  | .local _ .vmem, ⟨11, _⟩ => ⟨S1x128, .f32⟩
  | .local _ .vmem, ⟨12, _⟩ => ⟨S14336x128, .bf16⟩
  | .local _ .vmem, ⟨13, _⟩ => ⟨S14624x64, .bf16⟩
  | .local _ .vmem, ⟨14, _⟩ => ⟨S14624x128, .bf16⟩
  | .local _ .vmem, ⟨15, _⟩ => ⟨S3584x512, .bf16⟩
  | .local _ .vmem, ⟨16, _⟩ => ⟨S9x128x256, .bf16⟩
  | .local _ .vmem, ⟨17, _⟩ => ⟨S1x256, .f32⟩
  | .local _ .vmem, ⟨18, _⟩ => ⟨S9x256x256, .bf16⟩
  | .local _ .vmem, ⟨19, _⟩ => ⟨S1x256, .f32⟩
  | .local _ .vmem, ⟨20, _⟩ => ⟨S9x256x256, .bf16⟩
  | .local _ .vmem, ⟨21, _⟩ => ⟨S1x256, .f32⟩
  | .local _ .vmem, ⟨22, _⟩ => ⟨S3584x256, .bf16⟩
  | .local _ .vmem, ⟨23, _⟩ => ⟨S3744x128, .bf16⟩
  | .local _ .vmem, ⟨24, _⟩ => ⟨S3744x256, .bf16⟩
  | .local _ .vmem, ⟨25, _⟩ => ⟨S3744x256, .bf16⟩
  | .local _ .vmem, ⟨26, _⟩ => ⟨S896x1024, .bf16⟩
  | .local _ .vmem, ⟨27, _⟩ => ⟨S9x256x512, .bf16⟩
  | .local _ .vmem, ⟨28, _⟩ => ⟨S1x512, .f32⟩
  | .local _ .vmem, ⟨29, _⟩ => ⟨S9x512x512, .bf16⟩
  | .local _ .vmem, ⟨30, _⟩ => ⟨S1x512, .f32⟩
  | .local _ .vmem, ⟨31, _⟩ => ⟨S9x512x512, .bf16⟩
  | .local _ .vmem, ⟨32, _⟩ => ⟨S1x512, .f32⟩
  | .local _ .vmem, ⟨33, _⟩ => ⟨S896x512, .f32⟩
  | .local _ .vmem, ⟨34, _⟩ => ⟨S992x256, .bf16⟩
  | .local _ .vmem, ⟨35, _⟩ => ⟨S992x512, .bf16⟩
  | .local _ .vmem, ⟨36, _⟩ => ⟨S992x512, .bf16⟩
  | _, _ => ⟨S1x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_call0_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_call1_v0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_1 : Ref sig .tc := ⟨.hbm, 49, rfl⟩
abbrev main_call2_v0 : Ref sig .tc := ⟨.hbm, 50, rfl⟩
abbrev main_v23 : Ref sig .tc := ⟨.hbm, 51, rfl⟩
abbrev main_v24 : Ref sig .tc := ⟨.hbm, 52, rfl⟩
abbrev main_c_2 : Ref sig .tc := ⟨.hbm, 53, rfl⟩
abbrev main_call3_v0 : Ref sig .tc := ⟨.hbm, 54, rfl⟩
abbrev main_v25 : Ref sig .tc := ⟨.hbm, 55, rfl⟩
abbrev main_v26 : Ref sig .tc := ⟨.hbm, 56, rfl⟩
abbrev main_c_3 : Ref sig .tc := ⟨.hbm, 57, rfl⟩
abbrev main_call4_v0 : Ref sig .tc := ⟨.hbm, 58, rfl⟩
abbrev main_v27 : Ref sig .tc := ⟨.hbm, 59, rfl⟩
abbrev main_v28 : Ref sig .tc := ⟨.hbm, 60, rfl⟩
abbrev main_c_4 : Ref sig .tc := ⟨.hbm, 61, rfl⟩
abbrev main_call5_v0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_5 : Ref sig .tc := ⟨.hbm, 78, rfl⟩
abbrev main_call6_v0 : Ref sig .tc := ⟨.hbm, 79, rfl⟩
abbrev main_v44 : Ref sig .tc := ⟨.hbm, 80, rfl⟩
abbrev main_v45 : Ref sig .tc := ⟨.hbm, 81, rfl⟩
abbrev main_c_6 : Ref sig .tc := ⟨.hbm, 82, rfl⟩
abbrev main_call7_v0 : Ref sig .tc := ⟨.hbm, 83, rfl⟩
abbrev main_v46 : Ref sig .tc := ⟨.hbm, 84, rfl⟩
abbrev main_v47 : Ref sig .tc := ⟨.hbm, 85, rfl⟩
abbrev main_c_7 : Ref sig .tc := ⟨.hbm, 86, rfl⟩
abbrev main_call8_v0 : Ref sig .tc := ⟨.hbm, 87, rfl⟩
abbrev main_v48 : Ref sig .tc := ⟨.hbm, 88, rfl⟩
abbrev main_v49 : Ref sig .tc := ⟨.hbm, 89, rfl⟩
abbrev main_c_8 : Ref sig .tc := ⟨.hbm, 90, rfl⟩
abbrev main_call9_v0 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_9 : Ref sig .tc := ⟨.hbm, 108, rfl⟩
abbrev main_call10_v0 : Ref sig .tc := ⟨.hbm, 109, rfl⟩
abbrev main_v66 : Ref sig .tc := ⟨.hbm, 110, rfl⟩
abbrev main_v67 : Ref sig .tc := ⟨.hbm, 111, rfl⟩
abbrev main_c_10 : Ref sig .tc := ⟨.hbm, 112, rfl⟩
abbrev main_call11_v0 : Ref sig .tc := ⟨.hbm, 113, rfl⟩
abbrev main_v68 : Ref sig .tc := ⟨.hbm, 114, rfl⟩
abbrev main_v69 : Ref sig .tc := ⟨.hbm, 115, rfl⟩
abbrev main_c_11 : Ref sig .tc := ⟨.hbm, 116, rfl⟩
abbrev main_call12_v0 : Ref sig .tc := ⟨.hbm, 117, rfl⟩
abbrev main_v70 : Ref sig .tc := ⟨.hbm, 118, rfl⟩
abbrev main_v71 : Ref sig .tc := ⟨.hbm, 119, rfl⟩
abbrev main_c_12 : Ref sig .tc := ⟨.hbm, 120, rfl⟩
abbrev main_call13_v0 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_scratch0 : Ref sig .tc := ⟨.vmem, 23, rfl⟩
abbrev cc2_scratch1 : Ref sig .tc := ⟨.vmem, 24, rfl⟩
abbrev cc2_scratch2 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_scratch0 : Ref sig .tc := ⟨.vmem, 34, rfl⟩
abbrev cc3_scratch1 : Ref sig .tc := ⟨.vmem, 35, rfl⟩
abbrev cc3_scratch2 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27

abbrev nD : Nat := 1
abbrev τ : Topo := Topo.v7x

variable {F : FTy → Type} [FloatOps F]

abbrev grid0 : Pipeline.Grid := .none

abbrev stage0_0 : Fin 1 → Memref sig .tc .vmem S3x9x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S57344x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S14336x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S9x64x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S9x128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S14336x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := .none

abbrev stage2_0 : Fin 1 → Memref sig .tc .vmem S3584x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S9x128x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S9x256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S9x256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S3584x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev grid3 : Pipeline.Grid := .none

abbrev stage3_0 : Fin 1 → Memref sig .tc .vmem S896x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S9x256x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S9x512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S9x512x512 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S896x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
-- ==== ReferenceIdeal.lean ====
abbrev S1x3x224x224 : Shape := ⟨4, ![1, 3, 224, 224]⟩
abbrev S1x224x224 : Shape := ⟨3, ![1, 224, 224]⟩
abbrev S64x3x3x3 : Shape := ⟨4, ![64, 3, 3, 3]⟩
abbrev S64 : Shape := ⟨1, ![64]⟩
abbrev S64x64x3x3 : Shape := ⟨4, ![64, 64, 3, 3]⟩
abbrev S128x64x3x3 : Shape := ⟨4, ![128, 64, 3, 3]⟩
abbrev S128 : Shape := ⟨1, ![128]⟩
abbrev S128x128x3x3 : Shape := ⟨4, ![128, 128, 3, 3]⟩
abbrev S1152x256 : Shape := ⟨2, ![1152, 256]⟩
abbrev S256 : Shape := ⟨1, ![256]⟩
abbrev S2304x256 : Shape := ⟨2, ![2304, 256]⟩
abbrev S2304x512 : Shape := ⟨2, ![2304, 512]⟩
abbrev S512 : Shape := ⟨1, ![512]⟩
abbrev S4608x512 : Shape := ⟨2, ![4608, 512]⟩
abbrev S_ : Shape := ⟨0, ![]⟩
abbrev S1x3x226x226 : Shape := ⟨4, ![1, 3, 226, 226]⟩
abbrev S64x3x1x1 : Shape := ⟨4, ![64, 3, 1, 1]⟩
abbrev S64x3 : Shape := ⟨2, ![64, 3]⟩
abbrev S64x1x224x224 : Shape := ⟨4, ![64, 1, 224, 224]⟩
abbrev S1x64x224x224 : Shape := ⟨4, ![1, 64, 224, 224]⟩
abbrev S1x64x1x1 : Shape := ⟨4, ![1, 64, 1, 1]⟩
abbrev S1x64x226x226 : Shape := ⟨4, ![1, 64, 226, 226]⟩
abbrev S64x64x1x1 : Shape := ⟨4, ![64, 64, 1, 1]⟩
abbrev S64x64 : Shape := ⟨2, ![64, 64]⟩
abbrev S1x64x112x112 : Shape := ⟨4, ![1, 64, 112, 112]⟩
abbrev S1x64x114x114 : Shape := ⟨4, ![1, 64, 114, 114]⟩
abbrev S128x64x1x1 : Shape := ⟨4, ![128, 64, 1, 1]⟩
abbrev S128x64 : Shape := ⟨2, ![128, 64]⟩
abbrev S128x1x112x112 : Shape := ⟨4, ![128, 1, 112, 112]⟩
abbrev S1x128x112x112 : Shape := ⟨4, ![1, 128, 112, 112]⟩
abbrev S1x128x1x1 : Shape := ⟨4, ![1, 128, 1, 1]⟩
abbrev S1x128x114x114 : Shape := ⟨4, ![1, 128, 114, 114]⟩
abbrev S128x128x1x1 : Shape := ⟨4, ![128, 128, 1, 1]⟩
abbrev S128x128 : Shape := ⟨2, ![128, 128]⟩
abbrev S1x128x12544 : Shape := ⟨3, ![1, 128, 12544]⟩
abbrev S1x12544x128 : Shape := ⟨3, ![1, 12544, 128]⟩
abbrev S2 : Shape := ⟨1, ![2]⟩
abbrev S56 : Shape := ⟨1, ![56]⟩
abbrev S56x1 : Shape := ⟨2, ![56, 1]⟩
abbrev S1x2 : Shape := ⟨2, ![1, 2]⟩
abbrev S56x2 : Shape := ⟨2, ![56, 2]⟩
abbrev S56x1x2x1 : Shape := ⟨4, ![56, 1, 2, 1]⟩
abbrev S1x56x1x2 : Shape := ⟨4, ![1, 56, 1, 2]⟩
abbrev S56x56x2x2 : Shape := ⟨4, ![56, 56, 2, 2]⟩
abbrev S3136x4 : Shape := ⟨2, ![3136, 4]⟩
abbrev S3136x4x1 : Shape := ⟨3, ![3136, 4, 1]⟩
abbrev S1x3136x4x128 : Shape := ⟨4, ![1, 3136, 4, 128]⟩
abbrev S1x3136x128 : Shape := ⟨3, ![1, 3136, 128]⟩
abbrev S3 : Shape := ⟨1, ![3]⟩
abbrev S1x3 : Shape := ⟨2, ![1, 3]⟩
abbrev S56x3 : Shape := ⟨2, ![56, 3]⟩
abbrev S56x1x3x1 : Shape := ⟨4, ![56, 1, 3, 1]⟩
abbrev S1x56x1x3 : Shape := ⟨4, ![1, 56, 1, 3]⟩
abbrev S56x56x3x3 : Shape := ⟨4, ![56, 56, 3, 3]⟩
abbrev S3136x9 : Shape := ⟨2, ![3136, 9]⟩
abbrev S3136x9x1 : Shape := ⟨3, ![3136, 9, 1]⟩
abbrev S1x3136x9x128 : Shape := ⟨4, ![1, 3136, 9, 128]⟩
abbrev S1x3136x1152 : Shape := ⟨3, ![1, 3136, 1152]⟩
abbrev S1x3136x256 : Shape := ⟨3, ![1, 3136, 256]⟩
abbrev S1x1x256 : Shape := ⟨3, ![1, 1, 256]⟩
abbrev S1x3136x9x256 : Shape := ⟨4, ![1, 3136, 9, 256]⟩
abbrev S1x3136x2304 : Shape := ⟨3, ![1, 3136, 2304]⟩
abbrev S28 : Shape := ⟨1, ![28]⟩
abbrev S28x1 : Shape := ⟨2, ![28, 1]⟩
abbrev S28x2 : Shape := ⟨2, ![28, 2]⟩
abbrev S28x1x2x1 : Shape := ⟨4, ![28, 1, 2, 1]⟩
abbrev S1x28x1x2 : Shape := ⟨4, ![1, 28, 1, 2]⟩
abbrev S28x28x2x2 : Shape := ⟨4, ![28, 28, 2, 2]⟩
abbrev S784x4 : Shape := ⟨2, ![784, 4]⟩
abbrev S784x4x1 : Shape := ⟨3, ![784, 4, 1]⟩
abbrev S1x784x4x256 : Shape := ⟨4, ![1, 784, 4, 256]⟩
abbrev S1x784x256 : Shape := ⟨3, ![1, 784, 256]⟩
abbrev S28x3 : Shape := ⟨2, ![28, 3]⟩
abbrev S28x1x3x1 : Shape := ⟨4, ![28, 1, 3, 1]⟩
abbrev S1x28x1x3 : Shape := ⟨4, ![1, 28, 1, 3]⟩
abbrev S28x28x3x3 : Shape := ⟨4, ![28, 28, 3, 3]⟩
abbrev S784x9 : Shape := ⟨2, ![784, 9]⟩
abbrev S784x9x1 : Shape := ⟨3, ![784, 9, 1]⟩
abbrev S1x784x9x256 : Shape := ⟨4, ![1, 784, 9, 256]⟩
abbrev S1x784x2304 : Shape := ⟨3, ![1, 784, 2304]⟩
abbrev S1x784x512 : Shape := ⟨3, ![1, 784, 512]⟩
abbrev S1x1x512 : Shape := ⟨3, ![1, 1, 512]⟩
abbrev S1x784x9x512 : Shape := ⟨4, ![1, 784, 9, 512]⟩
abbrev S1x784x4608 : Shape := ⟨3, ![1, 784, 4608]⟩
abbrev S1x512x784 : Shape := ⟨3, ![1, 512, 784]⟩
abbrev S1x512x28x28 : Shape := ⟨4, ![1, 512, 28, 28]⟩

abbrev nBuf : Space → Nat
  | .hbm => 475
  | .vmem => 0
  | .smem => 0
  | _ => 0

abbrev hbmTy0_0 (i : Nat) : BufTy := match i % 128 with
  | 0 => ⟨S1x3x224x224, .f32⟩
  | 1 => ⟨S1x224x224, .i32⟩
  | 2 => ⟨S64x3x3x3, .f32⟩
  | 3 => ⟨S64, .f32⟩
  | 4 => ⟨S64x64x3x3, .f32⟩
  | 5 => ⟨S64, .f32⟩
  | 6 => ⟨S128x64x3x3, .f32⟩
  | 7 => ⟨S128, .f32⟩
  | 8 => ⟨S128x128x3x3, .f32⟩
  | 9 => ⟨S128, .f32⟩
  | 10 => ⟨S1152x256, .f32⟩
  | 11 => ⟨S256, .f32⟩
  | 12 => ⟨S2304x256, .f32⟩
  | 13 => ⟨S256, .f32⟩
  | 14 => ⟨S2304x256, .f32⟩
  | 15 => ⟨S256, .f32⟩
  | 16 => ⟨S2304x512, .f32⟩
  | 17 => ⟨S512, .f32⟩
  | 18 => ⟨S4608x512, .f32⟩
  | 19 => ⟨S512, .f32⟩
  | 20 => ⟨S4608x512, .f32⟩
  | 21 => ⟨S512, .f32⟩
  | 22 => ⟨S_, .i32⟩
  | 23 => ⟨S_, .f32⟩
  | 24 => ⟨S1x3x226x226, .f32⟩
  | 25 => ⟨S1x3x224x224, .f32⟩
  | 26 => ⟨S64x3x1x1, .f32⟩
  | 27 => ⟨S64x3, .f32⟩
  | 28 => ⟨S64x1x224x224, .f32⟩
  | 29 => ⟨S1x64x224x224, .f32⟩
  | 30 => ⟨S1x3x224x224, .f32⟩
  | 31 => ⟨S64x3x1x1, .f32⟩
  | 32 => ⟨S64x3, .f32⟩
  | 33 => ⟨S64x1x224x224, .f32⟩
  | 34 => ⟨S1x64x224x224, .f32⟩
  | 35 => ⟨S1x64x224x224, .f32⟩
  | 36 => ⟨S1x3x224x224, .f32⟩
  | 37 => ⟨S64x3x1x1, .f32⟩
  | 38 => ⟨S64x3, .f32⟩
  | 39 => ⟨S64x1x224x224, .f32⟩
  | 40 => ⟨S1x64x224x224, .f32⟩
  | 41 => ⟨S1x64x224x224, .f32⟩
  | 42 => ⟨S1x3x224x224, .f32⟩
  | 43 => ⟨S64x3x1x1, .f32⟩
  | 44 => ⟨S64x3, .f32⟩
  | 45 => ⟨S64x1x224x224, .f32⟩
  | 46 => ⟨S1x64x224x224, .f32⟩
  | 47 => ⟨S1x64x224x224, .f32⟩
  | 48 => ⟨S1x3x224x224, .f32⟩
  | 49 => ⟨S64x3x1x1, .f32⟩
  | 50 => ⟨S64x3, .f32⟩
  | 51 => ⟨S64x1x224x224, .f32⟩
  | 52 => ⟨S1x64x224x224, .f32⟩
  | 53 => ⟨S1x64x224x224, .f32⟩
  | 54 => ⟨S1x3x224x224, .f32⟩
  | 55 => ⟨S64x3x1x1, .f32⟩
  | 56 => ⟨S64x3, .f32⟩
  | 57 => ⟨S64x1x224x224, .f32⟩
  | 58 => ⟨S1x64x224x224, .f32⟩
  | 59 => ⟨S1x64x224x224, .f32⟩
  | 60 => ⟨S1x3x224x224, .f32⟩
  | 61 => ⟨S64x3x1x1, .f32⟩
  | 62 => ⟨S64x3, .f32⟩
  | 63 => ⟨S64x1x224x224, .f32⟩
  | 64 => ⟨S1x64x224x224, .f32⟩
  | 65 => ⟨S1x64x224x224, .f32⟩
  | 66 => ⟨S1x3x224x224, .f32⟩
  | 67 => ⟨S64x3x1x1, .f32⟩
  | 68 => ⟨S64x3, .f32⟩
  | 69 => ⟨S64x1x224x224, .f32⟩
  | 70 => ⟨S1x64x224x224, .f32⟩
  | 71 => ⟨S1x64x224x224, .f32⟩
  | 72 => ⟨S1x3x224x224, .f32⟩
  | 73 => ⟨S64x3x1x1, .f32⟩
  | 74 => ⟨S64x3, .f32⟩
  | 75 => ⟨S64x1x224x224, .f32⟩
  | 76 => ⟨S1x64x224x224, .f32⟩
  | 77 => ⟨S1x64x224x224, .f32⟩
  | 78 => ⟨S1x64x1x1, .f32⟩
  | 79 => ⟨S1x64x224x224, .f32⟩
  | 80 => ⟨S1x64x224x224, .f32⟩
  | 81 => ⟨S_, .f32⟩
  | 82 => ⟨S1x64x224x224, .f32⟩
  | 83 => ⟨S1x64x224x224, .f32⟩
  | 84 => ⟨S_, .i32⟩
  | 85 => ⟨S_, .f32⟩
  | 86 => ⟨S1x64x226x226, .f32⟩
  | 87 => ⟨S1x64x224x224, .f32⟩
  | 88 => ⟨S64x64x1x1, .f32⟩
  | 89 => ⟨S64x64, .f32⟩
  | 90 => ⟨S64x1x224x224, .f32⟩
  | 91 => ⟨S1x64x224x224, .f32⟩
  | 92 => ⟨S1x64x224x224, .f32⟩
  | 93 => ⟨S64x64x1x1, .f32⟩
  | 94 => ⟨S64x64, .f32⟩
  | 95 => ⟨S64x1x224x224, .f32⟩
  | 96 => ⟨S1x64x224x224, .f32⟩
  | 97 => ⟨S1x64x224x224, .f32⟩
  | 98 => ⟨S1x64x224x224, .f32⟩
  | 99 => ⟨S64x64x1x1, .f32⟩
  | 100 => ⟨S64x64, .f32⟩
  | 101 => ⟨S64x1x224x224, .f32⟩
  | 102 => ⟨S1x64x224x224, .f32⟩
  | 103 => ⟨S1x64x224x224, .f32⟩
  | 104 => ⟨S1x64x224x224, .f32⟩
  | 105 => ⟨S64x64x1x1, .f32⟩
  | 106 => ⟨S64x64, .f32⟩
  | 107 => ⟨S64x1x224x224, .f32⟩
  | 108 => ⟨S1x64x224x224, .f32⟩
  | 109 => ⟨S1x64x224x224, .f32⟩
  | 110 => ⟨S1x64x224x224, .f32⟩
  | 111 => ⟨S64x64x1x1, .f32⟩
  | 112 => ⟨S64x64, .f32⟩
  | 113 => ⟨S64x1x224x224, .f32⟩
  | 114 => ⟨S1x64x224x224, .f32⟩
  | 115 => ⟨S1x64x224x224, .f32⟩
  | 116 => ⟨S1x64x224x224, .f32⟩
  | 117 => ⟨S64x64x1x1, .f32⟩
  | 118 => ⟨S64x64, .f32⟩
  | 119 => ⟨S64x1x224x224, .f32⟩
  | 120 => ⟨S1x64x224x224, .f32⟩
  | 121 => ⟨S1x64x224x224, .f32⟩
  | 122 => ⟨S1x64x224x224, .f32⟩
  | 123 => ⟨S64x64x1x1, .f32⟩
  | 124 => ⟨S64x64, .f32⟩
  | 125 => ⟨S64x1x224x224, .f32⟩
  | 126 => ⟨S1x64x224x224, .f32⟩
  | 127 => ⟨S1x64x224x224, .f32⟩
  | _ => ⟨S1x3x224x224, .f32⟩

abbrev hbmTy0_1 (i : Nat) : BufTy := match i % 128 with
  | 0 => ⟨S1x64x224x224, .f32⟩
  | 1 => ⟨S64x64x1x1, .f32⟩
  | 2 => ⟨S64x64, .f32⟩
  | 3 => ⟨S64x1x224x224, .f32⟩
  | 4 => ⟨S1x64x224x224, .f32⟩
  | 5 => ⟨S1x64x224x224, .f32⟩
  | 6 => ⟨S1x64x224x224, .f32⟩
  | 7 => ⟨S64x64x1x1, .f32⟩
  | 8 => ⟨S64x64, .f32⟩
  | 9 => ⟨S64x1x224x224, .f32⟩
  | 10 => ⟨S1x64x224x224, .f32⟩
  | 11 => ⟨S1x64x224x224, .f32⟩
  | 12 => ⟨S1x64x1x1, .f32⟩
  | 13 => ⟨S1x64x224x224, .f32⟩
  | 14 => ⟨S1x64x224x224, .f32⟩
  | 15 => ⟨S_, .f32⟩
  | 16 => ⟨S1x64x224x224, .f32⟩
  | 17 => ⟨S1x64x224x224, .f32⟩
  | 18 => ⟨S_, .f32⟩
  | 19 => ⟨S_, .f32⟩
  | 20 => ⟨S1x64x112x112, .f32⟩
  | 21 => ⟨S_, .i32⟩
  | 22 => ⟨S_, .f32⟩
  | 23 => ⟨S1x64x114x114, .f32⟩
  | 24 => ⟨S1x64x112x112, .f32⟩
  | 25 => ⟨S128x64x1x1, .f32⟩
  | 26 => ⟨S128x64, .f32⟩
  | 27 => ⟨S128x1x112x112, .f32⟩
  | 28 => ⟨S1x128x112x112, .f32⟩
  | 29 => ⟨S1x64x112x112, .f32⟩
  | 30 => ⟨S128x64x1x1, .f32⟩
  | 31 => ⟨S128x64, .f32⟩
  | 32 => ⟨S128x1x112x112, .f32⟩
  | 33 => ⟨S1x128x112x112, .f32⟩
  | 34 => ⟨S1x128x112x112, .f32⟩
  | 35 => ⟨S1x64x112x112, .f32⟩
  | 36 => ⟨S128x64x1x1, .f32⟩
  | 37 => ⟨S128x64, .f32⟩
  | 38 => ⟨S128x1x112x112, .f32⟩
  | 39 => ⟨S1x128x112x112, .f32⟩
  | 40 => ⟨S1x128x112x112, .f32⟩
  | 41 => ⟨S1x64x112x112, .f32⟩
  | 42 => ⟨S128x64x1x1, .f32⟩
  | 43 => ⟨S128x64, .f32⟩
  | 44 => ⟨S128x1x112x112, .f32⟩
  | 45 => ⟨S1x128x112x112, .f32⟩
  | 46 => ⟨S1x128x112x112, .f32⟩
  | 47 => ⟨S1x64x112x112, .f32⟩
  | 48 => ⟨S128x64x1x1, .f32⟩
  | 49 => ⟨S128x64, .f32⟩
  | 50 => ⟨S128x1x112x112, .f32⟩
  | 51 => ⟨S1x128x112x112, .f32⟩
  | 52 => ⟨S1x128x112x112, .f32⟩
  | 53 => ⟨S1x64x112x112, .f32⟩
  | 54 => ⟨S128x64x1x1, .f32⟩
  | 55 => ⟨S128x64, .f32⟩
  | 56 => ⟨S128x1x112x112, .f32⟩
  | 57 => ⟨S1x128x112x112, .f32⟩
  | 58 => ⟨S1x128x112x112, .f32⟩
  | 59 => ⟨S1x64x112x112, .f32⟩
  | 60 => ⟨S128x64x1x1, .f32⟩
  | 61 => ⟨S128x64, .f32⟩
  | 62 => ⟨S128x1x112x112, .f32⟩
  | 63 => ⟨S1x128x112x112, .f32⟩
  | 64 => ⟨S1x128x112x112, .f32⟩
  | 65 => ⟨S1x64x112x112, .f32⟩
  | 66 => ⟨S128x64x1x1, .f32⟩
  | 67 => ⟨S128x64, .f32⟩
  | 68 => ⟨S128x1x112x112, .f32⟩
  | 69 => ⟨S1x128x112x112, .f32⟩
  | 70 => ⟨S1x128x112x112, .f32⟩
  | 71 => ⟨S1x64x112x112, .f32⟩
  | 72 => ⟨S128x64x1x1, .f32⟩
  | 73 => ⟨S128x64, .f32⟩
  | 74 => ⟨S128x1x112x112, .f32⟩
  | 75 => ⟨S1x128x112x112, .f32⟩
  | 76 => ⟨S1x128x112x112, .f32⟩
  | 77 => ⟨S1x128x1x1, .f32⟩
  | 78 => ⟨S1x128x112x112, .f32⟩
  | 79 => ⟨S1x128x112x112, .f32⟩
  | 80 => ⟨S_, .f32⟩
  | 81 => ⟨S1x128x112x112, .f32⟩
  | 82 => ⟨S1x128x112x112, .f32⟩
  | 83 => ⟨S_, .i32⟩
  | 84 => ⟨S_, .f32⟩
  | 85 => ⟨S1x128x114x114, .f32⟩
  | 86 => ⟨S1x128x112x112, .f32⟩
  | 87 => ⟨S128x128x1x1, .f32⟩
  | 88 => ⟨S128x128, .f32⟩
  | 89 => ⟨S128x1x112x112, .f32⟩
  | 90 => ⟨S1x128x112x112, .f32⟩
  | 91 => ⟨S1x128x112x112, .f32⟩
  | 92 => ⟨S128x128x1x1, .f32⟩
  | 93 => ⟨S128x128, .f32⟩
  | 94 => ⟨S128x1x112x112, .f32⟩
  | 95 => ⟨S1x128x112x112, .f32⟩
  | 96 => ⟨S1x128x112x112, .f32⟩
  | 97 => ⟨S1x128x112x112, .f32⟩
  | 98 => ⟨S128x128x1x1, .f32⟩
  | 99 => ⟨S128x128, .f32⟩
  | 100 => ⟨S128x1x112x112, .f32⟩
  | 101 => ⟨S1x128x112x112, .f32⟩
  | 102 => ⟨S1x128x112x112, .f32⟩
  | 103 => ⟨S1x128x112x112, .f32⟩
  | 104 => ⟨S128x128x1x1, .f32⟩
  | 105 => ⟨S128x128, .f32⟩
  | 106 => ⟨S128x1x112x112, .f32⟩
  | 107 => ⟨S1x128x112x112, .f32⟩
  | 108 => ⟨S1x128x112x112, .f32⟩
  | 109 => ⟨S1x128x112x112, .f32⟩
  | 110 => ⟨S128x128x1x1, .f32⟩
  | 111 => ⟨S128x128, .f32⟩
  | 112 => ⟨S128x1x112x112, .f32⟩
  | 113 => ⟨S1x128x112x112, .f32⟩
  | 114 => ⟨S1x128x112x112, .f32⟩
  | 115 => ⟨S1x128x112x112, .f32⟩
  | 116 => ⟨S128x128x1x1, .f32⟩
  | 117 => ⟨S128x128, .f32⟩
  | 118 => ⟨S128x1x112x112, .f32⟩
  | 119 => ⟨S1x128x112x112, .f32⟩
  | 120 => ⟨S1x128x112x112, .f32⟩
  | 121 => ⟨S1x128x112x112, .f32⟩
  | 122 => ⟨S128x128x1x1, .f32⟩
  | 123 => ⟨S128x128, .f32⟩
  | 124 => ⟨S128x1x112x112, .f32⟩
  | 125 => ⟨S1x128x112x112, .f32⟩
  | 126 => ⟨S1x128x112x112, .f32⟩
  | 127 => ⟨S1x128x112x112, .f32⟩
  | _ => ⟨S1x3x224x224, .f32⟩

abbrev hbmTy0_2 (i : Nat) : BufTy := match i % 128 with
  | 0 => ⟨S128x128x1x1, .f32⟩
  | 1 => ⟨S128x128, .f32⟩
  | 2 => ⟨S128x1x112x112, .f32⟩
  | 3 => ⟨S1x128x112x112, .f32⟩
  | 4 => ⟨S1x128x112x112, .f32⟩
  | 5 => ⟨S1x128x112x112, .f32⟩
  | 6 => ⟨S128x128x1x1, .f32⟩
  | 7 => ⟨S128x128, .f32⟩
  | 8 => ⟨S128x1x112x112, .f32⟩
  | 9 => ⟨S1x128x112x112, .f32⟩
  | 10 => ⟨S1x128x112x112, .f32⟩
  | 11 => ⟨S1x128x1x1, .f32⟩
  | 12 => ⟨S1x128x112x112, .f32⟩
  | 13 => ⟨S1x128x112x112, .f32⟩
  | 14 => ⟨S_, .f32⟩
  | 15 => ⟨S1x128x112x112, .f32⟩
  | 16 => ⟨S1x128x112x112, .f32⟩
  | 17 => ⟨S1x128x12544, .f32⟩
  | 18 => ⟨S1x12544x128, .f32⟩
  | 19 => ⟨S2, .i32⟩
  | 20 => ⟨S56, .i32⟩
  | 21 => ⟨S56x1, .i32⟩
  | 22 => ⟨S_, .i32⟩
  | 23 => ⟨S56x1, .i32⟩
  | 24 => ⟨S56x1, .i32⟩
  | 25 => ⟨S1x2, .i32⟩
  | 26 => ⟨S56x2, .i32⟩
  | 27 => ⟨S56x2, .i32⟩
  | 28 => ⟨S56x2, .i32⟩
  | 29 => ⟨S56, .i32⟩
  | 30 => ⟨S56x1, .i32⟩
  | 31 => ⟨S_, .i32⟩
  | 32 => ⟨S56x1, .i32⟩
  | 33 => ⟨S56x1, .i32⟩
  | 34 => ⟨S1x2, .i32⟩
  | 35 => ⟨S56x2, .i32⟩
  | 36 => ⟨S56x2, .i32⟩
  | 37 => ⟨S56x2, .i32⟩
  | 38 => ⟨S56x1x2x1, .i32⟩
  | 39 => ⟨S_, .i32⟩
  | 40 => ⟨S56x1x2x1, .i32⟩
  | 41 => ⟨S56x1x2x1, .i32⟩
  | 42 => ⟨S1x56x1x2, .i32⟩
  | 43 => ⟨S56x56x2x2, .i32⟩
  | 44 => ⟨S56x56x2x2, .i32⟩
  | 45 => ⟨S56x56x2x2, .i32⟩
  | 46 => ⟨S3136x4, .i32⟩
  | 47 => ⟨S3136x4x1, .i32⟩
  | 48 => ⟨S1x3136x4x128, .f32⟩
  | 49 => ⟨S_, .f32⟩
  | 50 => ⟨S1x3136x128, .f32⟩
  | 51 => ⟨S3, .i32⟩
  | 52 => ⟨S_, .i32⟩
  | 53 => ⟨S3, .i32⟩
  | 54 => ⟨S3, .i32⟩
  | 55 => ⟨S56, .i32⟩
  | 56 => ⟨S56x1, .i32⟩
  | 57 => ⟨S1x3, .i32⟩
  | 58 => ⟨S56x3, .i32⟩
  | 59 => ⟨S56x3, .i32⟩
  | 60 => ⟨S56x3, .i32⟩
  | 61 => ⟨S_, .i32⟩
  | 62 => ⟨S56x3, .i32⟩
  | 63 => ⟨S56x3, .i32⟩
  | 64 => ⟨S_, .i32⟩
  | 65 => ⟨S56x3, .i32⟩
  | 66 => ⟨S56x3, .i32⟩
  | 67 => ⟨S56, .i32⟩
  | 68 => ⟨S56x1, .i32⟩
  | 69 => ⟨S1x3, .i32⟩
  | 70 => ⟨S56x3, .i32⟩
  | 71 => ⟨S56x3, .i32⟩
  | 72 => ⟨S56x3, .i32⟩
  | 73 => ⟨S_, .i32⟩
  | 74 => ⟨S56x3, .i32⟩
  | 75 => ⟨S56x3, .i32⟩
  | 76 => ⟨S_, .i32⟩
  | 77 => ⟨S56x3, .i32⟩
  | 78 => ⟨S56x3, .i32⟩
  | 79 => ⟨S56x1x3x1, .i32⟩
  | 80 => ⟨S_, .i32⟩
  | 81 => ⟨S56x1x3x1, .i32⟩
  | 82 => ⟨S56x1x3x1, .i32⟩
  | 83 => ⟨S1x56x1x3, .i32⟩
  | 84 => ⟨S56x56x3x3, .i32⟩
  | 85 => ⟨S56x56x3x3, .i32⟩
  | 86 => ⟨S56x56x3x3, .i32⟩
  | 87 => ⟨S3136x9, .i32⟩
  | 88 => ⟨S3136x9x1, .i32⟩
  | 89 => ⟨S1x3136x9x128, .f32⟩
  | 90 => ⟨S1x3136x1152, .f32⟩
  | 91 => ⟨S1x3136x256, .f32⟩
  | 92 => ⟨S1x1x256, .f32⟩
  | 93 => ⟨S1x3136x256, .f32⟩
  | 94 => ⟨S1x3136x256, .f32⟩
  | 95 => ⟨S_, .f32⟩
  | 96 => ⟨S1x3136x256, .f32⟩
  | 97 => ⟨S1x3136x256, .f32⟩
  | 98 => ⟨S3136x9x1, .i32⟩
  | 99 => ⟨S1x3136x9x256, .f32⟩
  | 100 => ⟨S1x3136x2304, .f32⟩
  | 101 => ⟨S1x3136x256, .f32⟩
  | 102 => ⟨S1x1x256, .f32⟩
  | 103 => ⟨S1x3136x256, .f32⟩
  | 104 => ⟨S1x3136x256, .f32⟩
  | 105 => ⟨S_, .f32⟩
  | 106 => ⟨S1x3136x256, .f32⟩
  | 107 => ⟨S1x3136x256, .f32⟩
  | 108 => ⟨S3136x9x1, .i32⟩
  | 109 => ⟨S1x3136x9x256, .f32⟩
  | 110 => ⟨S1x3136x2304, .f32⟩
  | 111 => ⟨S1x3136x256, .f32⟩
  | 112 => ⟨S1x1x256, .f32⟩
  | 113 => ⟨S1x3136x256, .f32⟩
  | 114 => ⟨S1x3136x256, .f32⟩
  | 115 => ⟨S_, .f32⟩
  | 116 => ⟨S1x3136x256, .f32⟩
  | 117 => ⟨S1x3136x256, .f32⟩
  | 118 => ⟨S2, .i32⟩
  | 119 => ⟨S28, .i32⟩
  | 120 => ⟨S28x1, .i32⟩
  | 121 => ⟨S_, .i32⟩
  | 122 => ⟨S28x1, .i32⟩
  | 123 => ⟨S28x1, .i32⟩
  | 124 => ⟨S1x2, .i32⟩
  | 125 => ⟨S28x2, .i32⟩
  | 126 => ⟨S28x2, .i32⟩
  | 127 => ⟨S28x2, .i32⟩
  | _ => ⟨S1x3x224x224, .f32⟩

abbrev hbmTy0_3 (i : Nat) : BufTy := match i % 128 with
  | 0 => ⟨S28, .i32⟩
  | 1 => ⟨S28x1, .i32⟩
  | 2 => ⟨S_, .i32⟩
  | 3 => ⟨S28x1, .i32⟩
  | 4 => ⟨S28x1, .i32⟩
  | 5 => ⟨S1x2, .i32⟩
  | 6 => ⟨S28x2, .i32⟩
  | 7 => ⟨S28x2, .i32⟩
  | 8 => ⟨S28x2, .i32⟩
  | 9 => ⟨S28x1x2x1, .i32⟩
  | 10 => ⟨S_, .i32⟩
  | 11 => ⟨S28x1x2x1, .i32⟩
  | 12 => ⟨S28x1x2x1, .i32⟩
  | 13 => ⟨S1x28x1x2, .i32⟩
  | 14 => ⟨S28x28x2x2, .i32⟩
  | 15 => ⟨S28x28x2x2, .i32⟩
  | 16 => ⟨S28x28x2x2, .i32⟩
  | 17 => ⟨S784x4, .i32⟩
  | 18 => ⟨S784x4x1, .i32⟩
  | 19 => ⟨S1x784x4x256, .f32⟩
  | 20 => ⟨S_, .f32⟩
  | 21 => ⟨S1x784x256, .f32⟩
  | 22 => ⟨S3, .i32⟩
  | 23 => ⟨S_, .i32⟩
  | 24 => ⟨S3, .i32⟩
  | 25 => ⟨S3, .i32⟩
  | 26 => ⟨S28, .i32⟩
  | 27 => ⟨S28x1, .i32⟩
  | 28 => ⟨S1x3, .i32⟩
  | 29 => ⟨S28x3, .i32⟩
  | 30 => ⟨S28x3, .i32⟩
  | 31 => ⟨S28x3, .i32⟩
  | 32 => ⟨S_, .i32⟩
  | 33 => ⟨S28x3, .i32⟩
  | 34 => ⟨S28x3, .i32⟩
  | 35 => ⟨S_, .i32⟩
  | 36 => ⟨S28x3, .i32⟩
  | 37 => ⟨S28x3, .i32⟩
  | 38 => ⟨S28, .i32⟩
  | 39 => ⟨S28x1, .i32⟩
  | 40 => ⟨S1x3, .i32⟩
  | 41 => ⟨S28x3, .i32⟩
  | 42 => ⟨S28x3, .i32⟩
  | 43 => ⟨S28x3, .i32⟩
  | 44 => ⟨S_, .i32⟩
  | 45 => ⟨S28x3, .i32⟩
  | 46 => ⟨S28x3, .i32⟩
  | 47 => ⟨S_, .i32⟩
  | 48 => ⟨S28x3, .i32⟩
  | 49 => ⟨S28x3, .i32⟩
  | 50 => ⟨S28x1x3x1, .i32⟩
  | 51 => ⟨S_, .i32⟩
  | 52 => ⟨S28x1x3x1, .i32⟩
  | 53 => ⟨S28x1x3x1, .i32⟩
  | 54 => ⟨S1x28x1x3, .i32⟩
  | 55 => ⟨S28x28x3x3, .i32⟩
  | 56 => ⟨S28x28x3x3, .i32⟩
  | 57 => ⟨S28x28x3x3, .i32⟩
  | 58 => ⟨S784x9, .i32⟩
  | 59 => ⟨S784x9x1, .i32⟩
  | 60 => ⟨S1x784x9x256, .f32⟩
  | 61 => ⟨S1x784x2304, .f32⟩
  | 62 => ⟨S1x784x512, .f32⟩
  | 63 => ⟨S1x1x512, .f32⟩
  | 64 => ⟨S1x784x512, .f32⟩
  | 65 => ⟨S1x784x512, .f32⟩
  | 66 => ⟨S_, .f32⟩
  | 67 => ⟨S1x784x512, .f32⟩
  | 68 => ⟨S1x784x512, .f32⟩
  | 69 => ⟨S784x9x1, .i32⟩
  | 70 => ⟨S1x784x9x512, .f32⟩
  | 71 => ⟨S1x784x4608, .f32⟩
  | 72 => ⟨S1x784x512, .f32⟩
  | 73 => ⟨S1x1x512, .f32⟩
  | 74 => ⟨S1x784x512, .f32⟩
  | 75 => ⟨S1x784x512, .f32⟩
  | 76 => ⟨S_, .f32⟩
  | 77 => ⟨S1x784x512, .f32⟩
  | 78 => ⟨S1x784x512, .f32⟩
  | 79 => ⟨S784x9x1, .i32⟩
  | 80 => ⟨S1x784x9x512, .f32⟩
  | 81 => ⟨S1x784x4608, .f32⟩
  | 82 => ⟨S1x784x512, .f32⟩
  | 83 => ⟨S1x1x512, .f32⟩
  | 84 => ⟨S1x784x512, .f32⟩
  | 85 => ⟨S1x784x512, .f32⟩
  | 86 => ⟨S_, .f32⟩
  | 87 => ⟨S1x784x512, .f32⟩
  | 88 => ⟨S1x784x512, .f32⟩
  | 89 => ⟨S1x512x784, .f32⟩
  | 90 => ⟨S1x512x28x28, .f32⟩
  | _ => ⟨S1x3x224x224, .f32⟩

abbrev hbmTy (i : Nat) : BufTy := match i / 128 with
  | 0 => hbmTy0_0 i
  | 1 => hbmTy0_1 i
  | 2 => hbmTy0_2 i
  | 3 => hbmTy0_3 i
  | _ => ⟨S1x3x224x224, .f32⟩

abbrev bufTy : (tb : Table) → Fin (tcTables nBuf tb) → BufTy
  | .hbm, ⟨i, _⟩ => hbmTy i
  | _, _ => ⟨S1x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_call0_v0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst : Ref sig .tc := ⟨.hbm, 81, rfl⟩
abbrev main_v57 : Ref sig .tc := ⟨.hbm, 82, rfl⟩
abbrev main_v58 : Ref sig .tc := ⟨.hbm, 83, rfl⟩
abbrev main_c_0 : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_1 : Ref sig .tc := ⟨.hbm, 143, rfl⟩
abbrev main_v116 : Ref sig .tc := ⟨.hbm, 144, rfl⟩
abbrev main_v117 : Ref sig .tc := ⟨.hbm, 145, rfl⟩
abbrev main_cst_2 : Ref sig .tc := ⟨.hbm, 146, rfl⟩
abbrev main_v118 : Ref sig .tc := ⟨.hbm, 147, rfl⟩
abbrev main_v119 : Ref sig .tc := ⟨.hbm, 148, rfl⟩
abbrev main_c_3 : Ref sig .tc := ⟨.hbm, 149, rfl⟩
abbrev main_call2_v0 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_cst_4 : Ref sig .tc := ⟨.hbm, 208, rfl⟩
abbrev main_v177 : Ref sig .tc := ⟨.hbm, 209, rfl⟩
abbrev main_v178 : Ref sig .tc := ⟨.hbm, 210, rfl⟩
abbrev main_c_5 : Ref sig .tc := ⟨.hbm, 211, rfl⟩
abbrev main_call3_v0 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_cst_6 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_c_7 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_c_8 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_c_9 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_call4_v0 : Ref sig .tc := ⟨.hbm, 303, rfl⟩
abbrev main_v265 : Ref sig .tc := ⟨.hbm, 304, rfl⟩
abbrev main_cst_10 : Ref sig .tc := ⟨.hbm, 305, rfl⟩
abbrev main_v266 : Ref sig .tc := ⟨.hbm, 306, rfl⟩
abbrev main_v267 : Ref sig .tc := ⟨.hbm, 307, rfl⟩
abbrev main_c_11 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_c_12 : Ref sig .tc := ⟨.hbm, 317, rfl⟩
abbrev main_v276 : Ref sig .tc := ⟨.hbm, 318, rfl⟩
abbrev main_v277 : Ref sig .tc := ⟨.hbm, 319, rfl⟩
abbrev main_c_13 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_c_14 : Ref sig .tc := ⟨.hbm, 329, rfl⟩
abbrev main_v286 : Ref sig .tc := ⟨.hbm, 330, rfl⟩
abbrev main_v287 : Ref sig .tc := ⟨.hbm, 331, rfl⟩
abbrev main_c_15 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_c_16 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_call5_v0 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_cst_17 : Ref sig .tc := ⟨.hbm, 351, rfl⟩
abbrev main_v304 : Ref sig .tc := ⟨.hbm, 352, rfl⟩
abbrev main_v305 : Ref sig .tc := ⟨.hbm, 353, rfl⟩
abbrev main_call6_v0 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_cst_18 : Ref sig .tc := ⟨.hbm, 361, rfl⟩
abbrev main_v312 : Ref sig .tc := ⟨.hbm, 362, rfl⟩
abbrev main_v313 : Ref sig .tc := ⟨.hbm, 363, rfl⟩
abbrev main_call7_v0 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_cst_19 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_c_20 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_v329 : Ref sig .tc := ⟨.hbm, 382, rfl⟩
abbrev main_v330 : Ref sig .tc := ⟨.hbm, 383, rfl⟩
abbrev main_v331 : Ref sig .tc := ⟨.hbm, 384, rfl⟩
abbrev main_v332 : Ref sig .tc := ⟨.hbm, 385, rfl⟩
abbrev main_c_21 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_v338 : Ref sig .tc := ⟨.hbm, 392, rfl⟩
abbrev main_v339 : Ref sig .tc := ⟨.hbm, 393, rfl⟩
abbrev main_c_22 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_v344 : Ref sig .tc := ⟨.hbm, 399, rfl⟩
abbrev main_v345 : Ref sig .tc := ⟨.hbm, 400, rfl⟩
abbrev main_v346 : Ref sig .tc := ⟨.hbm, 401, rfl⟩
abbrev main_call8_v0 : Ref sig .tc := ⟨.hbm, 402, rfl⟩
abbrev main_v347 : Ref sig .tc := ⟨.hbm, 403, rfl⟩
abbrev main_cst_23 : Ref sig .tc := ⟨.hbm, 404, rfl⟩
abbrev main_v348 : Ref sig .tc := ⟨.hbm, 405, rfl⟩
abbrev main_v349 : Ref sig .tc := ⟨.hbm, 406, rfl⟩
abbrev main_c_24 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_v357 : Ref sig .tc := ⟨.hbm, 415, rfl⟩
abbrev main_c_25 : Ref sig .tc := ⟨.hbm, 416, rfl⟩
abbrev main_v358 : Ref sig .tc := ⟨.hbm, 417, rfl⟩
abbrev main_v359 : Ref sig .tc := ⟨.hbm, 418, rfl⟩
abbrev main_c_26 : Ref sig .tc := ⟨.hbm, 419, rfl⟩
abbrev main_v360 : Ref sig .tc := ⟨.hbm, 420, rfl⟩
abbrev main_v361 : Ref sig .tc := ⟨.hbm, 421, rfl⟩
abbrev main_v362 : Ref sig .tc := ⟨.hbm, 422, rfl⟩
abbrev main_v363 : Ref sig .tc := ⟨.hbm, 423, rfl⟩
abbrev main_v364 : Ref sig .tc := ⟨.hbm, 424, rfl⟩
abbrev main_v365 : Ref sig .tc := ⟨.hbm, 425, rfl⟩
abbrev main_v366 : Ref sig .tc := ⟨.hbm, 426, rfl⟩
abbrev main_v367 : Ref sig .tc := ⟨.hbm, 427, rfl⟩
abbrev main_c_27 : Ref sig .tc := ⟨.hbm, 428, rfl⟩
abbrev main_v368 : Ref sig .tc := ⟨.hbm, 429, rfl⟩
abbrev main_v369 : Ref sig .tc := ⟨.hbm, 430, rfl⟩
abbrev main_c_28 : Ref sig .tc := ⟨.hbm, 431, rfl⟩
abbrev main_v370 : Ref sig .tc := ⟨.hbm, 432, rfl⟩
abbrev main_v371 : Ref sig .tc := ⟨.hbm, 433, rfl⟩
abbrev main_v372 : Ref sig .tc := ⟨.hbm, 434, rfl⟩
abbrev main_c_29 : Ref sig .tc := ⟨.hbm, 435, rfl⟩
abbrev main_v373 : Ref sig .tc := ⟨.hbm, 436, rfl⟩
abbrev main_v374 : Ref sig .tc := ⟨.hbm, 437, rfl⟩
abbrev main_v375 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_call9_v0 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_cst_30 : Ref sig .tc := ⟨.hbm, 450, rfl⟩
abbrev main_v386 : Ref sig .tc := ⟨.hbm, 451, rfl⟩
abbrev main_v387 : Ref sig .tc := ⟨.hbm, 452, rfl⟩
abbrev main_call10_v0 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_v392 : Ref sig .tc := ⟨.hbm, 458, rfl⟩
abbrev main_v393 : Ref sig .tc := ⟨.hbm, 459, rfl⟩
abbrev main_cst_31 : Ref sig .tc := ⟨.hbm, 460, rfl⟩
abbrev main_v394 : Ref sig .tc := ⟨.hbm, 461, rfl⟩
abbrev main_v395 : Ref sig .tc := ⟨.hbm, 462, rfl⟩
abbrev main_call11_v0 : Ref sig .tc := ⟨.hbm, 463, rfl⟩
abbrev main_v396 : Ref sig .tc := ⟨.hbm, 464, rfl⟩
abbrev main_v397 : Ref sig .tc := ⟨.hbm, 465, rfl⟩
abbrev main_v398 : Ref sig .tc := ⟨.hbm, 466, rfl⟩
abbrev main_v399 : Ref sig .tc := ⟨.hbm, 467, rfl⟩
abbrev main_v400 : Ref sig .tc := ⟨.hbm, 468, rfl⟩
abbrev main_v401 : Ref sig .tc := ⟨.hbm, 469, rfl⟩
abbrev main_cst_32 : Ref sig .tc := ⟨.hbm, 470, rfl⟩
abbrev main_v402 : Ref sig .tc := ⟨.hbm, 471, rfl⟩
abbrev main_v403 : Ref sig .tc := ⟨.hbm, 472, rfl⟩
abbrev main_v404 : Ref sig .tc := ⟨.hbm, 473, rfl⟩
abbrev main_v405 : Ref sig .tc := ⟨.hbm, 474, rfl⟩

abbrev nD : Nat := 1
abbrev τ : Topo := Topo.v7x

variable {F : FTy → Type} [FloatOps F]
-- ==== Proof.Base.lean ====
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: one copy of the pipeline library's algebra for the launch theorem, one for the
    regions' own accounts, beside the counters the transfers' invariants take their tokens from. -/
abbrev UU : Type := IProdConst (Fin 2) (UR sig nD τ) × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Proof.K

end
-- ==== Proof.Run0.lean ====
module

public import proofs.«01_k».proof.Proof.Base

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own semaphore: its scratch DMA semaphore. -/
abbrev osem0 : Fin 1 → SemLoc sig := fun _ => .dma 5

set_option maxRecDepth 65536 in
set_option maxHeartbeats 4000000 in
/-- What the body of custom call 0 leaves in its result's staging buffer, from the contents of its operands and what its scratch
    buffers happened to hold, with the proof that from all these held whole the body runs to its return. -/
noncomputable def run0 (c : Dev nD)
    (M0 : Memref sig .tc .hbm S57856x9 .bf16) (h0 : M0.IsWhole)
    (M1 : Memref sig .tc .vmem S3x9x64 .bf16) (h1 : M1.IsWhole)
    (M2 : Memref sig .tc .vmem S1x64 .f32) (h2 : M2.IsWhole)
    (M3 : Memref sig .tc .vmem S9x64x64 .bf16) (h3 : M3.IsWhole)
    (M4 : Memref sig .tc .vmem S1x64 .f32) (h4 : M4.IsWhole)
    (M5 : Memref sig .tc .vmem S57344x64 .bf16) (h5 : M5.IsWhole)
    (M6 : Memref sig .tc .vmem S57888x64 .bf16) (h6 : M6.IsWhole)
    (M7 : Memref sig .tc .vmem S7680x9 .bf16) (h7 : M7.IsWhole)
    (f0 : Bf (F := F) c M0) (f1 : Bf (F := F) c M1) (f2 : Bf (F := F) c M2) (f3 : Bf (F := F) c M3) (f4 : Bf (F := F) c M4) (f6 : Bf (F := F) c M6) (f7 : Bf (F := F) c M7) :
    { W : Bf (F := F) c M5 // ∀ (f5 : Bf (F := F) c M5) (Wt : Waits sig Unit) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ semVal ((c : Thread nD τ), osem0 0) 0 ∗ owes (c : Thread nD τ) 0 Wt
          ∗ (iprop(pt c M0 f0 ∗ pt c M1 f1 ∗ pt c M2 f2 ∗ pt c M3 f3 ∗ pt c M4 f4 ∗ pt c M5 W ∗ (∃ g, pt c M6 g) ∗ (∃ g, pt c M7 g) ∗ semVal ((c : Thread nD τ), osem0 0) 0 ∗ ∃ Wt, owes (c : Thread nD τ) 0 Wt) -∗ Q ⟨⟩))
          ⊢ wp frame (wpE (defs₀ (F := F)) Variants.none c none) Set.univ
              (cc0__groupA_body M0 h0 M1 h1 M2 h2 M3 h3 M4 h4 M5 h5 M6 h6 M7 h7 cc0_scratch2) Q } := by
  refine ⟨?_, fun f5 Wt Q => ?run⟩
  case run =>
    iintro ⟨H0, H1, H2, H3, H4, H5, H6, H7, Hd, HO, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hd]; · iexact Hd
    iexists _; iexact HO

end Cert.Proof.K

end
-- ==== Proof.Run1.lean ====
module

public import proofs.«01_k».proof.Proof.Base

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
set_option maxHeartbeats 4000000 in
/-- What the body of custom call 1 leaves in its result's staging buffer, from the contents of its operands and what its scratch
    buffers happened to hold, with the proof that from all these held whole the body runs to its return. -/
noncomputable def run1 (c : Dev nD)
    (M0 : Memref sig .tc .vmem S14336x256 .bf16) (h0 : M0.IsWhole)
    (M1 : Memref sig .tc .vmem S9x64x128 .bf16) (h1 : M1.IsWhole)
    (M2 : Memref sig .tc .vmem S1x128 .f32) (h2 : M2.IsWhole)
    (M3 : Memref sig .tc .vmem S9x128x128 .bf16) (h3 : M3.IsWhole)
    (M4 : Memref sig .tc .vmem S1x128 .f32) (h4 : M4.IsWhole)
    (M5 : Memref sig .tc .vmem S14336x128 .bf16) (h5 : M5.IsWhole)
    (M6 : Memref sig .tc .vmem S14624x64 .bf16) (h6 : M6.IsWhole)
    (M7 : Memref sig .tc .vmem S14624x128 .bf16) (h7 : M7.IsWhole)
    (f0 : Bf (F := F) c M0) (f1 : Bf (F := F) c M1) (f2 : Bf (F := F) c M2) (f3 : Bf (F := F) c M3) (f4 : Bf (F := F) c M4) (f6 : Bf (F := F) c M6) (f7 : Bf (F := F) c M7) :
    { W : Bf (F := F) c M5 // ∀ (f5 : Bf (F := F) c M5) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ (iprop(pt c M0 f0 ∗ pt c M1 f1 ∗ pt c M2 f2 ∗ pt c M3 f3 ∗ pt c M4 f4 ∗ pt c M5 W ∗ (∃ g, pt c M6 g) ∗ (∃ g, pt c M7 g)) -∗ Q ⟨⟩))
          ⊢ wp frame (wpE (defs₀ (F := F)) Variants.none c none) E
              (cc1__group_body M0 h0 M1 h1 M2 h2 M3 h3 M4 h4 M5 h5 M6 h6 M7 h7) Q } := by
  refine ⟨?_, fun f5 E Q => ?run⟩
  case run =>
    iintro ⟨H0, H1, H2, H3, H4, H5, H6, H7, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

end Cert.Proof.K

end
-- ==== Proof.Run2.lean ====
module

public import proofs.«01_k».proof.Proof.Base

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
set_option maxHeartbeats 4000000 in
/-- What the body of custom call 2 leaves in its result's staging buffer, from the contents of its operands and what its scratch
    buffers happened to hold, with the proof that from all these held whole the body runs to its return. -/
noncomputable def run2 (c : Dev nD)
    (M0 : Memref sig .tc .vmem S3584x512 .bf16) (h0 : M0.IsWhole)
    (M1 : Memref sig .tc .vmem S9x128x256 .bf16) (h1 : M1.IsWhole)
    (M2 : Memref sig .tc .vmem S1x256 .f32) (h2 : M2.IsWhole)
    (M3 : Memref sig .tc .vmem S9x256x256 .bf16) (h3 : M3.IsWhole)
    (M4 : Memref sig .tc .vmem S1x256 .f32) (h4 : M4.IsWhole)
    (M5 : Memref sig .tc .vmem S9x256x256 .bf16) (h5 : M5.IsWhole)
    (M6 : Memref sig .tc .vmem S1x256 .f32) (h6 : M6.IsWhole)
    (M7 : Memref sig .tc .vmem S3584x256 .bf16) (h7 : M7.IsWhole)
    (M8 : Memref sig .tc .vmem S3744x128 .bf16) (h8 : M8.IsWhole)
    (M9 : Memref sig .tc .vmem S3744x256 .bf16) (h9 : M9.IsWhole)
    (M10 : Memref sig .tc .vmem S3744x256 .bf16) (h10 : M10.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f8 : Bf (F := F) c M8) (f9 : Bf (F := F) c M9) (f10 : Bf (F := F) c M10) :
    { W : Bf (F := F) c M7 // ∀ (f7 : Bf (F := F) c M7) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M0 f0 ∗ pt c M1 f1 ∗ pt c M2 f2 ∗ pt c M3 f3 ∗ pt c M4 f4 ∗ pt c M5 f5 ∗ pt c M6 f6 ∗ pt c M7 W ∗ (∃ g, pt c M8 g) ∗ (∃ g, pt c M9 g) ∗ (∃ g, pt c M10 g)) -∗ Q ⟨⟩))
          ⊢ wp frame (wpE (defs₀ (F := F)) Variants.none c none) E
              (cc2__group_body M0 h0 M1 h1 M2 h2 M3 h3 M4 h4 M5 h5 M6 h6 M7 h7 M8 h8 M9 h9 M10 h10) Q } := by
  refine ⟨?_, fun f7 E Q => ?run⟩
  case run =>
    iintro ⟨H0, H1, H2, H3, H4, H5, H6, H7, H8, H9, H10, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10

end Cert.Proof.K

end
-- ==== Proof.Run3.lean ====
module

public import proofs.«01_k».proof.Proof.Base

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
set_option maxHeartbeats 4000000 in
/-- What the body of custom call 3 leaves in its result's staging buffer, from the contents of its operands and what its scratch
    buffers happened to hold, with the proof that from all these held whole the body runs to its return. -/
noncomputable def run3 (c : Dev nD)
    (M0 : Memref sig .tc .vmem S896x1024 .bf16) (h0 : M0.IsWhole)
    (M1 : Memref sig .tc .vmem S9x256x512 .bf16) (h1 : M1.IsWhole)
    (M2 : Memref sig .tc .vmem S1x512 .f32) (h2 : M2.IsWhole)
    (M3 : Memref sig .tc .vmem S9x512x512 .bf16) (h3 : M3.IsWhole)
    (M4 : Memref sig .tc .vmem S1x512 .f32) (h4 : M4.IsWhole)
    (M5 : Memref sig .tc .vmem S9x512x512 .bf16) (h5 : M5.IsWhole)
    (M6 : Memref sig .tc .vmem S1x512 .f32) (h6 : M6.IsWhole)
    (M7 : Memref sig .tc .vmem S896x512 .f32) (h7 : M7.IsWhole)
    (M8 : Memref sig .tc .vmem S992x256 .bf16) (h8 : M8.IsWhole)
    (M9 : Memref sig .tc .vmem S992x512 .bf16) (h9 : M9.IsWhole)
    (M10 : Memref sig .tc .vmem S992x512 .bf16) (h10 : M10.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f8 : Bf (F := F) c M8) (f9 : Bf (F := F) c M9) (f10 : Bf (F := F) c M10) :
    { W : Bf (F := F) c M7 // ∀ (f7 : Bf (F := F) c M7) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M0 f0 ∗ pt c M1 f1 ∗ pt c M2 f2 ∗ pt c M3 f3 ∗ pt c M4 f4 ∗ pt c M5 f5 ∗ pt c M6 f6 ∗ pt c M7 W ∗ (∃ g, pt c M8 g) ∗ (∃ g, pt c M9 g) ∗ (∃ g, pt c M10 g)) -∗ Q ⟨⟩))
          ⊢ wp frame (wpE (defs₀ (F := F)) Variants.none c none) E
              (cc3__group_body M0 h0 M1 h1 M2 h2 M3 h3 M4 h4 M5 h5 M6 h6 M7 h7 M8 h8 M9 h9 M10 h10) Q } := by
  refine ⟨?_, fun f7 E Q => ?run⟩
  case run =>
    iintro ⟨H0, H1, H2, H3, H4, H5, H6, H7, H8, H9, H10, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10

end Cert.Proof.K

end
-- ==== Proof.Regs.lean ====
module

public import proofs.«01_k».proof.Proof.Base
public import proofs.«01_k».proof.Proof.Run0
public import proofs.«01_k».proof.Proof.Run1
public import proofs.«01_k».proof.Proof.Run2
public import proofs.«01_k».proof.Proof.Run3
public import proofs.«01_k».proof.Proof.Gen.KernelIdeal.Points
public import proofs.«01_k».proof.Proof.Gen.KernelIdeal.Regions

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

/-- No core owes another anything: no level is assigned. -/
abbrev L : GSem nD τ sig → Finset Unit := fun _ => ∅
abbrev lv : GSem nD τ sig → Unit → ℕ := fun _ _ => 0
abbrev 𝒱₀ : Variants := Variants.none

variable (V : Valuation τ sig (Elt F))

/-- Region 0's run at the operands staged from `V`, its scratch buffers holding what is named. -/
abbrev K0 (c : Dev nD) (f6 : Bf (F := F) c (Memref.whole cc0_scratch0)) (f7 : Bf (F := F) c (Memref.whole cc0_scratch1)) :=
  run0 (F := F) c (Memref.whole main_v14) (Memref.isWhole_whole _) (stage0_0 0) (hstage0_0 0) (stage0_1 0) (hstage0_1 0) (stage0_2 0) (hstage0_2 0) (stage0_3 0) (hstage0_3 0) (stage0_4 0) (hstage0_4 0) (Memref.whole cc0_scratch0) (Memref.isWhole_whole _) (Memref.whole cc0_scratch1) (Memref.isWhole_whole _)
    (V main_v14) (((cfg0.win 0).blk t0_0).view.read (Elt F) (V (Pipeline.arrRef spec0 0))) (((cfg0.win 1).blk t0_0).view.read (Elt F) (V (Pipeline.arrRef spec0 1))) (((cfg0.win 2).blk t0_0).view.read (Elt F) (V (Pipeline.arrRef spec0 2))) (((cfg0.win 3).blk t0_0).view.read (Elt F) (V (Pipeline.arrRef spec0 3))) f6 f7
/-- What it leaves in the result's staging buffer. -/
def res0 (c : Dev nD) (f6 : Bf (F := F) c (Memref.whole cc0_scratch0)) (f7 : Bf (F := F) c (Memref.whole cc0_scratch1)) : Bf (F := F) c (stage0_4 0) := (K0 V c f6 f7).1

/-- Region 1's run at the operands staged from `V`, its scratch buffers holding what is named. -/
abbrev K1 (c : Dev nD) (f6 : Bf (F := F) c (Memref.whole cc1_scratch0)) (f7 : Bf (F := F) c (Memref.whole cc1_scratch1)) :=
  run1 (F := F) c (stage1_0 0) (hstage1_0 0) (stage1_1 0) (hstage1_1 0) (stage1_2 0) (hstage1_2 0) (stage1_3 0) (hstage1_3 0) (stage1_4 0) (hstage1_4 0) (stage1_5 0) (hstage1_5 0) (Memref.whole cc1_scratch0) (Memref.isWhole_whole _) (Memref.whole cc1_scratch1) (Memref.isWhole_whole _)
    (((cfg1.win 0).blk t1_0).view.read (Elt F) (V (Pipeline.arrRef spec1 0))) (((cfg1.win 1).blk t1_0).view.read (Elt F) (V (Pipeline.arrRef spec1 1))) (((cfg1.win 2).blk t1_0).view.read (Elt F) (V (Pipeline.arrRef spec1 2))) (((cfg1.win 3).blk t1_0).view.read (Elt F) (V (Pipeline.arrRef spec1 3))) (((cfg1.win 4).blk t1_0).view.read (Elt F) (V (Pipeline.arrRef spec1 4))) f6 f7
/-- What it leaves in the result's staging buffer. -/
def res1 (c : Dev nD) (f6 : Bf (F := F) c (Memref.whole cc1_scratch0)) (f7 : Bf (F := F) c (Memref.whole cc1_scratch1)) : Bf (F := F) c (stage1_5 0) := (K1 V c f6 f7).1

/-- Region 2's run at the operands staged from `V`, its scratch buffers holding what is named. -/
abbrev K2 (c : Dev nD) (f8 : Bf (F := F) c (Memref.whole cc2_scratch0)) (f9 : Bf (F := F) c (Memref.whole cc2_scratch1)) (f10 : Bf (F := F) c (Memref.whole cc2_scratch2)) :=
  run2 (F := F) c (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0) (Memref.whole cc2_scratch0) (Memref.isWhole_whole _) (Memref.whole cc2_scratch1) (Memref.isWhole_whole _) (Memref.whole cc2_scratch2) (Memref.isWhole_whole _)
    (((cfg2.win 0).blk t2_0).view.read (Elt F) (V (Pipeline.arrRef spec2 0))) (((cfg2.win 1).blk t2_0).view.read (Elt F) (V (Pipeline.arrRef spec2 1))) (((cfg2.win 2).blk t2_0).view.read (Elt F) (V (Pipeline.arrRef spec2 2))) (((cfg2.win 3).blk t2_0).view.read (Elt F) (V (Pipeline.arrRef spec2 3))) (((cfg2.win 4).blk t2_0).view.read (Elt F) (V (Pipeline.arrRef spec2 4))) (((cfg2.win 5).blk t2_0).view.read (Elt F) (V (Pipeline.arrRef spec2 5))) (((cfg2.win 6).blk t2_0).view.read (Elt F) (V (Pipeline.arrRef spec2 6))) f8 f9 f10
/-- What it leaves in the result's staging buffer. -/
def res2 (c : Dev nD) (f8 : Bf (F := F) c (Memref.whole cc2_scratch0)) (f9 : Bf (F := F) c (Memref.whole cc2_scratch1)) (f10 : Bf (F := F) c (Memref.whole cc2_scratch2)) : Bf (F := F) c (stage2_7 0) := (K2 V c f8 f9 f10).1

/-- Region 3's run at the operands staged from `V`, its scratch buffers holding what is named. -/
abbrev K3 (c : Dev nD) (f8 : Bf (F := F) c (Memref.whole cc3_scratch0)) (f9 : Bf (F := F) c (Memref.whole cc3_scratch1)) (f10 : Bf (F := F) c (Memref.whole cc3_scratch2)) :=
  run3 (F := F) c (stage3_0 0) (hstage3_0 0) (stage3_1 0) (hstage3_1 0) (stage3_2 0) (hstage3_2 0) (stage3_3 0) (hstage3_3 0) (stage3_4 0) (hstage3_4 0) (stage3_5 0) (hstage3_5 0) (stage3_6 0) (hstage3_6 0) (stage3_7 0) (hstage3_7 0) (Memref.whole cc3_scratch0) (Memref.isWhole_whole _) (Memref.whole cc3_scratch1) (Memref.isWhole_whole _) (Memref.whole cc3_scratch2) (Memref.isWhole_whole _)
    (((cfg3.win 0).blk t3_0).view.read (Elt F) (V (Pipeline.arrRef spec3 0))) (((cfg3.win 1).blk t3_0).view.read (Elt F) (V (Pipeline.arrRef spec3 1))) (((cfg3.win 2).blk t3_0).view.read (Elt F) (V (Pipeline.arrRef spec3 2))) (((cfg3.win 3).blk t3_0).view.read (Elt F) (V (Pipeline.arrRef spec3 3))) (((cfg3.win 4).blk t3_0).view.read (Elt F) (V (Pipeline.arrRef spec3 4))) (((cfg3.win 5).blk t3_0).view.read (Elt F) (V (Pipeline.arrRef spec3 5))) (((cfg3.win 6).blk t3_0).view.read (Elt F) (V (Pipeline.arrRef spec3 6))) f8 f9 f10
/-- What it leaves in the result's staging buffer. -/
def res3 (c : Dev nD) (f8 : Bf (F := F) c (Memref.whole cc3_scratch0)) (f9 : Bf (F := F) c (Memref.whole cc3_scratch1)) (f10 : Bf (F := F) c (Memref.whole cc3_scratch2)) : Bf (F := F) c (stage3_7 0) := (K3 V c f8 f9 f10).1

/-- What region `p` may leave in its windows' staging buffers when it is entered at valuation `V`: an output's is the body's
    result at some contents of the scratch buffers. -/
def Left : (p : Fin 4) → (c : Dev nD) → (w : Fin (cfgs p).W) → (((cfgs p).win w).block.Idx → Elt F ((cfgs p).win w).elt) → Prop
  | ⟨0, _⟩ => fun c w => match w with
    | ⟨4, _⟩ => fun X => ∃ f6 f7, X = res0 V c f6 f7
    | _ => fun _ => True
  | ⟨1, _⟩ => fun c w => match w with
    | ⟨5, _⟩ => fun X => ∃ f6 f7, X = res1 V c f6 f7
    | _ => fun _ => True
  | ⟨2, _⟩ => fun c w => match w with
    | ⟨7, _⟩ => fun X => ∃ f8 f9 f10, X = res2 V c f8 f9 f10
    | _ => fun _ => True
  | ⟨3, _⟩ => fun c w => match w with
    | ⟨7, _⟩ => fun X => ∃ f8 f9 f10, X = res3 V c f8 f9 f10
    | _ => fun _ => True

/-- The invariant between a region's ends: the scoped buffers it does not stage; for region 0 also the operand left in
    HBM, unchanged, and the body's semaphore at zero. -/
def Inv : (p : Fin 4) → (c : Dev nD) → sProp 𝕄
  | ⟨0, _⟩ => fun c => iprop(pt c (Memref.whole main_v14) (V main_v14) ∗ semVal ((c : Thread nD τ), osem0 0) 0
      ∗ Pipeline.scopedRest (Ix := Unit) (Name := ℕ) (U := UU) (Lvl := ℕ) (Val := Elt F) spec0 c)
  | ⟨1, _⟩ => fun c => Pipeline.scopedRest (Ix := Unit) (Name := ℕ) (U := UU) (Lvl := ℕ) (Val := Elt F) spec1 c
  | ⟨2, _⟩ => fun c => Pipeline.scopedRest (Ix := Unit) (Name := ℕ) (U := UU) (Lvl := ℕ) (Val := Elt F) spec2 c
  | ⟨3, _⟩ => fun c => Pipeline.scopedRest (Ix := Unit) (Name := ℕ) (U := UU) (Lvl := ℕ) (Val := Elt F) spec3 c

/-- The proof data of the four regions, each entered at `V`: inputs stay as fetched, an output is left as `Left` says. -/
def rdats (p : Fin 4) (c : Dev nD) : RDat τ (Elt F) Unit ℕ UU ℕ (Pipeline.pin (pcfgs (F := F)) adm p) c where
  A w := V (Pipeline.arrRef (pcfgs (F := F) p).spec w)
  after w _ Y X := if ((cfgs p).win w).isOut then Left V p c w X else X = Y
  Φ _ := Inv V p c
  q _ := fullShare
  owed _ := 0

end Cert.Proof.K

end
-- ==== Proof.Bodies.lean ====
module

public import proofs.«01_k».proof.Proof.Regs

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (V : Valuation τ sig (Elt F))

/-- What the body of region 0 finds in an input's staging buffer: the array's block. -/
theorem finds0 (c : Dev nD) (w : Fin cfg0.W) (hw : (cfg0.win w).fetch t0_0 = true) (Y : (cfg0.win w).block.Idx → Elt F (cfg0.win w).elt)
    (hY : RDat.Finds (cfg := cfg0) (rdats V 0 c) w t0_0 Y) : ∃ d, Y = RDat.fetched (cfg := cfg0) (rdats V 0 c) w t0_0 d :=
  (RDat.finds_of_fetch (cfg := cfg0) (rdats V 0 c) hw Y).mp hY

set_option maxHeartbeats 1000000 in
/-- The body of region 0 meets the proof data. -/
theorem body_obligation0 (c : Dev nD) : RDat.BodyObligation (cfg := cfg0) (rdats V 0 c) (defs₀ (F := F)) 𝒱₀ () Set.univ := fun t Y hY => by
  obtain rfl := fin_N0 t
  have e0 : Y 0 = ((cfg0.win 0).blk t0_0).view.read (Elt F) (V (Pipeline.arrRef spec0 0)) := by
    obtain ⟨d, hd⟩ := finds0 V c 0 (fetch0_0 _) (Y 0) (hY 0); rw [hd]; rfl
  have e1 : Y 1 = ((cfg0.win 1).blk t0_0).view.read (Elt F) (V (Pipeline.arrRef spec0 1)) := by
    obtain ⟨d, hd⟩ := finds0 V c 1 (fetch0_1 _) (Y 1) (hY 1); rw [hd]; rfl
  have e2 : Y 2 = ((cfg0.win 2).blk t0_0).view.read (Elt F) (V (Pipeline.arrRef spec0 2)) := by
    obtain ⟨d, hd⟩ := finds0 V c 2 (fetch0_2 _) (Y 2) (hY 2); rw [hd]; rfl
  have e3 : Y 3 = ((cfg0.win 3).blk t0_0).view.read (Elt F) (V (Pipeline.arrRef spec0 3)) := by
    obtain ⟨d, hd⟩ := finds0 V c 3 (fetch0_3 _) (Y 3) (hY 3); rw [hd]; rfl
  rw [bigSep_W0, bigSep_W0]
  simp only [owns_whole_eq]
  rw [show (rdats V 0 c).Φ t0_0.castSucc = Inv V 0 c from rfl, show (rdats V 0 c).Φ t0_0.succ = Inv V 0 c from rfl,
    show (rdats V 0 c).owesAt () t0_0.succ = (rdats V 0 c).owesAt () t0_0.castSucc from rfl]
  rw [show Inv V 0 c = iprop(pt c (Memref.whole main_v14) (V main_v14) ∗ semVal ((c : Thread nD τ), osem0 0) 0
      ∗ Pipeline.scopedRest (Ix := Unit) (Name := ℕ) (U := UU) (Lvl := ℕ) (Val := Elt F) spec0 c) from rfl, scopedRest0_split]
  iintro ⟨⟨Hv, Hd, ⟨⟨%f6, S6⟩, ⟨%f7, S7⟩⟩, Hr⟩, ⟨%Wt, %hW, HO⟩, ⟨%g0, %hg0, H0⟩, ⟨%g1, %hg1, H1⟩, ⟨%g2, %hg2, H2⟩, ⟨%g3, %hg3, H3⟩, ⟨%g4, %hg4, H4⟩⟩
  rw [e0] at hg0; subst hg0
  rw [e1] at hg1; subst hg1
  rw [e2] at hg2; subst hg2
  rw [e3] at hg3; subst hg3
  iapply ((K0 V c f6 f7).2 g4 Wt _)
  isplitl [Hv]; · iexact Hv
  isplitl [H0]; · iexact H0
  isplitl [H1]; · iexact H1
  isplitl [H2]; · iexact H2
  isplitl [H3]; · iexact H3
  isplitl [H4]; · iexact H4
  isplitl [S6]; · iexact S6
  isplitl [S7]; · iexact S7
  isplitl [Hd]; · iexact Hd
  isplitl [HO]; · iexact HO
  iintro ⟨Hv, H0, H1, H2, H3, H4, S6, S7, Hd, ⟨%Wt', HO⟩⟩
  isplitl [Hv Hd S6 S7 Hr]
  · isplitl [Hv]; · iexact Hv
    isplitl [Hd]; · iexact Hd
    isplitr [Hr]; swap; · iexact Hr
    isplitl [S6]; · iexact S6
    iexact S7
  isplitl [HO]
  · iexists Wt'; isplitr; · ipureintro; exact fun _ _ => Or.inl trivial
    iexact HO
  isplitl [H0]; · iexists _; isplitr; swap; (· iexists _; isplitr; swap; (· iexact H0); ipureintro; rfl); ipureintro; exact e0.symm
  isplitl [H1]; · iexists _; isplitr; swap; (· iexists _; isplitr; swap; (· iexact H1); ipureintro; rfl); ipureintro; exact e1.symm
  isplitl [H2]; · iexists _; isplitr; swap; (· iexists _; isplitr; swap; (· iexact H2); ipureintro; rfl); ipureintro; exact e2.symm
  isplitl [H3]; · iexists _; isplitr; swap; (· iexists _; isplitr; swap; (· iexact H3); ipureintro; rfl); ipureintro; exact e3.symm
  iexists _; isplitr; swap; (· iexists _; isplitr; swap; (· iexact H4); ipureintro; rfl); ipureintro
  exact ⟨f6, f7, rfl⟩

/-- What the body of region 1 finds in an input's staging buffer: the array's block. -/
theorem finds1 (c : Dev nD) (w : Fin cfg1.W) (hw : (cfg1.win w).fetch t1_0 = true) (Y : (cfg1.win w).block.Idx → Elt F (cfg1.win w).elt)
    (hY : RDat.Finds (cfg := cfg1) (rdats V 1 c) w t1_0 Y) : ∃ d, Y = RDat.fetched (cfg := cfg1) (rdats V 1 c) w t1_0 d :=
  (RDat.finds_of_fetch (cfg := cfg1) (rdats V 1 c) hw Y).mp hY

set_option maxHeartbeats 1000000 in
/-- The body of region 1 meets the proof data. -/
theorem body_obligation1 (c : Dev nD) : RDat.BodyObligation (cfg := cfg1) (rdats V 1 c) (defs₀ (F := F)) 𝒱₀ () Set.univ := fun t Y hY => by
  obtain rfl := fin_N1 t
  have e0 : Y 0 = ((cfg1.win 0).blk t1_0).view.read (Elt F) (V (Pipeline.arrRef spec1 0)) := by
    obtain ⟨d, hd⟩ := finds1 V c 0 (fetch1_0 _) (Y 0) (hY 0); rw [hd]; rfl
  have e1 : Y 1 = ((cfg1.win 1).blk t1_0).view.read (Elt F) (V (Pipeline.arrRef spec1 1)) := by
    obtain ⟨d, hd⟩ := finds1 V c 1 (fetch1_1 _) (Y 1) (hY 1); rw [hd]; rfl
  have e2 : Y 2 = ((cfg1.win 2).blk t1_0).view.read (Elt F) (V (Pipeline.arrRef spec1 2)) := by
    obtain ⟨d, hd⟩ := finds1 V c 2 (fetch1_2 _) (Y 2) (hY 2); rw [hd]; rfl
  have e3 : Y 3 = ((cfg1.win 3).blk t1_0).view.read (Elt F) (V (Pipeline.arrRef spec1 3)) := by
    obtain ⟨d, hd⟩ := finds1 V c 3 (fetch1_3 _) (Y 3) (hY 3); rw [hd]; rfl
  have e4 : Y 4 = ((cfg1.win 4).blk t1_0).view.read (Elt F) (V (Pipeline.arrRef spec1 4)) := by
    obtain ⟨d, hd⟩ := finds1 V c 4 (fetch1_4 _) (Y 4) (hY 4); rw [hd]; rfl
  rw [bigSep_W1, bigSep_W1]
  simp only [owns_whole_eq]
  rw [show (rdats V 1 c).Φ t1_0.castSucc = Inv V 1 c from rfl, show (rdats V 1 c).Φ t1_0.succ = Inv V 1 c from rfl,
    show (rdats V 1 c).owesAt () t1_0.succ = (rdats V 1 c).owesAt () t1_0.castSucc from rfl]
  rw [show Inv V 1 c = Pipeline.scopedRest (Ix := Unit) (Name := ℕ) (U := UU) (Lvl := ℕ) (Val := Elt F) spec1 c from rfl, scopedRest1_split]
  iintro ⟨⟨⟨⟨%f6, S6⟩, ⟨%f7, S7⟩⟩, Hr⟩, Howes, ⟨%g0, %hg0, H0⟩, ⟨%g1, %hg1, H1⟩, ⟨%g2, %hg2, H2⟩, ⟨%g3, %hg3, H3⟩, ⟨%g4, %hg4, H4⟩, ⟨%g5, %hg5, H5⟩⟩
  rw [e0] at hg0; subst hg0
  rw [e1] at hg1; subst hg1
  rw [e2] at hg2; subst hg2
  rw [e3] at hg3; subst hg3
  rw [e4] at hg4; subst hg4
  iapply ((K1 V c f6 f7).2 g5 Set.univ _)
  isplitl [H0]; · iexact H0
  isplitl [H1]; · iexact H1
  isplitl [H2]; · iexact H2
  isplitl [H3]; · iexact H3
  isplitl [H4]; · iexact H4
  isplitl [H5]; · iexact H5
  isplitl [S6]; · iexact S6
  isplitl [S7]; · iexact S7
  iintro ⟨H0, H1, H2, H3, H4, H5, S6, S7⟩
  isplitl [S6 S7 Hr]
  · isplitr [Hr]; swap; · iexact Hr
    isplitl [S6]; · iexact S6
    iexact S7
  isplitl [Howes]; · iexact Howes
  isplitl [H0]; · iexists _; isplitr; swap; (· iexists _; isplitr; swap; (· iexact H0); ipureintro; rfl); ipureintro; exact e0.symm
  isplitl [H1]; · iexists _; isplitr; swap; (· iexists _; isplitr; swap; (· iexact H1); ipureintro; rfl); ipureintro; exact e1.symm
  isplitl [H2]; · iexists _; isplitr; swap; (· iexists _; isplitr; swap; (· iexact H2); ipureintro; rfl); ipureintro; exact e2.symm
  isplitl [H3]; · iexists _; isplitr; swap; (· iexists _; isplitr; swap; (· iexact H3); ipureintro; rfl); ipureintro; exact e3.symm
  isplitl [H4]; · iexists _; isplitr; swap; (· iexists _; isplitr; swap; (· iexact H4); ipureintro; rfl); ipureintro; exact e4.symm
  iexists _; isplitr; swap; (· iexists _; isplitr; swap; (· iexact H5); ipureintro; rfl); ipureintro
  exact ⟨f6, f7, rfl⟩

/-- What the body of region 2 finds in an input's staging buffer: the array's block. -/
theorem finds2 (c : Dev nD) (w : Fin cfg2.W) (hw : (cfg2.win w).fetch t2_0 = true) (Y : (cfg2.win w).block.Idx → Elt F (cfg2.win w).elt)
    (hY : RDat.Finds (cfg := cfg2) (rdats V 2 c) w t2_0 Y) : ∃ d, Y = RDat.fetched (cfg := cfg2) (rdats V 2 c) w t2_0 d :=
  (RDat.finds_of_fetch (cfg := cfg2) (rdats V 2 c) hw Y).mp hY

set_option maxHeartbeats 1000000 in
/-- The body of region 2 meets the proof data. -/
theorem body_obligation2 (c : Dev nD) : RDat.BodyObligation (cfg := cfg2) (rdats V 2 c) (defs₀ (F := F)) 𝒱₀ () Set.univ := fun t Y hY => by
  obtain rfl := fin_N2 t
  have e0 : Y 0 = ((cfg2.win 0).blk t2_0).view.read (Elt F) (V (Pipeline.arrRef spec2 0)) := by
    obtain ⟨d, hd⟩ := finds2 V c 0 (fetch2_0 _) (Y 0) (hY 0); rw [hd]; rfl
  have e1 : Y 1 = ((cfg2.win 1).blk t2_0).view.read (Elt F) (V (Pipeline.arrRef spec2 1)) := by
    obtain ⟨d, hd⟩ := finds2 V c 1 (fetch2_1 _) (Y 1) (hY 1); rw [hd]; rfl
  have e2 : Y 2 = ((cfg2.win 2).blk t2_0).view.read (Elt F) (V (Pipeline.arrRef spec2 2)) := by
    obtain ⟨d, hd⟩ := finds2 V c 2 (fetch2_2 _) (Y 2) (hY 2); rw [hd]; rfl
  have e3 : Y 3 = ((cfg2.win 3).blk t2_0).view.read (Elt F) (V (Pipeline.arrRef spec2 3)) := by
    obtain ⟨d, hd⟩ := finds2 V c 3 (fetch2_3 _) (Y 3) (hY 3); rw [hd]; rfl
  have e4 : Y 4 = ((cfg2.win 4).blk t2_0).view.read (Elt F) (V (Pipeline.arrRef spec2 4)) := by
    obtain ⟨d, hd⟩ := finds2 V c 4 (fetch2_4 _) (Y 4) (hY 4); rw [hd]; rfl
  have e5 : Y 5 = ((cfg2.win 5).blk t2_0).view.read (Elt F) (V (Pipeline.arrRef spec2 5)) := by
    obtain ⟨d, hd⟩ := finds2 V c 5 (fetch2_5 _) (Y 5) (hY 5); rw [hd]; rfl
  have e6 : Y 6 = ((cfg2.win 6).blk t2_0).view.read (Elt F) (V (Pipeline.arrRef spec2 6)) := by
    obtain ⟨d, hd⟩ := finds2 V c 6 (fetch2_6 _) (Y 6) (hY 6); rw [hd]; rfl
  rw [bigSep_W2, bigSep_W2]
  simp only [owns_whole_eq]
  rw [show (rdats V 2 c).Φ t2_0.castSucc = Inv V 2 c from rfl, show (rdats V 2 c).Φ t2_0.succ = Inv V 2 c from rfl,
    show (rdats V 2 c).owesAt () t2_0.succ = (rdats V 2 c).owesAt () t2_0.castSucc from rfl]
  rw [show Inv V 2 c = Pipeline.scopedRest (Ix := Unit) (Name := ℕ) (U := UU) (Lvl := ℕ) (Val := Elt F) spec2 c from rfl, scopedRest2_split]
  iintro ⟨⟨⟨⟨%f8, S8⟩, ⟨%f9, S9⟩, ⟨%f10, S10⟩⟩, Hr⟩, Howes, ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩⟩
  rw [e0] at hg0; subst hg0
  rw [e1] at hg1; subst hg1
  rw [e2] at hg2; subst hg2
  rw [e3] at hg3; subst hg3
  rw [e4] at hg4; subst hg4
  rw [e5] at hg5; subst hg5
  rw [e6] at hg6; subst hg6
  iapply ((K2 V c f8 f9 f10).2 g7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S8]; · iexact S8
  isplitl [S9]; · iexact S9
  isplitl [S10]; · iexact S10
  iintro ⟨H0, H1, H2, H3, H4, H5, H6, H7, S8, S9, S10⟩
  isplitl [S8 S9 S10 Hr]
  · isplitr [Hr]; swap; · iexact Hr
    isplitl [S8]; · iexact S8
    isplitl [S9]; · iexact S9
    iexact S10
  isplitl [Howes]; · iexact Howes
  isplitl [H0]; · iexists _; isplitr; swap; (· iexists _; isplitr; swap; (· iexact H0); ipureintro; rfl); ipureintro; exact e0.symm
  isplitl [H1]; · iexists _; isplitr; swap; (· iexists _; isplitr; swap; (· iexact H1); ipureintro; rfl); ipureintro; exact e1.symm
  isplitl [H2]; · iexists _; isplitr; swap; (· iexists _; isplitr; swap; (· iexact H2); ipureintro; rfl); ipureintro; exact e2.symm
  isplitl [H3]; · iexists _; isplitr; swap; (· iexists _; isplitr; swap; (· iexact H3); ipureintro; rfl); ipureintro; exact e3.symm
  isplitl [H4]; · iexists _; isplitr; swap; (· iexists _; isplitr; swap; (· iexact H4); ipureintro; rfl); ipureintro; exact e4.symm
  isplitl [H5]; · iexists _; isplitr; swap; (· iexists _; isplitr; swap; (· iexact H5); ipureintro; rfl); ipureintro; exact e5.symm
  isplitl [H6]; · iexists _; isplitr; swap; (· iexists _; isplitr; swap; (· iexact H6); ipureintro; rfl); ipureintro; exact e6.symm
  iexists _; isplitr; swap; (· iexists _; isplitr; swap; (· iexact H7); ipureintro; rfl); ipureintro
  exact ⟨f8, f9, f10, rfl⟩

/-- What the body of region 3 finds in an input's staging buffer: the array's block. -/
theorem finds3 (c : Dev nD) (w : Fin cfg3.W) (hw : (cfg3.win w).fetch t3_0 = true) (Y : (cfg3.win w).block.Idx → Elt F (cfg3.win w).elt)
    (hY : RDat.Finds (cfg := cfg3) (rdats V 3 c) w t3_0 Y) : ∃ d, Y = RDat.fetched (cfg := cfg3) (rdats V 3 c) w t3_0 d :=
  (RDat.finds_of_fetch (cfg := cfg3) (rdats V 3 c) hw Y).mp hY

set_option maxHeartbeats 1000000 in
/-- The body of region 3 meets the proof data. -/
theorem body_obligation3 (c : Dev nD) : RDat.BodyObligation (cfg := cfg3) (rdats V 3 c) (defs₀ (F := F)) 𝒱₀ () Set.univ := fun t Y hY => by
  obtain rfl := fin_N3 t
  have e0 : Y 0 = ((cfg3.win 0).blk t3_0).view.read (Elt F) (V (Pipeline.arrRef spec3 0)) := by
    obtain ⟨d, hd⟩ := finds3 V c 0 (fetch3_0 _) (Y 0) (hY 0); rw [hd]; rfl
  have e1 : Y 1 = ((cfg3.win 1).blk t3_0).view.read (Elt F) (V (Pipeline.arrRef spec3 1)) := by
    obtain ⟨d, hd⟩ := finds3 V c 1 (fetch3_1 _) (Y 1) (hY 1); rw [hd]; rfl
  have e2 : Y 2 = ((cfg3.win 2).blk t3_0).view.read (Elt F) (V (Pipeline.arrRef spec3 2)) := by
    obtain ⟨d, hd⟩ := finds3 V c 2 (fetch3_2 _) (Y 2) (hY 2); rw [hd]; rfl
  have e3 : Y 3 = ((cfg3.win 3).blk t3_0).view.read (Elt F) (V (Pipeline.arrRef spec3 3)) := by
    obtain ⟨d, hd⟩ := finds3 V c 3 (fetch3_3 _) (Y 3) (hY 3); rw [hd]; rfl
  have e4 : Y 4 = ((cfg3.win 4).blk t3_0).view.read (Elt F) (V (Pipeline.arrRef spec3 4)) := by
    obtain ⟨d, hd⟩ := finds3 V c 4 (fetch3_4 _) (Y 4) (hY 4); rw [hd]; rfl
  have e5 : Y 5 = ((cfg3.win 5).blk t3_0).view.read (Elt F) (V (Pipeline.arrRef spec3 5)) := by
    obtain ⟨d, hd⟩ := finds3 V c 5 (fetch3_5 _) (Y 5) (hY 5); rw [hd]; rfl
  have e6 : Y 6 = ((cfg3.win 6).blk t3_0).view.read (Elt F) (V (Pipeline.arrRef spec3 6)) := by
    obtain ⟨d, hd⟩ := finds3 V c 6 (fetch3_6 _) (Y 6) (hY 6); rw [hd]; rfl
  rw [bigSep_W3, bigSep_W3]
  simp only [owns_whole_eq]
  rw [show (rdats V 3 c).Φ t3_0.castSucc = Inv V 3 c from rfl, show (rdats V 3 c).Φ t3_0.succ = Inv V 3 c from rfl,
    show (rdats V 3 c).owesAt () t3_0.succ = (rdats V 3 c).owesAt () t3_0.castSucc from rfl]
  rw [show Inv V 3 c = Pipeline.scopedRest (Ix := Unit) (Name := ℕ) (U := UU) (Lvl := ℕ) (Val := Elt F) spec3 c from rfl, scopedRest3_split]
  iintro ⟨⟨⟨⟨%f8, S8⟩, ⟨%f9, S9⟩, ⟨%f10, S10⟩⟩, Hr⟩, Howes, ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩⟩
  rw [e0] at hg0; subst hg0
  rw [e1] at hg1; subst hg1
  rw [e2] at hg2; subst hg2
  rw [e3] at hg3; subst hg3
  rw [e4] at hg4; subst hg4
  rw [e5] at hg5; subst hg5
  rw [e6] at hg6; subst hg6
  iapply ((K3 V c f8 f9 f10).2 g7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S8]; · iexact S8
  isplitl [S9]; · iexact S9
  isplitl [S10]; · iexact S10
  iintro ⟨H0, H1, H2, H3, H4, H5, H6, H7, S8, S9, S10⟩
  isplitl [S8 S9 S10 Hr]
  · isplitr [Hr]; swap; · iexact Hr
    isplitl [S8]; · iexact S8
    isplitl [S9]; · iexact S9
    iexact S10
  isplitl [Howes]; · iexact Howes
  isplitl [H0]; · iexists _; isplitr; swap; (· iexists _; isplitr; swap; (· iexact H0); ipureintro; rfl); ipureintro; exact e0.symm
  isplitl [H1]; · iexists _; isplitr; swap; (· iexists _; isplitr; swap; (· iexact H1); ipureintro; rfl); ipureintro; exact e1.symm
  isplitl [H2]; · iexists _; isplitr; swap; (· iexists _; isplitr; swap; (· iexact H2); ipureintro; rfl); ipureintro; exact e2.symm
  isplitl [H3]; · iexists _; isplitr; swap; (· iexists _; isplitr; swap; (· iexact H3); ipureintro; rfl); ipureintro; exact e3.symm
  isplitl [H4]; · iexists _; isplitr; swap; (· iexists _; isplitr; swap; (· iexact H4); ipureintro; rfl); ipureintro; exact e4.symm
  isplitl [H5]; · iexists _; isplitr; swap; (· iexists _; isplitr; swap; (· iexact H5); ipureintro; rfl); ipureintro; exact e5.symm
  isplitl [H6]; · iexists _; isplitr; swap; (· iexists _; isplitr; swap; (· iexact H6); ipureintro; rfl); ipureintro; exact e6.symm
  iexists _; isplitr; swap; (· iexists _; isplitr; swap; (· iexact H7); ipureintro; rfl); ipureintro
  exact ⟨f8, f9, f10, rfl⟩

end Cert.Proof.K

end
-- ==== Proof.Region.lean ====
module

public import proofs.«01_k».proof.Proof.Bodies
public import Idealize.ShloMosaic.Lib.Pipeline.RegionsOwned

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (V : Valuation τ sig (Elt F))

/-- What region `p` makes of valuation `V` on core `c`, `o` its output window: the output's array at some contents it may hold
    after the write-back, every other buffer as it was. -/
def Next (p : Fin 4) (o : Fin (pcfgs (F := F) p).W) (c : Dev nD) (V' : Valuation τ sig (Elt F)) : Prop :=
  ∃ G : Buf (Elt F) ((c : Thread nD τ).loc (Pipeline.arrRef (pcfgs (F := F) p).spec o)),
    (rdats V p c).ArrAt o (Pipeline.pin (pcfgs (F := F)) adm p).N G
      ∧ V' = Function.update V (Pipeline.arrRef (pcfgs (F := F) p).spec o) G

theorem share_full (p : Fin 4) (c : Dev nD) (w : Fin (pcfgs (F := F) p).W) : (rdats V p c).share w = fullShare := by
  unfold RDat.share; split <;> rfl

/-- The same data as exact data: only the arrays' ownership is read off it. -/
def junk (p : Fin 4) (c : Dev nD) : Pipeline.Dat τ (Elt F) Unit ℕ UU ℕ (Pipeline.pin (pcfgs (F := F)) adm p) c where
  A w := V (Pipeline.arrRef (pcfgs (F := F) p).spec w)
  after _ _ := fun _ => Classical.arbitrary _
  Φ _ := BI.emp
  q _ := fullShare
  owed _ := 0

set_option backward.isDefEq.respectTransparency.types false in
/-- After region `p` its arrays and the buffers it left alone are every unscoped buffer at some valuation it may make of `V`. -/
theorem arrays_join (p : Fin 4) (o : Fin (pcfgs (F := F) p).W) (hw : Pipeline.WinFacts (Pipeline.pin (pcfgs (F := F)) adm p).spec)
    (harr : ∀ w, ((Pipeline.pin (pcfgs (F := F)) adm p).spec w).arr.IsWhole)
    (ho : ∀ w, w ≠ o → ((Pipeline.pin (pcfgs (F := F)) adm p).win w).isOut = false) (c : Dev nD) :
    iprop((rdats V p c).arraysAt (Pipeline.pin (pcfgs (F := F)) adm p).N ∗ Pipeline.unscopedRest (pcfgs (F := F) p).spec c (fun b => V b))
      ⊢ (iprop(∃ V' : Valuation τ sig (Elt F), ⌜Next V p o c V'⌝ ∗ unscopedBufs c (fun b => V' b)) : sProp 𝕄) := by
  classical
  have hE : ∀ Φ : Fin (pcfgs (F := F) p).W → sProp 𝕄, iprop(Φ o ∗ bigSep (Finset.univ.erase o) Φ) ⊢ bigSep Finset.univ Φ :=
    fun Φ => by rw [bigSep_erase (Finset.mem_univ o)]; exact .rfl
  have hsplit : (rdats V p c).arraysAt (Pipeline.pin (pcfgs (F := F)) adm p).N
      ⊢ (iprop(∃ G, ⌜(rdats V p c).ArrAt o (Pipeline.pin (pcfgs (F := F)) adm p).N G⌝
          ∗ (junk V p c).arrays (Function.update (rdats V p c).A o G)) : sProp 𝕄) := by
    unfold RDat.arraysAt Pipeline.Dat.arrays
    rw [bigSep_erase (Finset.mem_univ o)]
    change iprop(_ ∗ _) ⊢ _
    iintro ⟨⟨%G, %hG, Ho⟩, Hr⟩
    iexists G
    isplitr; · ipureintro; exact hG
    iapply (hE _)
    isplitl [Ho]
    · beta_reduce; rw [Function.update_self]; rw [show (junk V p c).share o = (rdats V p c).share o from rfl]; iexact Ho
    · have hmono : (bigSep (Finset.univ.erase o) fun w => iprop(∃ G, ⌜(rdats V p c).ArrAt w (Pipeline.pin (pcfgs (F := F)) adm p).N G⌝
            ∗ ((Pipeline.pin (pcfgs (F := F)) adm p).win w).arr.view.loc (c.tc : Thread nD τ) ↦[((Pipeline.pin (pcfgs (F := F)) adm p).win w).arr.view.set]{(rdats V p c).share w} G))
          ⊢ (bigSep (Finset.univ.erase o) fun w => ((Pipeline.pin (pcfgs (F := F)) adm p).win w).arr.view.loc (c.tc : Thread nD τ) ↦[((Pipeline.pin (pcfgs (F := F)) adm p).win w).arr.view.set]{(junk V p c).share w} (Function.update (rdats V p c).A o G w) : sProp 𝕄) :=
        bigSep_mono fun w hmem => by
          have hne := (Finset.mem_erase.mp hmem).1
          rw [Function.update_of_ne hne, RDat.ArrAt_in (rdats V p c) w (ho w hne)]
          change (iprop(∃ G', ⌜G' = (rdats V p c).A w⌝ ∗ _) : sProp 𝕄) ⊢ _
          iintro ⟨%G', %hG', H⟩
          subst hG'
          iexact H
      iapply hmono; iexact Hr
  iintro ⟨Ha, Hrest⟩
  ihave Ha' := hsplit $$ Ha
  icases Ha' with ⟨%G, %hG, Ha⟩
  iexists Function.update V (Pipeline.arrRef (pcfgs (F := F) p).spec o) G
  isplitr; · ipureintro; exact ⟨G, hG, rfl⟩
  have hinj : ∀ w, w ≠ o → Pipeline.arrRef (pcfgs (F := F) p).spec w ≠ Pipeline.arrRef (pcfgs (F := F) p).spec o :=
    fun w hne h => hne (hw.arr_inj h)
  have hjoin := Pipeline.unscopedBufs_of_arrays (p := p) (pcfgs (F := F)) adm (Ix := Unit) (Name := ℕ) (U := UU) (Lvl := ℕ) hw harr c
      (junk V) (fun w => by unfold Pipeline.Dat.share; split <;> rfl) (fun b => V b)
      (fun b => Function.update V (Pipeline.arrRef (pcfgs (F := F) p).spec o) G b)
      (Function.update (rdats V p c).A o G)
      (fun w => by
        by_cases h : w = o
        · subst h; rw [Function.update_self]; exact (Function.update_self (f := V) (Proc.devRef .tc (Pipeline.arrRef (pcfgs (F := F) p).spec w)) G).symm
        · rw [Function.update_of_ne h]; exact (Function.update_of_ne (StableHlo.devRef_ne_of_ne (hinj w h)) _ _).symm)
      (fun b hb => Function.update_of_ne (StableHlo.devRef_ne_of_ne fun h => hb (Finset.mem_image.mpr ⟨o, Finset.mem_univ _, h.symm⟩)) _ _)
  iapply hjoin; isplitl [Ha] <;> iassumption

set_option backward.isDefEq.respectTransparency.types false in
/-- REGION `p` entered at `V`, left at some valuation it may make of it: the layout, the body obligation, and how the body's
    invariant takes what it needs of the buffers the region does not window (`X`, `Z`) and gives it back. -/
def region (p : Fin 4) (o : Fin (pcfgs (F := F) p).W) (hl : Pipeline.LaunchFacts (nD := nD) (τ := τ) cfgs p)
    (ho : ∀ w, w ≠ o → ((Pipeline.pin (pcfgs (F := F)) adm p).win w).isOut = false)
    (K : Type) [Fintype K] (osem : K → SemLoc sig) (hos : Pipeline.OwnSemFacts (pcfgs (F := F) p).spec osem)
    (hbody : ∀ c, (rdats V p c).BodyObligation (defs₀ (F := F)) 𝒱₀ () Set.univ)
    (X Y Z : Dev nD → sProp 𝕄)
    (hXZ : ∀ c, iprop(Pipeline.unscopedRest (Ix := Unit) (Name := ℕ) (U := UU) (Lvl := ℕ) (pcfgs (F := F) p).spec c (fun b => V b) ∗ Pipeline.ownSems0 osem c) ⊢ iprop(X c ∗ Z c))
    (hin : ∀ c, iprop(X c ∗ Pipeline.scopedRest (pcfgs (F := F) p).spec c) ⊢ Inv V p c)
    (hout : ∀ c, Inv V p c ⊢ iprop(Y c ∗ Pipeline.ownSems0 osem c ∗ Pipeline.scopedRest (pcfgs (F := F) p).spec c))
    (hYZ : ∀ c, iprop(Y c ∗ Z c) ⊢ Pipeline.unscopedRest (pcfgs (F := F) p).spec c (fun b => V b)) :
    RDat.RegionSeg (pcfgs (F := F)) adm (rdats V) () defs₀ 𝒱₀ L lv p where
  win := hl.win.to₀
  block_pos := hl.block_pos
  stage_whole := hl.stage_whole
  K := K
  osem := osem
  ho := hos
  hbody := hbody
  hwaits := RDat.hwaits_of_owed_zero _ _ _ _ L lv p fun _ _ => rfl
  pre c := iprop(unscopedBufs c (fun b => V b) ∗ ∃ W, owes (c : Thread nD τ) (0 : CellTallies nD τ sig Unit) W)
  post c := iprop((∃ V' : Valuation τ sig (Elt F), ⌜Next V p o c V'⌝ ∗ unscopedBufs c (fun b => V' b)) ∗ ∃ W, owes (c : Thread nD τ) (0 : CellTallies nD τ sig Unit) W)
  X := X
  Y := Y
  Z := Z
  hentry c := by
    have hsplit := RDat.arrays_of_unscopedBufs (p := p) (pcfgs (F := F)) adm (rdats V) hl.win hl.arr_whole c
      (share_full V p c) (fun b => V b) fun _ => rfl
    iintro ⟨⟨Hub, HO⟩, Hos, -⟩
    ihave H := hsplit $$ Hub
    icases H with ⟨Ha, Hrest⟩
    ihave H := (hXZ c) $$ [Hrest Hos]
    · isplitl [Hrest] <;> iassumption
    icases H with ⟨HX, HZ⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [HX] <;> iassumption
  hin c := by
    rw [show (rdats V p c).Φ 0 = Inv V p c from rfl]
    iintro ⟨HX, -, Hr⟩; iapply (hin c); isplitl [HX] <;> iassumption
  hout c := by
    rw [show (rdats V p c).Φ (Fin.last _) = Inv V p c from rfl]; exact hout c
  hexit c := by
    iintro ⟨Ha, HO, HY, HZ⟩
    ihave Hr := (hYZ c) $$ [HY HZ]
    · isplitl [HY] <;> iassumption
    ihave H := (arrays_join V p o hl.win hl.arr_whole ho c) $$ [Ha Hr]
    · isplitl [Ha] <;> iassumption
    imodintro
    isplitl [H]; · iexact H
    unfold RDat.owesAt Pipeline.owesWithin
    icases HO with ⟨%W, -, HO⟩; iexists W; iexact HO

end Cert.Proof.K

end
-- ==== Proof.Launch.lean ====
module

public import proofs.«01_k».proof.Proof.Region
public import proofs.«01_k».proof.Proof.Gen.KernelIdeal.Regions

@[expose] public section

set_option maxRecDepth 1216

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf Seg HostSeg)

variable {F : FTy → Type} [FloatOps F]

local notation "𝕄" => MT nD τ sig Unit (Elt F) ℕ UU ℕ

/-! ## What each stretch of host operations makes of the buffers -/

abbrev st0 (V : Valuation τ sig (Elt F)) : Valuation τ sig (Elt F) := StableHlo.after hostOps0_4 (StableHlo.after hostOps0_3 (StableHlo.after hostOps0_2 (StableHlo.after hostOps0_1 (StableHlo.after hostOps0 V))))
abbrev st1 (V : Valuation τ sig (Elt F)) : Valuation τ sig (Elt F) := StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 V))))))))
abbrev st2 (V : Valuation τ sig (Elt F)) : Valuation τ sig (Elt F) := StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 V))))))))
abbrev st3 (V : Valuation τ sig (Elt F)) : Valuation τ sig (Elt F) := StableHlo.after hostOps3_8 (StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 V))))))))
abbrev st4 (V : Valuation τ sig (Elt F)) : Valuation τ sig (Elt F) := StableHlo.after hostOps4 V

variable (m : (ℓ : Loc nD τ sig) → Buf (Elt F) ℓ)

/-- The contents core `c`'s buffers may have before the stretch of host operations `j`: at launch the launch contents, later
    what a region may make of what the stretch before it made of them. -/
def At : Fin 5 → Dev nD → Valuation τ sig (Elt F) → Prop
  | 0, c, V => V = V0 m c
  | 1, c, V => ∃ U, U = V0 m c ∧ Next (st0 U) 0 4 c V
  | 2, c, V => ∃ U, (∃ T, T = V0 m c ∧ Next (st0 T) 0 4 c U) ∧ Next (st1 U) 1 5 c V
  | 3, c, V => ∃ W, (∃ U, (∃ T, T = V0 m c ∧ Next (st0 T) 0 4 c U) ∧ Next (st1 U) 1 5 c W) ∧ Next (st2 W) 2 7 c V
  | 4, c, V => ∃ X, (∃ W, (∃ U, (∃ T, T = V0 m c ∧ Next (st0 T) 0 4 c U) ∧ Next (st1 U) 1 5 c W) ∧ Next (st2 W) 2 7 c X) ∧ Next (st3 X) 3 7 c V

abbrev Γ (j : Fin 5) (c : Dev nD) : Type := { V : Valuation τ sig (Elt F) // At m j c V }

/-! ## The regions -/

/-- The unscoped buffers region 0 neither windows nor reads. -/
abbrev Rest0 : Finset (Ref sig .tc) := ((Finset.univ.filter fun b : Ref sig .tc => ¬ b.isScoped) \ Finset.univ.image (Pipeline.arrRef spec0)).erase main_v14

theorem own0_eq (c : Dev nD) : (Pipeline.ownSems0 osem0 c : sProp 𝕄) = semVal ((c : Thread nD τ), osem0 0) 0 :=
  BI.bigSep_univ_of_subsingleton (0 : Fin 1)

theorem rest0_split (V : Valuation τ sig (Elt F)) (c : Dev nD) :
    (Pipeline.unscopedRest (Ix := Unit) (Name := ℕ) (U := UU) (Lvl := ℕ) (pcfgs (F := F) 0).spec c (fun b => V b) : sProp 𝕄)
      = iprop(pt c (Memref.whole main_v14) (V main_v14)
        ∗ bigSep Rest0 fun b => (c.tc : Thread nD τ).loc b ↦{fullShare} V b) := by
  classical
  show bigSep _ _ = iprop(_ ∗ _)
  exact bigSep_erase (i := main_v14) (Finset.mem_sdiff.mpr ⟨Finset.mem_filter.mpr ⟨Finset.mem_univ _, show ¬ (main_v14 : Ref sig .tc).isScoped = true by decide⟩, show main_v14 ∉ Finset.univ.image (Pipeline.arrRef spec0) by decide⟩)

def reg0 (V : Valuation τ sig (Elt F)) := region V 0 4 launch0 (by intro w h; fin_cases w <;> first | rfl | exact absurd rfl h) (Fin 1) osem0 (show Pipeline.OwnSemFacts spec0 osem0 by decide)
  (body_obligation0 V)
  (fun c => iprop(pt c (Memref.whole main_v14) (V main_v14) ∗ semVal ((c : Thread nD τ), osem0 0) 0))
  (fun c => pt c (Memref.whole main_v14) (V main_v14))
  (fun c => bigSep Rest0 fun b => (c.tc : Thread nD τ).loc b ↦{fullShare} V b)
  (fun c => by
    rw [rest0_split, own0_eq]
    iintro ⟨⟨H, Hr⟩, Hs⟩
    isplitr [Hr]
    · isplitl [H]; · iexact H
      iexact Hs
    iexact Hr)
  (fun c => by
    unfold Inv
    iintro ⟨⟨H, Hs⟩, Hr⟩
    isplitl [H]; · iexact H
    isplitl [Hs] <;> iassumption)
  (fun c => by
    rw [own0_eq]
    exact .rfl)
  (fun c => by rw [rest0_split])

def reg1 (V : Valuation τ sig (Elt F)) := region V 1 5 launch1 (by intro w h; fin_cases w <;> first | rfl | exact absurd rfl h) PEmpty (fun k => k.elim) (Pipeline.OwnSemFacts.none _)
  (body_obligation1 V) (fun _ => BI.emp) (fun _ => BI.emp)
  (fun c => Pipeline.unscopedRest (pcfgs (F := F) 1).spec c (fun b => V b))
  (fun c => by iintro ⟨H, -⟩; isplitr; · iempintro
               iexact H)
  (fun c => by
    show iprop(emp ∗ Pipeline.scopedRest spec1 c) ⊢ (Pipeline.scopedRest spec1 c : sProp 𝕄)
    iintro ⟨-, H⟩; iexact H)
  (fun c => by
    show (Pipeline.scopedRest spec1 c : sProp 𝕄) ⊢ iprop(emp ∗ Pipeline.ownSems0 _ c ∗ Pipeline.scopedRest spec1 c)
    rw [Pipeline.ownSems0_none]; iintro H; isplitr; · iempintro
    isplitr; · iempintro
    iexact H)
  (fun c => by iintro ⟨-, H⟩; iexact H)

def reg2 (V : Valuation τ sig (Elt F)) := region V 2 7 launch2 (by intro w h; fin_cases w <;> first | rfl | exact absurd rfl h) PEmpty (fun k => k.elim) (Pipeline.OwnSemFacts.none _)
  (body_obligation2 V) (fun _ => BI.emp) (fun _ => BI.emp)
  (fun c => Pipeline.unscopedRest (pcfgs (F := F) 2).spec c (fun b => V b))
  (fun c => by iintro ⟨H, -⟩; isplitr; · iempintro
               iexact H)
  (fun c => by
    show iprop(emp ∗ Pipeline.scopedRest spec2 c) ⊢ (Pipeline.scopedRest spec2 c : sProp 𝕄)
    iintro ⟨-, H⟩; iexact H)
  (fun c => by
    show (Pipeline.scopedRest spec2 c : sProp 𝕄) ⊢ iprop(emp ∗ Pipeline.ownSems0 _ c ∗ Pipeline.scopedRest spec2 c)
    rw [Pipeline.ownSems0_none]; iintro H; isplitr; · iempintro
    isplitr; · iempintro
    iexact H)
  (fun c => by iintro ⟨-, H⟩; iexact H)

def reg3 (V : Valuation τ sig (Elt F)) := region V 3 7 launch3 (by intro w h; fin_cases w <;> first | rfl | exact absurd rfl h) PEmpty (fun k => k.elim) (Pipeline.OwnSemFacts.none _)
  (body_obligation3 V) (fun _ => BI.emp) (fun _ => BI.emp)
  (fun c => Pipeline.unscopedRest (pcfgs (F := F) 3).spec c (fun b => V b))
  (fun c => by iintro ⟨H, -⟩; isplitr; · iempintro
               iexact H)
  (fun c => by
    show iprop(emp ∗ Pipeline.scopedRest spec3 c) ⊢ (Pipeline.scopedRest spec3 c : sProp 𝕄)
    iintro ⟨-, H⟩; iexact H)
  (fun c => by
    show (Pipeline.scopedRest spec3 c : sProp 𝕄) ⊢ iprop(emp ∗ Pipeline.ownSems0 _ c ∗ Pipeline.scopedRest spec3 c)
    rw [Pipeline.ownSems0_none]; iintro H; isplitr; · iempintro
    isplitr; · iempintro
    iexact H)
  (fun c => by iintro ⟨-, H⟩; iexact H)

/-- Pipeline `p`'s own account on core `c`. -/
abbrev GG (p : Fin 4) (c : Dev nD) : sProp 𝕄 :=
  iprop(Pipeline.cellsGhost (Pipeline.pin (pcfgs (F := F)) adm) (embAt 1) p c ∗ Pipeline.toksInit (Pipeline.pin (pcfgs (F := F)) adm) (embAt 1) p c)

abbrev Ow (c : Dev nD) : sProp 𝕄 := iprop(∃ W, owes (c : Thread nD τ) (0 : CellTallies nD τ sig Unit) W)

/-- REGION `p` as an item of the program: entered at any of the valuations `g c γ`, left at one it may make of that. -/
def regSeg (p : Fin 4) (o : Fin (pcfgs (F := F) p).W)
    (reg : (V : Valuation τ sig (Elt F)) → RDat.RegionSeg (pcfgs (F := F)) adm (rdats V) () defs₀ 𝒱₀ L lv p)
    (hpre : ∀ V c, (reg V).pre c = iprop(unscopedBufs c (fun b => V b) ∗ Ow c))
    (hpost : ∀ V c, (reg V).post c = iprop((∃ V' : Valuation τ sig (Elt F), ⌜Next V p o c V'⌝ ∗ unscopedBufs c (fun b => V' b)) ∗ Ow c))
    {Γ Γ' : Dev nD → Type} (g : (c : Dev nD) → Γ c → Valuation τ sig (Elt F)) (g' : (c : Dev nD) → Γ' c → Valuation τ sig (Elt F))
    (hg : ∀ c γ V', Next (g c γ) p o c V' → ∃ γ', g' c γ' = V') (R : Dev nD → sProp 𝕄) :
    HostSeg (Ix := Unit) (Name := ℕ) (U := UU) (pcfgs (F := F)) defs₀ 𝒱₀ L lv where
  prog := Prog.lift (.customCall (Pipeline.entry p) ())
  pre c := iprop((∃ γ, StableHlo.held (c.tc : Thread nD τ) (Pipeline.ucRefs τ sig) (g c γ)) ∗ Ow c ∗ GG p c ∗ R c)
  post c := iprop((∃ γ, StableHlo.held (c.tc : Thread nD τ) (Pipeline.ucRefs τ sig) (g' c γ)) ∗ Ow c ∗ R c)
  run c {β} k K := by
    have hwp := fun V => RDat.RegionSeg.wp (pcfgs (F := F)) adm (rdats V) () cellOf_inj (embAt 1) defs₀ 𝒱₀ L lv (reg V) c none
      (fun u hu => by cases hu) k K
    show _ ⊢ wp frame _ Set.univ (.op (.customCall (Pipeline.entry p) ()) k) K
    iintro ⟨Hk, Hbd, ⟨⟨%γ, Hh⟩, HO, ⟨Hg, Ht⟩, HR⟩, Hlev⟩
    iapply (hwp (g c γ))
    rw [hpre, hpost]
    isplitl [Hk HR]
    · iintro ⟨Hbd, ⟨%V', %hV', Hub⟩, HO⟩
      iapply Hk
      isplitl [Hbd]; · iexact Hbd
      obtain ⟨γ', hγ'⟩ := hg c γ V' hV'
      isplitl [Hub]
      · iexists γ'
        rw [hγ', ← Pipeline.unscopedBufs_held (Ix := Unit) (Name := ℕ) (U := UU) (Lvl := ℕ) c V']
        iexact Hub
      isplitl [HO] <;> iassumption
    isplitl [Hbd]; · iexact Hbd
    isplitl [Hh HO]
    · isplitl [Hh]
      · rw [Pipeline.unscopedBufs_held (Ix := Unit) (Name := ℕ) (U := UU) (Lvl := ℕ) c (g c γ)]; iexact Hh
      iexact HO
    isplitl [Hlev]; · iexact Hlev
    isplitl [Hg] <;> iassumption

/-- A stretch of host operations as an item. -/
def opsSeg {Γ : Dev nD → Type} (ops : List (HloOp τ sig (Elt F))) (hS : ops.Forall fun op => op.bufs ⊆ StableHlo.tcRefs τ sig)
    (hf : ops.Forall fun op => op.fresh = ∅) (g : (c : Dev nD) → Γ c → Valuation τ sig (Elt F)) (R : Dev nD → sProp 𝕄) :
    HostSeg (Ix := Unit) (Name := ℕ) (U := UU) (pcfgs (F := F)) defs₀ 𝒱₀ L lv :=
  HostSeg.ofOpsEx (pcfgs (F := F)) defs₀ 𝒱₀ L lv (Pipeline.ucRefs τ sig) ops
    (fun op h => Pipeline.sub_ucRefs op ((List.forall_iff_forall_mem.mp hS) op h)) (fun op h => (List.forall_iff_forall_mem.mp hf) op h) g R

abbrev R4 (c : Dev nD) : sProp 𝕄 := iprop(Ow c ∗ emp)
abbrev R3 (c : Dev nD) : sProp 𝕄 := iprop(Ow c ∗ GG 3 c ∗ emp)
abbrev R2 (c : Dev nD) : sProp 𝕄 := iprop(Ow c ∗ GG 2 c ∗ GG 3 c ∗ emp)
abbrev R1 (c : Dev nD) : sProp 𝕄 := iprop(Ow c ∗ GG 1 c ∗ GG 2 c ∗ GG 3 c ∗ emp)
abbrev R0 (c : Dev nD) : sProp 𝕄 := iprop(Ow c ∗ GG 0 c ∗ GG 1 c ∗ GG 2 c ∗ GG 3 c ∗ emp)

/-- The program's items. -/
abbrev segs : List (Seg (pcfgs (F := F)) adm (fun p c => junk (V0 m c) p c) () defs₀ 𝒱₀ L lv) := [
  .host (opsSeg (Γ := Γ m 0) hostOps0 hostOps0_sub hostOps0_fresh (fun c γ => γ.1) R0),
  .host (opsSeg (Γ := Γ m 0) hostOps0_1 hostOps0_1_sub hostOps0_1_fresh (fun c γ => StableHlo.after hostOps0 γ.1) R0),
  .host (opsSeg (Γ := Γ m 0) hostOps0_2 hostOps0_2_sub hostOps0_2_fresh (fun c γ => StableHlo.after hostOps0_1 (StableHlo.after hostOps0 γ.1)) R0),
  .host (opsSeg (Γ := Γ m 0) hostOps0_3 hostOps0_3_sub hostOps0_3_fresh (fun c γ => StableHlo.after hostOps0_2 (StableHlo.after hostOps0_1 (StableHlo.after hostOps0 γ.1))) R0),
  .host (opsSeg (Γ := Γ m 0) hostOps0_4 hostOps0_4_sub hostOps0_4_fresh (fun c γ => StableHlo.after hostOps0_3 (StableHlo.after hostOps0_2 (StableHlo.after hostOps0_1 (StableHlo.after hostOps0 γ.1)))) R0),
  .host (regSeg 0 4 reg0 (fun _ _ => rfl) (fun _ _ => rfl) (Γ := Γ m 0) (Γ' := Γ m 1) (fun c γ => st0 γ.1) (fun c γ => γ.1) (fun c γ V' h => ⟨⟨V', γ.1, γ.2, h⟩, rfl⟩) (fun c => iprop(GG 1 c ∗ GG 2 c ∗ GG 3 c ∗ emp))),
  .host (opsSeg (Γ := Γ m 1) hostOps1 hostOps1_sub hostOps1_fresh (fun c γ => γ.1) R1),
  .host (opsSeg (Γ := Γ m 1) hostOps1_1 hostOps1_1_sub hostOps1_1_fresh (fun c γ => StableHlo.after hostOps1 γ.1) R1),
  .host (opsSeg (Γ := Γ m 1) hostOps1_2 hostOps1_2_sub hostOps1_2_fresh (fun c γ => StableHlo.after hostOps1_1 (StableHlo.after hostOps1 γ.1)) R1),
  .host (opsSeg (Γ := Γ m 1) hostOps1_3 hostOps1_3_sub hostOps1_3_fresh (fun c γ => StableHlo.after hostOps1_2 (StableHlo.after hostOps1_1 (StableHlo.after hostOps1 γ.1))) R1),
  .host (opsSeg (Γ := Γ m 1) hostOps1_4 hostOps1_4_sub hostOps1_4_fresh (fun c γ => StableHlo.after hostOps1_3 (StableHlo.after hostOps1_2 (StableHlo.after hostOps1_1 (StableHlo.after hostOps1 γ.1)))) R1),
  .host (opsSeg (Γ := Γ m 1) hostOps1_5 hostOps1_5_sub hostOps1_5_fresh (fun c γ => StableHlo.after hostOps1_4 (StableHlo.after hostOps1_3 (StableHlo.after hostOps1_2 (StableHlo.after hostOps1_1 (StableHlo.after hostOps1 γ.1))))) R1),
  .host (opsSeg (Γ := Γ m 1) hostOps1_6 hostOps1_6_sub hostOps1_6_fresh (fun c γ => StableHlo.after hostOps1_5 (StableHlo.after hostOps1_4 (StableHlo.after hostOps1_3 (StableHlo.after hostOps1_2 (StableHlo.after hostOps1_1 (StableHlo.after hostOps1 γ.1)))))) R1),
  .host (opsSeg (Γ := Γ m 1) hostOps1_7 hostOps1_7_sub hostOps1_7_fresh (fun c γ => StableHlo.after hostOps1_6 (StableHlo.after hostOps1_5 (StableHlo.after hostOps1_4 (StableHlo.after hostOps1_3 (StableHlo.after hostOps1_2 (StableHlo.after hostOps1_1 (StableHlo.after hostOps1 γ.1))))))) R1),
  .host (opsSeg (Γ := Γ m 1) hostOps1_8 hostOps1_8_sub hostOps1_8_fresh (fun c γ => StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 γ.1)))))))) R1),
  .host (regSeg 1 5 reg1 (fun _ _ => rfl) (fun _ _ => rfl) (Γ := Γ m 1) (Γ' := Γ m 2) (fun c γ => st1 γ.1) (fun c γ => γ.1) (fun c γ V' h => ⟨⟨V', γ.1, γ.2, h⟩, rfl⟩) (fun c => iprop(GG 2 c ∗ GG 3 c ∗ emp))),
  .host (opsSeg (Γ := Γ m 2) hostOps2 hostOps2_sub hostOps2_fresh (fun c γ => γ.1) R2),
  .host (opsSeg (Γ := Γ m 2) hostOps2_1 hostOps2_1_sub hostOps2_1_fresh (fun c γ => StableHlo.after hostOps2 γ.1) R2),
  .host (opsSeg (Γ := Γ m 2) hostOps2_2 hostOps2_2_sub hostOps2_2_fresh (fun c γ => StableHlo.after hostOps2_1 (StableHlo.after hostOps2 γ.1)) R2),
  .host (opsSeg (Γ := Γ m 2) hostOps2_3 hostOps2_3_sub hostOps2_3_fresh (fun c γ => StableHlo.after hostOps2_2 (StableHlo.after hostOps2_1 (StableHlo.after hostOps2 γ.1))) R2),
  .host (opsSeg (Γ := Γ m 2) hostOps2_4 hostOps2_4_sub hostOps2_4_fresh (fun c γ => StableHlo.after hostOps2_3 (StableHlo.after hostOps2_2 (StableHlo.after hostOps2_1 (StableHlo.after hostOps2 γ.1)))) R2),
  .host (opsSeg (Γ := Γ m 2) hostOps2_5 hostOps2_5_sub hostOps2_5_fresh (fun c γ => StableHlo.after hostOps2_4 (StableHlo.after hostOps2_3 (StableHlo.after hostOps2_2 (StableHlo.after hostOps2_1 (StableHlo.after hostOps2 γ.1))))) R2),
  .host (opsSeg (Γ := Γ m 2) hostOps2_6 hostOps2_6_sub hostOps2_6_fresh (fun c γ => StableHlo.after hostOps2_5 (StableHlo.after hostOps2_4 (StableHlo.after hostOps2_3 (StableHlo.after hostOps2_2 (StableHlo.after hostOps2_1 (StableHlo.after hostOps2 γ.1)))))) R2),
  .host (opsSeg (Γ := Γ m 2) hostOps2_7 hostOps2_7_sub hostOps2_7_fresh (fun c γ => StableHlo.after hostOps2_6 (StableHlo.after hostOps2_5 (StableHlo.after hostOps2_4 (StableHlo.after hostOps2_3 (StableHlo.after hostOps2_2 (StableHlo.after hostOps2_1 (StableHlo.after hostOps2 γ.1))))))) R2),
  .host (opsSeg (Γ := Γ m 2) hostOps2_8 hostOps2_8_sub hostOps2_8_fresh (fun c γ => StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 γ.1)))))))) R2),
  .host (regSeg 2 7 reg2 (fun _ _ => rfl) (fun _ _ => rfl) (Γ := Γ m 2) (Γ' := Γ m 3) (fun c γ => st2 γ.1) (fun c γ => γ.1) (fun c γ V' h => ⟨⟨V', γ.1, γ.2, h⟩, rfl⟩) (fun c => iprop(GG 3 c ∗ emp))),
  .host (opsSeg (Γ := Γ m 3) hostOps3 hostOps3_sub hostOps3_fresh (fun c γ => γ.1) R3),
  .host (opsSeg (Γ := Γ m 3) hostOps3_1 hostOps3_1_sub hostOps3_1_fresh (fun c γ => StableHlo.after hostOps3 γ.1) R3),
  .host (opsSeg (Γ := Γ m 3) hostOps3_2 hostOps3_2_sub hostOps3_2_fresh (fun c γ => StableHlo.after hostOps3_1 (StableHlo.after hostOps3 γ.1)) R3),
  .host (opsSeg (Γ := Γ m 3) hostOps3_3 hostOps3_3_sub hostOps3_3_fresh (fun c γ => StableHlo.after hostOps3_2 (StableHlo.after hostOps3_1 (StableHlo.after hostOps3 γ.1))) R3),
  .host (opsSeg (Γ := Γ m 3) hostOps3_4 hostOps3_4_sub hostOps3_4_fresh (fun c γ => StableHlo.after hostOps3_3 (StableHlo.after hostOps3_2 (StableHlo.after hostOps3_1 (StableHlo.after hostOps3 γ.1)))) R3),
  .host (opsSeg (Γ := Γ m 3) hostOps3_5 hostOps3_5_sub hostOps3_5_fresh (fun c γ => StableHlo.after hostOps3_4 (StableHlo.after hostOps3_3 (StableHlo.after hostOps3_2 (StableHlo.after hostOps3_1 (StableHlo.after hostOps3 γ.1))))) R3),
  .host (opsSeg (Γ := Γ m 3) hostOps3_6 hostOps3_6_sub hostOps3_6_fresh (fun c γ => StableHlo.after hostOps3_5 (StableHlo.after hostOps3_4 (StableHlo.after hostOps3_3 (StableHlo.after hostOps3_2 (StableHlo.after hostOps3_1 (StableHlo.after hostOps3 γ.1)))))) R3),
  .host (opsSeg (Γ := Γ m 3) hostOps3_7 hostOps3_7_sub hostOps3_7_fresh (fun c γ => StableHlo.after hostOps3_6 (StableHlo.after hostOps3_5 (StableHlo.after hostOps3_4 (StableHlo.after hostOps3_3 (StableHlo.after hostOps3_2 (StableHlo.after hostOps3_1 (StableHlo.after hostOps3 γ.1))))))) R3),
  .host (opsSeg (Γ := Γ m 3) hostOps3_8 hostOps3_8_sub hostOps3_8_fresh (fun c γ => StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 γ.1)))))))) R3),
  .host (regSeg 3 7 reg3 (fun _ _ => rfl) (fun _ _ => rfl) (Γ := Γ m 3) (Γ' := Γ m 4) (fun c γ => st3 γ.1) (fun c γ => γ.1) (fun c γ V' h => ⟨⟨V', γ.1, γ.2, h⟩, rfl⟩) (fun c => iprop(emp))),
  .host (opsSeg (Γ := Γ m 4) hostOps4 hostOps4_sub hostOps4_fresh (fun c γ => γ.1) R4) ]

set_option backward.isDefEq.respectTransparency.types false in
/-- The program's run: from any memory and zero counters it ends, the buffers at contents the items may make of the launch
    contents, every counter zero. -/
theorem run (ρ : Dev nD → PrngReg) :
    θ_run defs (onTc main) ⟨m, fun _ => 0, ρ⟩ fun r => (∀ c : Dev nD, ∃ V, At m 4 c V ∧ ∀ b ∈ Pipeline.ucRefs τ sig, r.2.mem (c, b) = st4 V b) ∧ r.2.sem = fun _ => 0 := by
  classical
  refine Pipeline.θ_run_regions_kit_dev_sems (pcfgs (F := F)) adm (fun p c => junk (V0 m c) p c) () cellOf_inj (embAt (0 : Fin 2)) defs₀ 𝒱₀ L lv m ρ main
    (fun _ => segs m)
    (fun c Q => by
      rewrite [main_chain c, Seg.run_eq_chain,
        show (segs m).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8,
          Prog.lift (.customCall (Pipeline.entry 3) ()),
          StableHlo.seq hostOps4] from rfl]
      dsimp (config := { failIfUnchanged := false }) only
      exact .rfl)
    (fun c => by simp only [segs, Seg.pipes_host, Seg.pipes_nil]; decide) (fun _ => 0) (fun _ _ => rfl)
    (fun c => iprop(GG 0 c ∗ GG 1 c ∗ GG 2 c ∗ GG 3 c ∗ emp))
    ((fun _ => initOf (Pipeline.cells cfgs cellOf_inj) (Pipeline.launchToks cfgs cellOf_inj)), 1) ?_
    (T₀ := fun c => iprop((∃ γ : Γ m 0 c, StableHlo.held (c : Thread nD τ) (Pipeline.ucRefs τ sig) γ.1) ∗ R0 c))
    (Tₙ := fun c => iprop(∃ γ : Γ m 4 c, StableHlo.held (c : Thread nD τ) (Pipeline.ucRefs τ sig) (st4 γ.1)))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨H, -⟩; iexact H)⟩)
    (hinit := ?_) (QY := fun c s => ∃ V, At m 4 c V ∧ ∀ b ∈ Pipeline.ucRefs τ sig, s.mem (c, b) = st4 V b)
    (hfin := fun c s' => ?_) (hQ := fun _ h hz => ⟨h, funext fun g => hz g (.inr (regions_no_unscoped g.2))⟩)
  · have h4 : ∀ Φ : Fin 4 → sProp 𝕄, bigSep Finset.univ Φ ⊢ iprop(Φ 0 ∗ Φ 1 ∗ Φ 2 ∗ Φ 3) := fun Φ => by
      rw [bigSep_erase (Finset.mem_univ (0 : Fin 4)), bigSep_erase (show (1 : Fin 4) ∈ Finset.univ.erase 0 by decide),
        bigSep_erase (show (2 : Fin 4) ∈ (Finset.univ.erase 0).erase 1 by decide),
        bigSep_erase (show (3 : Fin 4) ∈ ((Finset.univ.erase 0).erase 1).erase 2 by decide)]
      show iprop(Φ 0 ∗ Φ 1 ∗ Φ 2 ∗ Φ 3 ∗ _) ⊢ (_ : sProp 𝕄)
      iintro ⟨H0, H1, H2, H3, -⟩
      isplitl [H0]; · iexact H0
      isplitl [H1]; · iexact H1
      isplitl [H2] <;> iassumption
    have h2 : ∀ Φ : Fin 2 → sProp 𝕄, bigSep Finset.univ Φ ⊢ iprop(Φ 0 ∗ Φ 1) := fun Φ => by
      rw [bigSep_erase (Finset.mem_univ (0 : Fin 2)), bigSep_erase (show (1 : Fin 2) ∈ Finset.univ.erase 0 by decide)]
      show iprop(Φ 0 ∗ Φ 1 ∗ _) ⊢ (_ : sProp 𝕄)
      iintro ⟨H0, H1, -⟩
      isplitl [H0] <;> iassumption
    have hG : iprop((bigSep Finset.univ fun c : Dev nD => bigSep Finset.univ fun p => Pipeline.cellsGhost (Pipeline.pin (pcfgs (F := F)) adm) (embAt (1 : Fin 2)) p c)
          ∗ (bigSep Finset.univ fun c : Dev nD => bigSep Finset.univ fun p => Pipeline.toksInit (Pipeline.pin (pcfgs (F := F)) adm) (embAt (1 : Fin 2)) p c))
        ⊢ (bigSep Finset.univ fun c : Dev nD => iprop(GG 0 c ∗ GG 1 c ∗ GG 2 c ∗ GG 3 c ∗ emp) : sProp 𝕄) := by
      rw [← bigSep_sep']
      refine bigSep_mono fun c _ => ?_
      show iprop(_ ∗ _) ⊢ (_ : sProp 𝕄)
      iintro ⟨Hg, Ht⟩
      ihave Hg := (h4 _) $$ Hg
      ihave Ht := (h4 _) $$ Ht
      icases Hg with ⟨G0, G1, G2, G3⟩
      icases Ht with ⟨T0, T1, T2, T3⟩
      isplitl [G0 T0]; · isplitl [G0] <;> iassumption
      isplitl [G1 T1]; · isplitl [G1] <;> iassumption
      isplitl [G2 T2]; · isplitl [G2] <;> iassumption
      isplitl [G3 T3]; · isplitl [G3] <;> iassumption
      iempintro
    iintro Hu
    ihave H := (ownU_pair _ _) $$ Hu
    icases H with ⟨H, -⟩
    ihave H := (own_iprod _) $$ H
    ihave H := (h2 _) $$ H
    icases H with ⟨Ha, Hb⟩
    imod (Pipeline.fund_ghost (Pipeline.pin (pcfgs (F := F)) adm) (embAt (1 : Fin 2)) cellOf_inj) $$ Hb with Hb
    imodintro
    isplitl [Ha]; · iexact Ha
    iapply hG; iexact Hb
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(GG 0 c ∗ GG 1 c ∗ GG 2 c ∗ GG 3 c ∗ emp)))
        ⊢ (bigSep Finset.univ fun c : Dev nD => iprop((∃ γ : Γ m 0 c, StableHlo.held (c : Thread nD τ) (Pipeline.ucRefs τ sig) γ.1) ∗ R0 c) : sProp 𝕄) :=
      bigSep_mono fun c _ => by
        show iprop(_ ∗ _) ⊢ (_ : sProp 𝕄)
        iintro ⟨Hub, -, HO, -, -, HG⟩
        isplitl [Hub]
        · iexists (⟨V0 m c, rfl⟩ : Γ m 0 c)
          rw [← Pipeline.unscopedBufs_held (Ix := Unit) (Name := ℕ) (U := UU) (Lvl := ℕ) c (V0 m c)]
          iexact Hub
        isplitl [HO]
        · iexists ∅; iexact HO
        iexact HG
    iintro ⟨H, -⟩
    imodintro
    iapply hsplit; iexact H
  · unfold StableHlo.held
    iintro ⟨⟨%γ, Hh⟩, HSI⟩
    ihave Hr := (pointsTo_read_all (Pipeline.ucRefs τ sig) (fun b => ((c : Thread nD τ).1, b)) (st4 γ.1) s') $$ [Hh HSI]
    · isplitl [Hh] <;> iassumption
    icases Hr with ⟨%h, HSI⟩
    imodintro
    isplitr
    · ipureintro; exact ⟨γ.1, γ.2, h⟩
    · iexact HSI

end Cert.Proof.K

end
-- ==== Proof.Frame.lean ====
module

public import proofs.«01_k».proof.Proof.Launch
public import proofs.«01_k».proof.Defs
public import proofs.«01_k».proof.Proof.Gen.KernelIdeal.Regions

@[expose] public section

set_option maxRecDepth 1216

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf Seg HostSeg)

variable {F : FTy → Type} [FloatOps F]

local notation "𝕄" => MT nD τ sig Unit (Elt F) ℕ UU ℕ

variable (m : (ℓ : Loc nD τ sig) → Buf (Elt F) ℓ)

/-- A buffer that stretch 0 of the host operations does not write keeps its contents. -/
theorem st0_of (V : Valuation τ sig (Elt F)) (r : Ref sig .tc) (h : r ∉ hostOps0_W ++ hostOps0_1_W ++ hostOps0_2_W ++ hostOps0_3_W ++ hostOps0_4_W) : st0 V r = V r := by
  simp only [List.mem_append, not_or] at h
  refine (StableHlo.after_of_writes_sub hostOps0_4 _ hostOps0_4_writes h.2).trans ?_
  refine (StableHlo.after_of_writes_sub hostOps0_3 _ hostOps0_3_writes h.1.2).trans ?_
  refine (StableHlo.after_of_writes_sub hostOps0_2 _ hostOps0_2_writes h.1.1.2).trans ?_
  refine (StableHlo.after_of_writes_sub hostOps0_1 _ hostOps0_1_writes h.1.1.1.2).trans ?_
  refine (StableHlo.after_of_writes_sub hostOps0 _ hostOps0_writes h.1.1.1.1).trans ?_
  rfl

/-- A buffer that stretch 1 of the host operations does not write keeps its contents. -/
theorem st1_of (V : Valuation τ sig (Elt F)) (r : Ref sig .tc) (h : r ∉ hostOps1_W ++ hostOps1_1_W ++ hostOps1_2_W ++ hostOps1_3_W ++ hostOps1_4_W ++ hostOps1_5_W ++ hostOps1_6_W ++ hostOps1_7_W ++ hostOps1_8_W) : st1 V r = V r := by
  simp only [List.mem_append, not_or] at h
  refine (StableHlo.after_of_writes_sub hostOps1_8 _ hostOps1_8_writes h.2).trans ?_
  refine (StableHlo.after_of_writes_sub hostOps1_7 _ hostOps1_7_writes h.1.2).trans ?_
  refine (StableHlo.after_of_writes_sub hostOps1_6 _ hostOps1_6_writes h.1.1.2).trans ?_
  refine (StableHlo.after_of_writes_sub hostOps1_5 _ hostOps1_5_writes h.1.1.1.2).trans ?_
  refine (StableHlo.after_of_writes_sub hostOps1_4 _ hostOps1_4_writes h.1.1.1.1.2).trans ?_
  refine (StableHlo.after_of_writes_sub hostOps1_3 _ hostOps1_3_writes h.1.1.1.1.1.2).trans ?_
  refine (StableHlo.after_of_writes_sub hostOps1_2 _ hostOps1_2_writes h.1.1.1.1.1.1.2).trans ?_
  refine (StableHlo.after_of_writes_sub hostOps1_1 _ hostOps1_1_writes h.1.1.1.1.1.1.1.2).trans ?_
  refine (StableHlo.after_of_writes_sub hostOps1 _ hostOps1_writes h.1.1.1.1.1.1.1.1).trans ?_
  rfl

/-- A buffer that stretch 2 of the host operations does not write keeps its contents. -/
theorem st2_of (V : Valuation τ sig (Elt F)) (r : Ref sig .tc) (h : r ∉ hostOps2_W ++ hostOps2_1_W ++ hostOps2_2_W ++ hostOps2_3_W ++ hostOps2_4_W ++ hostOps2_5_W ++ hostOps2_6_W ++ hostOps2_7_W ++ hostOps2_8_W) : st2 V r = V r := by
  simp only [List.mem_append, not_or] at h
  refine (StableHlo.after_of_writes_sub hostOps2_8 _ hostOps2_8_writes h.2).trans ?_
  refine (StableHlo.after_of_writes_sub hostOps2_7 _ hostOps2_7_writes h.1.2).trans ?_
  refine (StableHlo.after_of_writes_sub hostOps2_6 _ hostOps2_6_writes h.1.1.2).trans ?_
  refine (StableHlo.after_of_writes_sub hostOps2_5 _ hostOps2_5_writes h.1.1.1.2).trans ?_
  refine (StableHlo.after_of_writes_sub hostOps2_4 _ hostOps2_4_writes h.1.1.1.1.2).trans ?_
  refine (StableHlo.after_of_writes_sub hostOps2_3 _ hostOps2_3_writes h.1.1.1.1.1.2).trans ?_
  refine (StableHlo.after_of_writes_sub hostOps2_2 _ hostOps2_2_writes h.1.1.1.1.1.1.2).trans ?_
  refine (StableHlo.after_of_writes_sub hostOps2_1 _ hostOps2_1_writes h.1.1.1.1.1.1.1.2).trans ?_
  refine (StableHlo.after_of_writes_sub hostOps2 _ hostOps2_writes h.1.1.1.1.1.1.1.1).trans ?_
  rfl

/-- A buffer that stretch 3 of the host operations does not write keeps its contents. -/
theorem st3_of (V : Valuation τ sig (Elt F)) (r : Ref sig .tc) (h : r ∉ hostOps3_W ++ hostOps3_1_W ++ hostOps3_2_W ++ hostOps3_3_W ++ hostOps3_4_W ++ hostOps3_5_W ++ hostOps3_6_W ++ hostOps3_7_W ++ hostOps3_8_W) : st3 V r = V r := by
  simp only [List.mem_append, not_or] at h
  refine (StableHlo.after_of_writes_sub hostOps3_8 _ hostOps3_8_writes h.2).trans ?_
  refine (StableHlo.after_of_writes_sub hostOps3_7 _ hostOps3_7_writes h.1.2).trans ?_
  refine (StableHlo.after_of_writes_sub hostOps3_6 _ hostOps3_6_writes h.1.1.2).trans ?_
  refine (StableHlo.after_of_writes_sub hostOps3_5 _ hostOps3_5_writes h.1.1.1.2).trans ?_
  refine (StableHlo.after_of_writes_sub hostOps3_4 _ hostOps3_4_writes h.1.1.1.1.2).trans ?_
  refine (StableHlo.after_of_writes_sub hostOps3_3 _ hostOps3_3_writes h.1.1.1.1.1.2).trans ?_
  refine (StableHlo.after_of_writes_sub hostOps3_2 _ hostOps3_2_writes h.1.1.1.1.1.1.2).trans ?_
  refine (StableHlo.after_of_writes_sub hostOps3_1 _ hostOps3_1_writes h.1.1.1.1.1.1.1.2).trans ?_
  refine (StableHlo.after_of_writes_sub hostOps3 _ hostOps3_writes h.1.1.1.1.1.1.1.1).trans ?_
  rfl

/-- A buffer that stretch 4 of the host operations does not write keeps its contents. -/
theorem st4_of (V : Valuation τ sig (Elt F)) (r : Ref sig .tc) (h : r ∉ hostOps4_W) : st4 V r = V r := by
  refine (StableHlo.after_of_writes_sub hostOps4 _ hostOps4_writes h).trans ?_
  rfl

theorem Next.of {V : Valuation τ sig (Elt F)} {p : Fin 4} {o : Fin (pcfgs (F := F) p).W} {c : Dev nD} {V' : Valuation τ sig (Elt F)}
    (h : Next V p o c V') (r : Ref sig .tc) (hr : r ≠ Pipeline.arrRef (pcfgs (F := F) p).spec o) : V' r = V r := by
  obtain ⟨G, -, rfl⟩ := h
  exact Function.update_of_ne (StableHlo.devRef_ne_of_ne hr) _ _

/-- The program's arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem args_fresh (r : Ref sig .tc) (hr : r ∈ args) :
    r ∉ hostOps0_W ++ hostOps0_1_W ++ hostOps0_2_W ++ hostOps0_3_W ++ hostOps0_4_W
    ∧ r ∉ hostOps1_W ++ hostOps1_1_W ++ hostOps1_2_W ++ hostOps1_3_W ++ hostOps1_4_W ++ hostOps1_5_W ++ hostOps1_6_W ++ hostOps1_7_W ++ hostOps1_8_W
    ∧ r ∉ hostOps2_W ++ hostOps2_1_W ++ hostOps2_2_W ++ hostOps2_3_W ++ hostOps2_4_W ++ hostOps2_5_W ++ hostOps2_6_W ++ hostOps2_7_W ++ hostOps2_8_W
    ∧ r ∉ hostOps3_W ++ hostOps3_1_W ++ hostOps3_2_W ++ hostOps3_3_W ++ hostOps3_4_W ++ hostOps3_5_W ++ hostOps3_6_W ++ hostOps3_7_W ++ hostOps3_8_W
    ∧ r ∉ hostOps4_W
    ∧ r ≠ main_v19 ∧ r ≠ main_v40 ∧ r ≠ main_v62 ∧ r ≠ main_v84 := by
  revert r; decide

/-- No item writes an argument. -/
theorem At.arg {c : Dev nD} {V : Valuation τ sig (Elt F)} (h : At m 4 c V) (r : Ref sig .tc) (hr : r ∈ args) : st4 V r = m ((c : Thread nD τ).loc r) := by
  obtain ⟨X, ⟨W, ⟨U, ⟨T, rfl, h0⟩, h1⟩, h2⟩, h3⟩ := h
  obtain ⟨a0, a1, a2, a3, a4, b0, b1, b2, b3⟩ := args_fresh r hr
  exact (st4_of V r a4).trans <| (h3.of r b3).trans <| (st3_of X r a3).trans <| (h2.of r b2).trans <| (st2_of W r a2).trans <|
    (h1.of r b1).trans <| (st1_of U r a1).trans <| (h0.of r b0).trans <| st0_of _ r a0

theorem mem_ucRefs (r : Ref sig .tc) (hr : r.isScoped = false) : Proc.devRef .tc r ∈ Pipeline.ucRefs τ sig :=
  Finset.mem_filter.mpr ⟨StableHlo.devRef_mem_tcRefs r, by rw [show (Proc.devRef (τ := τ) .tc r).isScoped = r.isScoped from rfl, hr]; decide⟩

/-- What every run leaves of the arguments and the counters. -/
theorem frame_run (ρ : Dev nD → PrngReg) :
    θ_run (defs (F := F)) (onTc (main (F := F))) ⟨m, fun _ => 0, ρ⟩ fun r => (∀ c : Dev nD, ∀ b ∈ args, r.2.mem ((c : Thread nD τ).loc b) = m ((c : Thread nD τ).loc b)) ∧ r.2.sem = fun _ => 0 := by
  refine (θ_run _ _ _).mono ?_ (run m ρ)
  rintro r ⟨h, hs⟩
  refine ⟨fun c b hb => ?_, hs⟩
  obtain ⟨V, hV, hr⟩ := h c
  exact (hr _ (mem_ucRefs b (by revert b; decide))).trans (hV.arg m b hb)

/-- The frame, argument by argument. -/
theorem frame (ρ : Dev nD → PrngReg) :
    θ_run (defs (F := F)) (onTc (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) ∧ r.2.sem = fun _ => 0 :=
  (θ_run _ _ _).mono (fun r h => ⟨fun c => ⟨h.1 c main_arg0 (by decide), h.1 c main_arg1 (by decide), h.1 c main_arg2 (by decide), h.1 c main_arg3 (by decide), h.1 c main_arg4 (by decide), h.1 c main_arg5 (by decide), h.1 c main_arg6 (by decide), h.1 c main_arg7 (by decide), h.1 c main_arg8 (by decide), h.1 c main_arg9 (by decide), h.1 c main_arg10 (by decide), h.1 c main_arg11 (by decide), h.1 c main_arg12 (by decide), h.1 c main_arg13 (by decide), h.1 c main_arg14 (by decide), h.1 c main_arg15 (by decide), h.1 c main_arg16 (by decide), h.1 c main_arg17 (by decide), h.1 c main_arg18 (by decide), h.1 c main_arg19 (by decide), h.1 c main_arg20 (by decide), h.1 c main_arg21 (by decide)⟩, h.2⟩) (frame_run m ρ)

end Cert.Proof.K

end
-- ==== Proof.Same0.lean ====
module

public import proofs.«01_k».proof.Proof.Gen.Kernel
public import proofs.«01_k».proof.Proof.Gen.KernelIdeal

@[expose] public section

set_option maxHeartbeats 0
set_option maxRecDepth 20000

noncomputable section

/- The kernel is printed twice, once over machine words and once for the ideal reading, with the same operations at any
   float values: here one program is shown to be the other, part by part. -/
namespace Cert.Proof.Same

open Idealize.ShloMosaic Idealize.SL.Sem

variable {F : FTy → Type} [FloatOps F]

theorem k0_part1 : @Cert.Kernel.k0_part1 F _ _ = @Cert.KernelIdeal.k0_part1 F _ _ := rfl
theorem k0_part2 : @Cert.Kernel.k0_part2 F _ _ = @Cert.KernelIdeal.k0_part2 F _ _ := rfl
theorem k0_part3 : @Cert.Kernel.k0_part3 F _ _ = @Cert.KernelIdeal.k0_part3 F _ _ := rfl
theorem k0_part4 : @Cert.Kernel.k0_part4 F _ _ = @Cert.KernelIdeal.k0_part4 F _ _ := rfl
theorem k0_part5 : @Cert.Kernel.k0_part5 F _ _ = @Cert.KernelIdeal.k0_part5 F _ _ := rfl
theorem k0_part6 : @Cert.Kernel.k0_part6 F _ _ = @Cert.KernelIdeal.k0_part6 F _ _ := rfl
theorem k0_part7 : @Cert.Kernel.k0_part7 F _ _ = @Cert.KernelIdeal.k0_part7 F _ _ := rfl
theorem k0_part8 : @Cert.Kernel.k0_part8 F _ _ = @Cert.KernelIdeal.k0_part8 F _ _ := rfl
theorem k0_part9 : @Cert.Kernel.k0_part9 F _ _ = @Cert.KernelIdeal.k0_part9 F _ _ := rfl
theorem k0_part10 : @Cert.Kernel.k0_part10 F _ _ = @Cert.KernelIdeal.k0_part10 F _ _ := rfl
theorem k0_part11 : @Cert.Kernel.k0_part11 F _ _ = @Cert.KernelIdeal.k0_part11 F _ _ := rfl
theorem k0_part12 : @Cert.Kernel.k0_part12 F _ _ = @Cert.KernelIdeal.k0_part12 F _ _ := rfl
theorem k0_part13 : @Cert.Kernel.k0_part13 F _ _ = @Cert.KernelIdeal.k0_part13 F _ _ := rfl
theorem k0_part14 : @Cert.Kernel.k0_part14 F _ _ = @Cert.KernelIdeal.k0_part14 F _ _ := rfl
theorem k0_part15 : @Cert.Kernel.k0_part15 F _ _ = @Cert.KernelIdeal.k0_part15 F _ _ := rfl
theorem k0_part16 : @Cert.Kernel.k0_part16 F _ _ = @Cert.KernelIdeal.k0_part16 F _ _ := rfl
theorem k0_part17 : @Cert.Kernel.k0_part17 F _ _ = @Cert.KernelIdeal.k0_part17 F _ _ := rfl
theorem k0_part18 : @Cert.Kernel.k0_part18 F _ _ = @Cert.KernelIdeal.k0_part18 F _ _ := rfl
theorem k0_part19 : @Cert.Kernel.k0_part19 F _ _ = @Cert.KernelIdeal.k0_part19 F _ _ := rfl
theorem k0_part20 : @Cert.Kernel.k0_part20 F _ _ = @Cert.KernelIdeal.k0_part20 F _ _ := rfl
theorem k0_part21 : @Cert.Kernel.k0_part21 F _ _ = @Cert.KernelIdeal.k0_part21 F _ _ := rfl
theorem k0_part22 : @Cert.Kernel.k0_part22 F _ _ = @Cert.KernelIdeal.k0_part22 F _ _ := rfl
theorem k0_part23 : @Cert.Kernel.k0_part23 F _ _ = @Cert.KernelIdeal.k0_part23 F _ _ := rfl

theorem body0 : @Cert.Kernel.cc0__groupA_body F _ _ = @Cert.KernelIdeal.cc0__groupA_body F _ _ := by
  unfold Cert.Kernel.cc0__groupA_body Cert.KernelIdeal.cc0__groupA_body
  simp only [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23]
  rfl

end Cert.Proof.Same

end
-- ==== Proof.Same1.lean ====
module

public import proofs.«01_k».proof.Proof.Gen.Kernel
public import proofs.«01_k».proof.Proof.Gen.KernelIdeal

@[expose] public section

set_option maxHeartbeats 0
set_option maxRecDepth 20000

noncomputable section

/- The kernel is printed twice, once over machine words and once for the ideal reading, with the same operations at any
   float values: here one program is shown to be the other, part by part. -/
namespace Cert.Proof.Same

open Idealize.ShloMosaic Idealize.SL.Sem

variable {F : FTy → Type} [FloatOps F]

theorem k1_part1 : @Cert.Kernel.k1_part1 F _ _ = @Cert.KernelIdeal.k1_part1 F _ _ := rfl
theorem k1_part2 : @Cert.Kernel.k1_part2 F _ _ = @Cert.KernelIdeal.k1_part2 F _ _ := rfl
theorem k1_part3 : @Cert.Kernel.k1_part3 F _ _ = @Cert.KernelIdeal.k1_part3 F _ _ := rfl
theorem k1_part4 : @Cert.Kernel.k1_part4 F _ _ = @Cert.KernelIdeal.k1_part4 F _ _ := rfl

theorem body1 : @Cert.Kernel.cc1__group_body F _ _ = @Cert.KernelIdeal.cc1__group_body F _ _ := by
  unfold Cert.Kernel.cc1__group_body Cert.KernelIdeal.cc1__group_body
  simp only [k1_part1, k1_part2, k1_part3, k1_part4]
  rfl

end Cert.Proof.Same

end
-- ==== Proof.Same2.lean ====
module

public import proofs.«01_k».proof.Proof.Gen.Kernel
public import proofs.«01_k».proof.Proof.Gen.KernelIdeal

@[expose] public section

set_option maxHeartbeats 0
set_option maxRecDepth 20000

noncomputable section

/- The kernel is printed twice, once over machine words and once for the ideal reading, with the same operations at any
   float values: here one program is shown to be the other, part by part. -/
namespace Cert.Proof.Same

open Idealize.ShloMosaic Idealize.SL.Sem

variable {F : FTy → Type} [FloatOps F]

theorem k2_part1 : @Cert.Kernel.k2_part1 F _ _ = @Cert.KernelIdeal.k2_part1 F _ _ := rfl
theorem k2_part2 : @Cert.Kernel.k2_part2 F _ _ = @Cert.KernelIdeal.k2_part2 F _ _ := rfl
theorem k2_part3 : @Cert.Kernel.k2_part3 F _ _ = @Cert.KernelIdeal.k2_part3 F _ _ := rfl
theorem k2_part4 : @Cert.Kernel.k2_part4 F _ _ = @Cert.KernelIdeal.k2_part4 F _ _ := rfl
theorem k2_part5 : @Cert.Kernel.k2_part5 F _ _ = @Cert.KernelIdeal.k2_part5 F _ _ := rfl
theorem k2_part6 : @Cert.Kernel.k2_part6 F _ _ = @Cert.KernelIdeal.k2_part6 F _ _ := rfl
theorem k2_part7 : @Cert.Kernel.k2_part7 F _ _ = @Cert.KernelIdeal.k2_part7 F _ _ := rfl
theorem k2_part8 : @Cert.Kernel.k2_part8 F _ _ = @Cert.KernelIdeal.k2_part8 F _ _ := rfl

theorem body2 : @Cert.Kernel.cc2__group_body F _ _ = @Cert.KernelIdeal.cc2__group_body F _ _ := by
  unfold Cert.Kernel.cc2__group_body Cert.KernelIdeal.cc2__group_body
  simp only [k2_part1, k2_part2, k2_part3, k2_part4, k2_part5, k2_part6, k2_part7, k2_part8]
  rfl

end Cert.Proof.Same

end
-- ==== Proof.Same3.lean ====
module

public import proofs.«01_k».proof.Proof.Gen.Kernel
public import proofs.«01_k».proof.Proof.Gen.KernelIdeal

@[expose] public section

set_option maxHeartbeats 0
set_option maxRecDepth 20000

noncomputable section

/- The kernel is printed twice, once over machine words and once for the ideal reading, with the same operations at any
   float values: here one program is shown to be the other, part by part. -/
namespace Cert.Proof.Same

open Idealize.ShloMosaic Idealize.SL.Sem

variable {F : FTy → Type} [FloatOps F]

theorem k3_part1 : @Cert.Kernel.k3_part1 F _ _ = @Cert.KernelIdeal.k3_part1 F _ _ := rfl
theorem k3_part2 : @Cert.Kernel.k3_part2 F _ _ = @Cert.KernelIdeal.k3_part2 F _ _ := rfl
theorem k3_part3 : @Cert.Kernel.k3_part3 F _ _ = @Cert.KernelIdeal.k3_part3 F _ _ := rfl
theorem k3_part4 : @Cert.Kernel.k3_part4 F _ _ = @Cert.KernelIdeal.k3_part4 F _ _ := rfl
theorem k3_part5 : @Cert.Kernel.k3_part5 F _ _ = @Cert.KernelIdeal.k3_part5 F _ _ := rfl
theorem k3_part6 : @Cert.Kernel.k3_part6 F _ _ = @Cert.KernelIdeal.k3_part6 F _ _ := rfl
theorem k3_part7 : @Cert.Kernel.k3_part7 F _ _ = @Cert.KernelIdeal.k3_part7 F _ _ := rfl
theorem k3_part8 : @Cert.Kernel.k3_part8 F _ _ = @Cert.KernelIdeal.k3_part8 F _ _ := rfl

theorem body3 : @Cert.Kernel.cc3__group_body F _ _ = @Cert.KernelIdeal.cc3__group_body F _ _ := by
  unfold Cert.Kernel.cc3__group_body Cert.KernelIdeal.cc3__group_body
  simp only [k3_part1, k3_part2, k3_part3, k3_part4, k3_part5, k3_part6, k3_part7, k3_part8]
  rfl

end Cert.Proof.Same

end
-- ==== Proof.Same.lean ====
module

public import proofs.«01_k».proof.Proof.Same0
public import proofs.«01_k».proof.Proof.Same1
public import proofs.«01_k».proof.Proof.Same2
public import proofs.«01_k».proof.Proof.Same3

@[expose] public section

set_option maxHeartbeats 0
set_option maxRecDepth 20000

noncomputable section

namespace Cert.Proof.Same

open Idealize.ShloMosaic Idealize.SL.Sem

variable {F : FTy → Type} [FloatOps F]

theorem bodies : @Cert.Kernel.defs₀ F _ _ = @Cert.KernelIdeal.defs₀ F _ _ := by
  unfold Cert.Kernel.defs₀ Cert.KernelIdeal.defs₀
  rw [body0, body1, body2, body3]
  refine congrArg Defs.onTc (funext fun l => funext fun a => ?_)
  match l, a with
  | 0, (t, s) => rfl
  | 1, (t, s) => rfl
  | 2, (t, s) => rfl
  | 3, (t, s) => rfl

theorem defs : @Cert.Kernel.defs F _ _ = @Cert.KernelIdeal.defs F _ _ := by
  unfold Cert.Kernel.defs Cert.KernelIdeal.defs
  rw [bodies]
  rfl

theorem main_part0 : @Cert.Kernel.main_part0 F _ _ = @Cert.KernelIdeal.main_part0 F _ _ := rfl

theorem main_part1 : @Cert.Kernel.main_part1 F _ _ = @Cert.KernelIdeal.main_part1 F _ _ := rfl

theorem main : @Cert.Kernel.main F _ _ = @Cert.KernelIdeal.main F _ _ := by
  unfold Cert.Kernel.main Cert.KernelIdeal.main
  rw [main_part0, main_part1]

end Cert.Proof.Same

end
-- ==== Proof.Spec.lean ====
module

public import proofs.«01_k».proof.Proof.Base
public import Idealize.ShloMosaic.Lib.Pointwise
public import Idealize.ShloMosaic.Lib.Updates.Memory
public import Idealize.ShloMosaic.Lib.Updates.Values

@[expose] public section

noncomputable section

namespace Cert.Proof.Net

/-- An image with channels: row, column, channel. -/
abbrev Img := ℕ → ℕ → ℕ → EReal

/-- The nine shifted products of a 3 by 3 layer, added up in order, the bias added, negative results made zero: `x t c` is channel `c`
    of the neighbour number `t`, `W t c o` the weight from there to channel `o`. -/
def dot9 (n : ℕ) (x : ℕ → ℕ → EReal) (W : ℕ → ℕ → ℕ → EReal) (b : ℕ → EReal) (o : ℕ) : EReal :=
  max (((((((((∑ c : Fin n, x 0 c * W 0 c o) + (∑ c : Fin n, x 1 c * W 1 c o)) + (∑ c : Fin n, x 2 c * W 2 c o))
    + (∑ c : Fin n, x 3 c * W 3 c o)) + (∑ c : Fin n, x 4 c * W 4 c o)) + (∑ c : Fin n, x 5 c * W 5 c o))
    + (∑ c : Fin n, x 6 c * W 6 c o)) + (∑ c : Fin n, x 7 c * W 7 c o)) + (∑ c : Fin n, x 8 c * W 8 c o) + b o) 0

/-- Sums over equal neighbours and equal weights are equal. -/
theorem dot9_congr {n : ℕ} {x x' : ℕ → ℕ → EReal} {W W' : ℕ → ℕ → ℕ → EReal} {b b' : ℕ → EReal} {o : ℕ}
    (hx : ∀ t c, t < 9 → c < n → x t c = x' t c) (hW : ∀ t c, t < 9 → c < n → W t c o = W' t c o) (hb : b o = b' o) :
    dot9 n x W b o = dot9 n x' W' b' o := by
  have h : ∀ t, t < 9 → (∑ c : Fin n, x t c * W t c o) = ∑ c : Fin n, x' t c * W' t c o := fun t ht =>
    Finset.sum_congr rfl fun c _ => by rw [hx t c ht c.isLt, hW t c ht c.isLt]
  unfold dot9
  rw [h 0 (by omega), h 1 (by omega), h 2 (by omega), h 3 (by omega), h 4 (by omega), h 5 (by omega), h 6 (by omega),
    h 7 (by omega), h 8 (by omega), hb]

/-- The image with a border of zeros one pixel wide, read with the border's corner at (0, 0). -/
def zpad (h w : ℕ) (G : Img) : Img := fun i j c => if (1 ≤ i ∧ i ≤ h) ∧ (1 ≤ j ∧ j ≤ w) then G (i - 1) (j - 1) c else 0

/-- A 3 by 3 convolution over the zero-bordered image, with bias, negative results made zero. -/
def conv (h w n : ℕ) (W : ℕ → ℕ → ℕ → EReal) (b : ℕ → EReal) (G : Img) : Img := fun i j o =>
  dot9 n (fun t c => zpad h w G (i + t / 3) (j + t % 3) c) W b o

/-- The same over the image whose edge pixels stand also for the neighbours beyond the edge. -/
def gconv (h w n : ℕ) (W : ℕ → ℕ → ℕ → EReal) (b : ℕ → EReal) (G : Img) : Img := fun i j o =>
  dot9 n (fun t c => G (min (i + t / 3 - 1) (h - 1)) (min (j + t % 3 - 1) (w - 1)) c) W b o

/-- The greatest of each 2 by 2 square. -/
def pool (G : Img) : Img := fun i j c =>
  max (max (G (2 * i) (2 * j) c) (G (2 * i) (2 * j + 1) c)) (max (G (2 * i + 1) (2 * j) c) (G (2 * i + 1) (2 * j + 1) c))

end Cert.Proof.Net

end
-- ==== Proof.Rows.lean ====
module

public import proofs.«01_k».proof.Proof.Spec
public import Idealize.ShloMosaic.Lib.WritesUnit

@[expose] public section

noncomputable section

namespace Cert.Proof.Net

open Idealize.ShloMosaic

variable {sig : RefSig} {κ : Kind} {sp : Space} {e : EltTy} {Val : EltTy → Type} {β : Type}

/-- A matrix is the function `A` of its row and column. -/
def Is2 {m n : ℕ} (x : (⟨2, ![m, n]⟩ : Shape).Idx → β) (A : ℕ → ℕ → β) : Prop := ∀ i, x i = A (i 0).val (i 1).val

/-- A box is the function `A` of its three coordinates. -/
def Is3 {l m n : ℕ} (x : (⟨3, ![l, m, n]⟩ : Shape).Idx → β) (A : ℕ → ℕ → ℕ → β) : Prop :=
  ∀ i, x i = A (i 0).val (i 1).val (i 2).val

/-- Whatever the buffer held before, once the stores `L` are made its rows from `lo` up to `hi` are those of `P`. -/
def Cov {m n : ℕ} (v : View sig κ sp ⟨2, ![m, n]⟩ e) (L : List (View.Piece Val ⟨2, ![m, n]⟩ e)) (P : ℕ → ℕ → Val e) (lo hi : ℕ) : Prop :=
  ∀ (f : v.ty.Contents Val) (i : (⟨2, ![m, n]⟩ : Shape).Idx), lo ≤ (i 0).val → (i 0).val < hi →
    v.read Val (v.writes Val f L) i = P (i 0).val (i 1).val

variable {m n k h : ℕ} {v : View sig κ sp ⟨2, ![m, n]⟩ e} {L : List (View.Piece Val ⟨2, ![m, n]⟩ e)} {P P' : ℕ → ℕ → Val e} {lo hi lo' hi' : ℕ}

/-- No stores give no rows. -/
theorem cov_nil : Cov v L P lo lo := fun _ _ h1 h2 => absurd h2 (by omega)

/-- Rows of `P` are rows of any function that agrees with it there. -/
theorem Cov.congr (hc : Cov v L P lo hi) (hP : ∀ r c, lo' ≤ r → r < hi' → c < n → P r c = P' r c) (h1 : lo ≤ lo') (h2 : hi' ≤ hi) :
    Cov v L P' lo' hi' := fun f i a b => by
  rw [hc f i (by omega) (by omega)]
  exact hP _ _ a b (i 1).isLt

/-- A store of whole rows puts them in place of what earlier stores left. -/
theorem Cov.cons (hc : Cov v L P lo hi) {A : ℕ → ℕ → Val e} (inb : ∀ a : Fin 2, (![k, 0] : Fin 2 → ℕ) a + (![h, n] : Fin 2 → ℕ) a ≤ (![m, n] : Fin 2 → ℕ) a)
    {w : (⟨2, ![h, n]⟩ : Shape).Idx → Val e} (hw : Is2 w A)
    (hP : ∀ r c, lo' ≤ r → r < hi' → c < n → (k ≤ r → r < k + h → P' r c = A (r - k) c) ∧ ((r < k ∨ k + h ≤ r) → P' r c = P r c ∧ lo ≤ r ∧ r < hi)) :
    Cov v (⟨Rect.unit (s := ⟨2, ![m, n]⟩) ![k, 0] ![h, n] inb, w⟩ :: L) P' lo' hi' := fun f i a b => by
  have hb : (i 1).val < n := (i 1).isLt
  obtain ⟨p, q⟩ := hP (i 0).val (i 1).val a b hb
  by_cases hk : k ≤ (i 0).val ∧ (i 0).val < k + h
  · rw [p hk.1 hk.2]
    refine (View.read_writes_cons_rows_of_mem v f inb w L i (ix2 ⟨(i 0).val - k, by omega⟩ ⟨(i 1).val, hb⟩) rfl ?_ rfl).trans ?_
    · show (i 0).val = k + ((i 0).val - k); omega
    · exact hw _
  · obtain ⟨q1, q2, q3⟩ := q (by omega)
    rw [q1, ← hc f i q2 q3]
    exact View.read_writes_cons_rows_of_not_mem v f inb w L i rfl rfl (show _ < k ∨ k + h ≤ _ by omega)

/-- A first store of whole rows. -/
theorem cov_one {A : ℕ → ℕ → Val e} (inb : ∀ a : Fin 2, (![k, 0] : Fin 2 → ℕ) a + (![h, n] : Fin 2 → ℕ) a ≤ (![m, n] : Fin 2 → ℕ) a)
    {w : (⟨2, ![h, n]⟩ : Shape).Idx → Val e} (hw : Is2 w A) :
    Cov v (⟨Rect.unit (s := ⟨2, ![m, n]⟩) ![k, 0] ![h, n] inb, w⟩ :: L) (fun r c => A (r - k) c) k (k + h) :=
  (cov_nil (P := fun r c => A (r - k) c) (lo := k)).cons inb hw fun r c h1 h2 _ => ⟨fun _ _ => rfl, fun h3 => by omega⟩

/-- A store of the whole buffer. -/
theorem cov_all {A : ℕ → ℕ → Val e} (inb : ∀ a : Fin 2, (![0, 0] : Fin 2 → ℕ) a + (![m, n] : Fin 2 → ℕ) a ≤ (![m, n] : Fin 2 → ℕ) a)
    {w : (⟨2, ![m, n]⟩ : Shape).Idx → Val e} (hw : Is2 w A) :
    Cov v (⟨Rect.unit (s := ⟨2, ![m, n]⟩) ![0, 0] ![m, n] inb, w⟩ :: L) A 0 m :=
  (cov_one inb hw).congr (fun r c _ _ _ => by rw [Nat.sub_zero]) (by omega) (by omega)

/-- The place in its buffer of a place of a loaded block of rows. -/
theorem emb_rows (inb : ∀ a : Fin 2, (![k, 0] : Fin 2 → ℕ) a + (![h, n] : Fin 2 → ℕ) a ≤ (![m, n] : Fin 2 → ℕ) a) (x : (⟨2, ![h, n]⟩ : Shape).Idx) :
    ((Rect.unit (s := ⟨2, ![m, n]⟩) ![k, 0] ![h, n] inb).toLoadRect.idx x 0).val = k + (x 0).val
    ∧ ((Rect.unit (s := ⟨2, ![m, n]⟩) ![k, 0] ![h, n] inb).toLoadRect.idx x 1).val = (x 1).val := by
  constructor
  · show k + 1 * (x 0).val = _; omega
  · show 0 + 1 * (x 1).val = _; omega

/-- A row loaded after the stores. -/
theorem Cov.load (hc : Cov v L P lo hi) (f : v.ty.Contents Val) (inb : ∀ a : Fin 2, (![k, 0] : Fin 2 → ℕ) a + (![h, n] : Fin 2 → ℕ) a ≤ (![m, n] : Fin 2 → ℕ) a)
    (x : (⟨2, ![h, n]⟩ : Shape).Idx) (h1 : lo ≤ k + (x 0).val) (h2 : k + (x 0).val < hi) :
    View.readAt Val v (Rect.unit (s := ⟨2, ![m, n]⟩) ![k, 0] ![h, n] inb).toLoadRect (v.writes Val f L) x = P (k + (x 0).val) (x 1).val := by
  obtain ⟨e0, e1⟩ := emb_rows inb x
  rw [View.readAt_apply, hc f _ (by rw [e0]; exact h1) (by rw [e0]; exact h2), e0, e1]

/-- The same, the load stated over the stores alone. -/
theorem Cov.loadCov [∀ e, Nonempty (Val e)] (hc : Cov v L P lo hi) (inb : ∀ a : Fin 2, (![k, 0] : Fin 2 → ℕ) a + (![h, n] : Fin 2 → ℕ) a ≤ (![m, n] : Fin 2 → ℕ) a)
    (x : (⟨2, ![h, n]⟩ : Shape).Idx) (h1 : lo ≤ k + (x 0).val) (h2 : k + (x 0).val < hi) :
    v.readCov L (Rect.unit (s := ⟨2, ![m, n]⟩) ![k, 0] ![h, n] inb).toLoadRect x = P (k + (x 0).val) (x 1).val :=
  hc.load v.junk inb x h1 h2

/-- A row loaded from a buffer known as a matrix. -/
theorem Is2.load {f : v.ty.Contents Val} (hf : Is2 (v.read Val f) P) (inb : ∀ a : Fin 2, (![k, 0] : Fin 2 → ℕ) a + (![h, n] : Fin 2 → ℕ) a ≤ (![m, n] : Fin 2 → ℕ) a)
    (x : (⟨2, ![h, n]⟩ : Shape).Idx) :
    View.readAt Val v (Rect.unit (s := ⟨2, ![m, n]⟩) ![k, 0] ![h, n] inb).toLoadRect f x = P (k + (x 0).val) (x 1).val := by
  obtain ⟨e0, e1⟩ := emb_rows inb x
  rw [View.readAt_apply, hf, e0, e1]

/-- A slab loaded from a buffer known as a box. -/
theorem Is3.load {l t : ℕ} {v : View sig κ sp ⟨3, ![l, m, n]⟩ e} {f : v.ty.Contents Val} {W : ℕ → ℕ → ℕ → Val e} (hf : Is3 (v.read Val f) W)
    (inb : ∀ a : Fin 3, (![t, 0, 0] : Fin 3 → ℕ) a + (![1, m, n] : Fin 3 → ℕ) a ≤ (![l, m, n] : Fin 3 → ℕ) a)
    (c : Fin m) (o : Fin n) :
    View.readAt Val v (Rect.unit (s := ⟨3, ![l, m, n]⟩) ![t, 0, 0] ![1, m, n] inb).toLoadRect f (ix3 0 c o) = W t c.val o.val := by
  rw [View.readAt_apply, hf]
  show W (t + 1 * 0) (0 + 1 * c.val) (0 + 1 * o.val) = _
  simp

end Cert.Proof.Net

end
-- ==== Proof.Layer.lean ====
module

public import proofs.«01_k».proof.Proof.Rows
public import Idealize.ShloMosaic.Lib.WordCmp

@[expose] public section

noncomputable section

namespace Cert.Proof.Net

open Idealize.ShloMosaic

/-! ## The column number within a row -/

/-- The low bits of a row number are its remainder. -/
theorem low_bits (k r : ℕ) (hk : k < 32) :
    IntOp.andi (BitVec.ofNat 32 r) (BitVec.ofNat 32 (2 ^ k - 1)) = BitVec.ofNat 32 (r % 2 ^ k) := by
  have h1 : 2 ^ k ≤ 2 ^ 31 := Nat.pow_le_pow_right (by omega) (by omega)
  have h2 : r % 2 ^ k < 2 ^ k := Nat.mod_lt _ (by positivity)
  apply BitVec.eq_of_toNat_eq
  show (BitVec.ofNat 32 r &&& BitVec.ofNat 32 (2 ^ k - 1)).toNat = _
  rw [BitVec.toNat_and, BitVec.toNat_ofNat, BitVec.toNat_ofNat, BitVec.toNat_ofNat, Nat.mod_eq_of_lt (a := 2 ^ k - 1) (by omega),
    Nat.and_two_pow_sub_one_eq_mod, Nat.mod_eq_of_lt (a := r % 2 ^ k) (by omega)]
  exact Nat.mod_mod_of_dvd _ (pow_dvd_pow 2 (by omega))

/-- Whether a row number's column is `m`. -/
theorem col_eq {k r i j m : ℕ} (hk : k < 32) (hr : r = i * 2 ^ k + j) (hj : j < 2 ^ k) (hm : m < 2 ^ k) :
    IntOp.cmpi .eq (IntOp.andi (BitVec.ofNat 32 r) (BitVec.ofNat 32 (2 ^ k - 1))) (BitVec.ofNat 32 m) = 1#1 ↔ j = m := by
  have h1 : 2 ^ k ≤ 2 ^ 31 := Nat.pow_le_pow_right (by omega) (by omega)
  rw [low_bits k r hk, hr, Nat.add_comm, Nat.add_mul_mod_self_right, Nat.mod_eq_of_lt hj]
  exact WordCmp.cmpi_eq_ofNat_eq_one_iff (by omega) (by omega)

/-- Whether a row number's column is below `m`. -/
theorem col_lt {k r i j m : ℕ} (hk : k < 31) (hr : r = i * 2 ^ k + j) (hj : j < 2 ^ k) (hm : m < 2 ^ k) :
    IntOp.cmpi .slt (IntOp.andi (BitVec.ofNat 32 r) (BitVec.ofNat 32 (2 ^ k - 1))) (BitVec.ofNat 32 m) = 1#1 ↔ j < m := by
  have h1 : 2 ^ k ≤ 2 ^ 30 := Nat.pow_le_pow_right (by omega) (by omega)
  rw [low_bits k r (by omega), hr, Nat.add_comm, Nat.add_mul_mod_self_right, Nat.mod_eq_of_lt hj]
  exact WordCmp.cmpi_slt_ofNat_eq_one_iff (by omega) (by omega)

/-- A choice by a bit. -/
theorem sel_eq {β : Type} {c : BitVec 1} {p : Prop} [Decidable p] (h : c = 1#1 ↔ p) (a b : β) : Scalar.select c a b = if p then a else b := by
  by_cases hp : p
  · rw [if_pos hp, h.mpr hp]; rfl
  · rw [if_neg hp]
    have : c = 0#1 := (BitVec.eq_zero_or_eq_one c).resolve_right fun q => hp (h.mp q)
    rw [this]; rfl

/-! ## Matrices as functions of all pairs of numbers -/

/-- A matrix, continued by zeros. -/
@[irreducible] def arr {m n : ℕ} (x : (⟨2, ![m, n]⟩ : Shape).Idx → EReal) : ℕ → ℕ → EReal := fun r c =>
  if h : r < m ∧ c < n then x (ix2 ⟨r, h.1⟩ ⟨c, h.2⟩) else 0

/-- A matrix is its continuation. -/
theorem is2_arr {m n : ℕ} (x : (⟨2, ![m, n]⟩ : Shape).Idx → EReal) : Is2 x (arr x) := fun i => by
  have h0 : (i 0).val < m := (i 0).isLt
  have h1 : (i 1).val < n := (i 1).isLt
  unfold arr
  rw [dif_pos ⟨h0, h1⟩]
  exact congrArg x (eq_ix2 i)

/-- The continuation within the matrix. -/
theorem arr_apply {m n : ℕ} (x : (⟨2, ![m, n]⟩ : Shape).Idx → EReal) (r : Fin m) (c : Fin n) : arr x r.val c.val = x (ix2 r c) := by
  unfold arr
  rw [dif_pos ⟨r.isLt, c.isLt⟩]

/-! ## Rows of an image laid out with `wp` rows of the matrix to an image row -/

/-- The matrix whose first image row is repeated above and whose last is repeated below, all from row 16 on. -/
@[irreducible] def edgeP {β : Type} (wp h : ℕ) (A : ℕ → ℕ → β) : ℕ → ℕ → β := fun r c =>
  A (if r < 16 + wp then r - 16 else if r < 16 + wp + h * wp then r - 16 - wp else r - 16 - 2 * wp) c

/-- Such a matrix read at a pixel. -/
theorem edgeP_at {wp h w : ℕ} {A : ℕ → ℕ → EReal} {R j : ℕ} (hh : 0 < h) (hR : R < h + 2) (hj : j < wp) (c : ℕ) :
    edgeP wp h A (16 + R * wp + j) c = A (min (R - 1) (h - 1) * wp + j) c := by
  unfold edgeP
  congr 1
  rcases R with _ | R
  · rw [if_pos (by omega)]; simp
  · have e : (R + 1) * wp = R * wp + wp := Nat.succ_mul _ _
    rw [if_neg (by omega)]
    by_cases hl : R < h
    · have : (R + 1) * wp ≤ h * wp := Nat.mul_le_mul_right _ hl
      rw [if_pos (by omega)]
      have : min (R + 1 - 1) (h - 1) = R := by omega
      rw [this]; omega
    · have hRh : R = h := by omega
      subst hRh
      rw [if_neg (by omega)]
      have : min (R + 1 - 1) (R - 1) = R - 1 := by omega
      rw [this]
      have : R * wp = (R - 1) * wp + wp := by
        rw [← Nat.succ_mul]; congr 1; omega
      omega

/-- The pixels of such a matrix, rows and columns counted from the border. -/
theorem edge_rows {wp h w n : ℕ} {A : ℕ → ℕ → EReal} {G : Img} (hh : 0 < h) (hw : w ≤ wp)
    (hA : ∀ i j c, i < h → j < w → c < n → A (i * wp + j) c = G i j c) (R J c : ℕ) (hR : R < h + 2) (hJ : J < w) (hc : c < n) :
    edgeP wp h A (16 + R * wp + J) c = G (min (R - 1) (h - 1)) J c := by
  rw [edgeP_at (w := w) hh hR (by omega) c]
  exact hA _ _ _ (by omega) hJ hc

/-- The matrix with zeros before and after. -/
@[irreducible] def zeroP (wp h : ℕ) (A : ℕ → ℕ → EReal) : ℕ → ℕ → EReal := fun r c =>
  if 16 + wp ≤ r ∧ r < 16 + wp + h * wp then A (r - (16 + wp)) c else 0

/-- Such a matrix read at a pixel of the zero-bordered image. -/
theorem zeroP_at {wp h w n : ℕ} {A : ℕ → ℕ → EReal} {G : Img} (hw : w + 1 < wp)
    (hA : ∀ i j c, i < h → j < wp → c < n → A (i * wp + j) c = if j < w then G i j c else 0)
    {R J c : ℕ} (hR : R < h + 2) (hJ : J < w + 2) (hc : c < n) : zeroP wp h A (15 + R * wp + J) c = zpad h w G R J c := by
  unfold zeroP zpad
  rcases R with _ | R
  · rw [if_neg (by omega), if_neg (by omega)]
  · have e : (R + 1) * wp = R * wp + wp := Nat.succ_mul _ _
    by_cases hl : R < h
    · have hle : (R + 1) * wp ≤ h * wp := Nat.mul_le_mul_right _ hl
      rcases J with _ | J
      · rw [if_neg (c := (1 ≤ R + 1 ∧ R + 1 ≤ h) ∧ _) (by omega)]
        rcases R with _ | R
        · rw [if_neg (by omega)]
        · have e' : (R + 1) * wp = R * wp + wp := Nat.succ_mul _ _
          rw [if_pos (by omega)]
          have : 15 + (R + 1 + 1) * wp + 0 - (16 + wp) = R * wp + (wp - 1) := by omega
          rw [this, hA _ _ _ (by omega) (by omega) hc, if_neg (by omega)]
      · rw [if_pos (by omega)]
        have : 15 + (R + 1) * wp + (J + 1) - (16 + wp) = R * wp + J := by omega
        rw [this, hA _ _ _ (by omega) (by omega) hc]
        by_cases hJw : J < w
        · rw [if_pos hJw, if_pos (by omega)]; rfl
        · rw [if_neg hJw, if_neg (by omega)]
    · have hRh : R = h := by omega
      subst hRh
      rw [if_neg (c := (1 ≤ R + 1 ∧ R + 1 ≤ R) ∧ _) (by omega)]
      rcases J with _ | J
      · rcases R with _ | R
        · rw [if_neg (by omega)]
        · have e' : (R + 1) * wp = R * wp + wp := Nat.succ_mul _ _
          rw [if_pos (by omega)]
          have : 15 + (R + 1 + 1) * wp + 0 - (16 + wp) = R * wp + (wp - 1) := by omega
          rw [this, hA _ _ _ (by omega) (by omega) hc, if_neg (by omega)]
      · rw [if_neg (by omega)]

section Stores

variable {sig : RefSig} {κ : Kind} {sp : Space} {e : EltTy} {Val : EltTy → Type} [∀ e, Nonempty (Val e)]

/-- A store of the image rows, then of copies of its first and of its last image row, as loaded back, leaves the edge-repeated matrix. -/
theorem edge_cov {m n ms kb kl ke wp h : ℕ} {v : View sig κ sp ⟨2, ![m, n]⟩ e} {A : ℕ → ℕ → Val e}
    (hms : ms = h * wp) (hkb : kb = 16 + wp) (hke : ke = 16 + wp + h * wp) (hkl : kl = 16 + h * wp) (hh : 0 < h)
    (inb : ∀ a : Fin 2, (![kb, 0] : Fin 2 → ℕ) a + (![ms, n] : Fin 2 → ℕ) a ≤ (![m, n] : Fin 2 → ℕ) a)
    (inb1 : ∀ a : Fin 2, (![16, 0] : Fin 2 → ℕ) a + (![wp, n] : Fin 2 → ℕ) a ≤ (![m, n] : Fin 2 → ℕ) a)
    (inb2 : ∀ a : Fin 2, (![ke, 0] : Fin 2 → ℕ) a + (![wp, n] : Fin 2 → ℕ) a ≤ (![m, n] : Fin 2 → ℕ) a)
    (inb3 : ∀ a : Fin 2, (![kb, 0] : Fin 2 → ℕ) a + (![wp, n] : Fin 2 → ℕ) a ≤ (![m, n] : Fin 2 → ℕ) a)
    (inb4 : ∀ a : Fin 2, (![kl, 0] : Fin 2 → ℕ) a + (![wp, n] : Fin 2 → ℕ) a ≤ (![m, n] : Fin 2 → ℕ) a)
    {w : (⟨2, ![ms, n]⟩ : Shape).Idx → Val e} {w1 w2 : (⟨2, ![wp, n]⟩ : Shape).Idx → Val e} (hw : Is2 w A)
    (h1 : ∀ x, w1 x = v.readCov [⟨Rect.unit (s := ⟨2, ![m, n]⟩) ![kb, 0] ![ms, n] inb, w⟩]
      (Rect.unit (s := ⟨2, ![m, n]⟩) ![kb, 0] ![wp, n] inb3).toLoadRect x)
    (h2 : ∀ x, w2 x = v.readCov [⟨Rect.unit (s := ⟨2, ![m, n]⟩) ![16, 0] ![wp, n] inb1, w1⟩, ⟨Rect.unit (s := ⟨2, ![m, n]⟩) ![kb, 0] ![ms, n] inb, w⟩]
      (Rect.unit (s := ⟨2, ![m, n]⟩) ![kl, 0] ![wp, n] inb4).toLoadRect x) :
    Cov v [⟨Rect.unit (s := ⟨2, ![m, n]⟩) ![ke, 0] ![wp, n] inb2, w2⟩, ⟨Rect.unit (s := ⟨2, ![m, n]⟩) ![16, 0] ![wp, n] inb1, w1⟩,
      ⟨Rect.unit (s := ⟨2, ![m, n]⟩) ![kb, 0] ![ms, n] inb, w⟩] (edgeP wp h A) 16 (16 + wp + h * wp + wp) := by
  have hwp : wp ≤ h * wp := Nat.le_mul_of_pos_left _ hh
  have c1 := cov_one (v := v) (L := []) inb hw
  have a1 : Is2 w1 fun r c => A r c := fun x => by
    have hx : (x 0).val < wp := (x 0).isLt
    rw [h1 x, c1.loadCov inb3 x (by omega) (by omega)]
    congr 1; omega
  have c2 : Cov v _ (fun r c => A (if r < kb then r - 16 else r - kb) c) 16 (kb + ms) := c1.cons (k := 16) inb1 a1 fun r c p q _ =>
    ⟨fun _ _ => by rw [if_pos (by omega)], fun t => ⟨by rw [if_neg (by omega)], by omega, by omega⟩⟩
  have a2 : Is2 w2 fun r c => A (h * wp - wp + r) c := fun x => by
    have hx : (x 0).val < wp := (x 0).isLt
    rw [h2 x, c2.loadCov inb4 x (by omega) (by omega)]
    by_cases hk : kl + (x 0).val < kb
    · rw [if_pos hk]; congr 1; omega
    · rw [if_neg hk]; congr 1; omega
  refine c2.cons (k := ke) inb2 a2 fun r c p q _ => ⟨fun _ _ => ?_, fun t => ⟨?_, by omega, by omega⟩⟩
  · unfold edgeP
    rw [if_neg (by omega), if_neg (by omega)]
    congr 1; omega
  · unfold edgeP
    by_cases hr : r < 16 + wp
    · rw [if_pos hr, if_pos (by omega)]
    · rw [if_neg hr, if_pos (by omega), if_neg (by omega)]
      congr 1; omega

end Stores

section Zeros

variable {sig : RefSig} {κ : Kind} {sp : Space} {m n ms kb ke wp h : ℕ} {v : View sig κ sp ⟨2, ![m, n]⟩ .bf16} {A : ℕ → ℕ → EReal}

/-- A store of a matrix over a buffer of zeros leaves it with zeros before and after. -/
theorem zero_cov2 (hms : ms = h * wp) (hkb : kb = 16 + wp) (hm : m = kb + ms + kb)
    (inb : ∀ a : Fin 2, (![kb, 0] : Fin 2 → ℕ) a + (![ms, n] : Fin 2 → ℕ) a ≤ (![m, n] : Fin 2 → ℕ) a)
    (inb0 : ∀ a : Fin 2, (![0, 0] : Fin 2 → ℕ) a + (![m, n] : Fin 2 → ℕ) a ≤ (![m, n] : Fin 2 → ℕ) a)
    {w : (⟨2, ![ms, n]⟩ : Shape).Idx → Elt Ideal .bf16} {z : (⟨2, ![m, n]⟩ : Shape).Idx → Elt Ideal .bf16} (hw : Is2 w A)
    (hz : Is2 z fun _ _ => (0 : EReal)) :
    Cov (Val := Elt Ideal) v [⟨Rect.unit (s := ⟨2, ![m, n]⟩) ![kb, 0] ![ms, n] inb, w⟩, ⟨Rect.unit (s := ⟨2, ![m, n]⟩) ![0, 0] ![m, n] inb0, z⟩]
      (zeroP wp h A) 0 m := by
  have c0 := cov_one (v := v) (Val := Elt Ideal) (L := []) inb0 hz
  refine c0.cons (k := kb) inb hw fun r c p q _ => ⟨fun _ _ => ?_, fun t => ⟨?_, by omega, by omega⟩⟩
  · unfold zeroP
    rw [if_pos (by omega), hkb]
  · unfold zeroP
    rw [if_neg (by omega)]

/-- Stores of zeros before and after a matrix, then of the matrix. -/
theorem zero_cov3 (hms : ms = h * wp) (hkb : kb = 16 + wp) (hke : ke = kb + ms) (hm : m = kb + ms + kb)
    (inb : ∀ a : Fin 2, (![kb, 0] : Fin 2 → ℕ) a + (![ms, n] : Fin 2 → ℕ) a ≤ (![m, n] : Fin 2 → ℕ) a)
    (inb1 : ∀ a : Fin 2, (![ke, 0] : Fin 2 → ℕ) a + (![kb, n] : Fin 2 → ℕ) a ≤ (![m, n] : Fin 2 → ℕ) a)
    (inb0 : ∀ a : Fin 2, (![0, 0] : Fin 2 → ℕ) a + (![kb, n] : Fin 2 → ℕ) a ≤ (![m, n] : Fin 2 → ℕ) a)
    {w : (⟨2, ![ms, n]⟩ : Shape).Idx → Elt Ideal .bf16} {z0 z1 : (⟨2, ![kb, n]⟩ : Shape).Idx → Elt Ideal .bf16} (hw : Is2 w A)
    (hz0 : Is2 z0 fun _ _ => (0 : EReal)) (hz1 : Is2 z1 fun _ _ => (0 : EReal)) :
    Cov (Val := Elt Ideal) v [⟨Rect.unit (s := ⟨2, ![m, n]⟩) ![kb, 0] ![ms, n] inb, w⟩, ⟨Rect.unit (s := ⟨2, ![m, n]⟩) ![ke, 0] ![kb, n] inb1, z1⟩,
      ⟨Rect.unit (s := ⟨2, ![m, n]⟩) ![0, 0] ![kb, n] inb0, z0⟩] (zeroP wp h A) 0 m := fun f i _ hi => by
  have c0 : Cov (Val := Elt Ideal) v [⟨Rect.unit (s := ⟨2, ![m, n]⟩) ![0, 0] ![kb, n] inb0, z0⟩] (fun _ _ => (0 : EReal)) 0 (0 + kb) := cov_one inb0 hz0
  by_cases hk : (i 0).val < kb + ms
  · exact ((c0.cons (L := _ :: _) (k := ke) (lo' := 0) (hi' := kb) (P' := fun _ _ => (0 : EReal)) inb1 hz1
        fun r c p q _ => ⟨fun _ _ => rfl, fun t => ⟨rfl, by omega, by omega⟩⟩).cons (k := kb) (lo' := 0) (hi' := kb + ms) (P' := zeroP wp h A) inb hw fun r c p q _ =>
          ⟨fun _ _ => by unfold zeroP; rw [if_pos (by omega), hkb], fun t => ⟨by unfold zeroP; rw [if_neg (by omega)], by omega, by omega⟩⟩) f i (by omega) hk
  · exact ((cov_one (L := [_]) inb1 hz1).cons (k := kb) (lo' := kb + ms) (hi' := m) (P' := zeroP wp h A) inb hw fun r c p q _ =>
          ⟨fun _ _ => by omega, fun t => ⟨by unfold zeroP; rw [if_neg (by omega)], by omega, by omega⟩⟩) f i (by omega) hi

end Zeros

/-! ## One layer at one pixel -/

variable {n h w wp i j r o : ℕ} {W : ℕ → ℕ → ℕ → EReal} {B : ℕ → EReal} {G : Img} {P : ℕ → ℕ → EReal}
  {x00 x01 x02 x10 x11 x12 x20 x21 x22 w0 w1 w2 w3 w4 w5 w6 w7 w8 : Fin n → EReal} {b : EReal}

/-- A zero-bordered layer, from its nine shifted loads. -/
theorem conv_at (hi : i < h) (hj : j < w) (hr : r = i * wp + j)
    (hP : ∀ R J c, R < h + 2 → J < w + 2 → c < n → P (15 + R * wp + J) c = zpad h w G R J c)
    (h00 : ∀ c, x00 c = P (15 + r) c) (h01 : ∀ c, x01 c = P (16 + r) c) (h02 : ∀ c, x02 c = P (17 + r) c)
    (h10 : ∀ c, x10 c = P (15 + wp + r) c) (h11 : ∀ c, x11 c = P (16 + wp + r) c) (h12 : ∀ c, x12 c = P (17 + wp + r) c)
    (h20 : ∀ c, x20 c = P (15 + 2 * wp + r) c) (h21 : ∀ c, x21 c = P (16 + 2 * wp + r) c) (h22 : ∀ c, x22 c = P (17 + 2 * wp + r) c)
    (e0 : ∀ c, w0 c = W 0 c o) (e1 : ∀ c, w1 c = W 1 c o) (e2 : ∀ c, w2 c = W 2 c o) (e3 : ∀ c, w3 c = W 3 c o) (e4 : ∀ c, w4 c = W 4 c o)
    (e5 : ∀ c, w5 c = W 5 c o) (e6 : ∀ c, w6 c = W 6 c o) (e7 : ∀ c, w7 c = W 7 c o) (e8 : ∀ c, w8 c = W 8 c o) (eb : b = B o) :
    max (∑ c, x00 c * w0 c + ∑ c, x01 c * w1 c + ∑ c, x02 c * w2 c + ∑ c, x10 c * w3 c + ∑ c, x11 c * w4 c + ∑ c, x12 c * w5 c
      + ∑ c, x20 c * w6 c + ∑ c, x21 c * w7 c + ∑ c, x22 c * w8 c + b) 0 = conv h w n W B G i j o := by
  have k : ∀ (d s : ℕ) (c : Fin n), d < 3 → s < 3 → P (15 + s + d * wp + r) c = zpad h w G (i + d) (j + s) c := fun d s c hd hs => by
    rw [← hP (i + d) (j + s) c (by omega) (by omega) c.isLt]
    congr 1
    rw [hr, Nat.add_mul]; omega
  have k0 : ∀ (s : ℕ) (c : Fin n), s < 3 → P (15 + s + r) c = zpad h w G (i + 0) (j + s) c := fun s c hs => by
    rw [← k 0 s c (by omega) hs]; congr 1; omega
  have k1 : ∀ (s : ℕ) (c : Fin n), s < 3 → P (15 + s + wp + r) c = zpad h w G (i + 1) (j + s) c := fun s c hs => by
    rw [← k 1 s c (by omega) hs]; congr 1; omega
  unfold conv dot9
  simp only [h00, h01, h02, h10, h11, h12, h20, h21, h22, e0, e1, e2, e3, e4, e5, e6, e7, e8, eb]
  simp only [fun c => k0 0 c (by omega), fun c => k0 1 c (by omega), fun c => k0 2 c (by omega), fun c => k1 0 c (by omega),
    fun c => k1 1 c (by omega), fun c => k1 2 c (by omega), fun c => k 2 0 c (by omega) (by omega),
    fun c => k 2 1 c (by omega) (by omega), fun c => k 2 2 c (by omega) (by omega)]

/-- A layer whose edge pixels stand also for the neighbours beyond the edge, from its nine shifted loads and the two choices. -/
theorem gconv_at {c0 c1 : BitVec 1} (hi : i < h) (hj : j < w) (hr : r = i * wp + j) (hc0 : c0 = 1#1 ↔ j = 0) (hc1 : c1 = 1#1 ↔ j = w - 1)
    (hP : ∀ R J c, R < h + 2 → J < w → c < n → P (16 + R * wp + J) c = G (min (R - 1) (h - 1)) J c)
    (h00 : ∀ c, 0 < j → x00 c = P (15 + r) c) (h01 : ∀ c, x01 c = P (16 + r) c) (h02 : ∀ c, x02 c = P (17 + r) c)
    (h10 : ∀ c, x10 c = P (15 + wp + r) c) (h11 : ∀ c, x11 c = P (16 + wp + r) c) (h12 : ∀ c, x12 c = P (17 + wp + r) c)
    (h20 : ∀ c, x20 c = P (15 + 2 * wp + r) c) (h21 : ∀ c, x21 c = P (16 + 2 * wp + r) c) (h22 : ∀ c, x22 c = P (17 + 2 * wp + r) c)
    (e0 : ∀ c, w0 c = W 0 c o) (e1 : ∀ c, w1 c = W 1 c o) (e2 : ∀ c, w2 c = W 2 c o) (e3 : ∀ c, w3 c = W 3 c o) (e4 : ∀ c, w4 c = W 4 c o)
    (e5 : ∀ c, w5 c = W 5 c o) (e6 : ∀ c, w6 c = W 6 c o) (e7 : ∀ c, w7 c = W 7 c o) (e8 : ∀ c, w8 c = W 8 c o) (eb : b = B o) :
    max (∑ c, Scalar.select c0 (x01 c) (x00 c) * w0 c + ∑ c, x01 c * w1 c + ∑ c, Scalar.select c1 (x01 c) (x02 c) * w2 c
      + ∑ c, Scalar.select c0 (x11 c) (x10 c) * w3 c + ∑ c, x11 c * w4 c + ∑ c, Scalar.select c1 (x11 c) (x12 c) * w5 c
      + ∑ c, Scalar.select c0 (x21 c) (x20 c) * w6 c + ∑ c, x21 c * w7 c + ∑ c, Scalar.select c1 (x21 c) (x22 c) * w8 c + b) 0
      = gconv h w n W B G i j o := by
  have k : ∀ (d J : ℕ) (c : Fin n), d < 3 → J < w → P (16 + d * wp + (i * wp + J)) c = G (min (i + d - 1) (h - 1)) J c := fun d J c hd hJ => by
    rw [← hP (i + d) J c (by omega) hJ c.isLt]
    congr 1
    rw [Nat.add_mul]; omega
  have km : ∀ (d q : ℕ) (c : Fin n), d < 3 → q = 16 + d * wp + r → P q c = G (min (i + d - 1) (h - 1)) (min (j + 1 - 1) (w - 1)) c := fun d q c hd hq => by
    have : min (j + 1 - 1) (w - 1) = j := by omega
    rw [this, ← k d j c hd hj, hq, hr]
  have kl : ∀ (d q : ℕ) (c : Fin n) (x y : EReal), d < 3 → q = 15 + d * wp + r → (0 < j → x = P q c) → y = P (q + 1) c →
      Scalar.select c0 y x = G (min (i + d - 1) (h - 1)) (min (j + 0 - 1) (w - 1)) c := fun d q c x y hd hq hx hy => by
    rw [sel_eq hc0]
    by_cases hj0 : j = 0
    · rw [if_pos hj0, hy, km d (q + 1) c hd (by omega)]
      congr 1; omega
    · have : min (j + 0 - 1) (w - 1) = j - 1 := by omega
      rw [if_neg hj0, hx (by omega), this, ← k d (j - 1) c hd (by omega), hq, hr]
      congr 1; omega
  have kr : ∀ (d q : ℕ) (c : Fin n) (x y : EReal), d < 3 → q = 16 + d * wp + r → x = P (q + 1) c → y = P q c →
      Scalar.select c1 y x = G (min (i + d - 1) (h - 1)) (min (j + 2 - 1) (w - 1)) c := fun d q c x y hd hq hx hy => by
    rw [sel_eq hc1]
    by_cases hj0 : j = w - 1
    · rw [if_pos hj0, hy, km d q c hd hq]
      congr 1; omega
    · have : min (j + 2 - 1) (w - 1) = j + 1 := by omega
      rw [if_neg hj0, hx, this, ← k d (j + 1) c hd (by omega), hq, hr]
      congr 1
  unfold gconv dot9
  simp only [e0, e1, e2, e3, e4, e5, e6, e7, e8, eb]
  congr 2
  congr 1
  · congr 1
    · congr 1
      · congr 1
        · congr 1
          · congr 1
            · congr 1
              · congr 1
                · exact Finset.sum_congr rfl fun c _ => by rw [kl 0 (15 + r) c _ _ (by omega) (by omega) (h00 c) (by rw [h01]; congr 1; omega)]
                · exact Finset.sum_congr rfl fun c _ => by rw [h01, km 0 _ c (by omega) (by omega)]
              · exact Finset.sum_congr rfl fun c _ => by rw [kr 0 (16 + r) c _ _ (by omega) (by omega) (by rw [h02]; congr 1; omega) (h01 c)]
            · exact Finset.sum_congr rfl fun c _ => by rw [kl 1 (15 + wp + r) c _ _ (by omega) (by omega) (fun _ => h10 c) (by rw [h11]; congr 1; omega)]
          · exact Finset.sum_congr rfl fun c _ => by rw [h11, km 1 _ c (by omega) (by omega)]
        · exact Finset.sum_congr rfl fun c _ => by rw [kr 1 (16 + wp + r) c _ _ (by omega) (by omega) (by rw [h12]; congr 1; omega) (h11 c)]
      · exact Finset.sum_congr rfl fun c _ => by rw [kl 2 (15 + 2 * wp + r) c _ _ (by omega) (by omega) (fun _ => h20 c) (by rw [h21]; congr 1; omega)]
    · exact Finset.sum_congr rfl fun c _ => by rw [h21, km 2 _ c (by omega) (by omega)]
  · exact Finset.sum_congr rfl fun c _ => by rw [kr 2 (16 + 2 * wp + r) c _ _ (by omega) (by omega) (by rw [h22]; congr 1; omega) (h21 c)]

end Cert.Proof.Net

end
-- ==== Proof.Arrays.lean ====
module

public import proofs.«01_k».proof.Proof.Layer

@[expose] public section

noncomputable section

namespace Cert.Proof.Net

open Idealize.ShloMosaic

/-! ## Vectors and arrays of rank three and four as functions of all numbers -/

/-- A vector, continued by zeros. -/
@[irreducible] def arr1 {n : ℕ} (x : (⟨1, ![n]⟩ : Shape).Idx → EReal) : ℕ → EReal := fun o =>
  if h : o < n then x (ix1 ⟨o, h⟩) else 0

/-- The continuation within the vector. -/
theorem arr1_apply {n : ℕ} (x : (⟨1, ![n]⟩ : Shape).Idx → EReal) (o : Fin n) : arr1 x o.val = x (ix1 o) := by
  unfold arr1
  rw [dif_pos o.isLt]

/-- An array of rank three, continued by zeros. -/
@[irreducible] def arr3 {l m n : ℕ} (x : (⟨3, ![l, m, n]⟩ : Shape).Idx → EReal) : ℕ → ℕ → ℕ → EReal := fun t r c =>
  if h : t < l ∧ r < m ∧ c < n then x (ix3 ⟨t, h.1⟩ ⟨r, h.2.1⟩ ⟨c, h.2.2⟩) else 0

/-- An array is its continuation. -/
theorem is3_arr3 {l m n : ℕ} (x : (⟨3, ![l, m, n]⟩ : Shape).Idx → EReal) : Is3 x (arr3 x) := fun i => by
  have h0 : (i 0).val < l := (i 0).isLt
  have h1 : (i 1).val < m := (i 1).isLt
  have h2 : (i 2).val < n := (i 2).isLt
  unfold arr3
  rw [dif_pos ⟨h0, h1, h2⟩]
  exact congrArg x (eq_ix3 i)

/-- The continuation within the array. -/
theorem arr3_apply {l m n : ℕ} (x : (⟨3, ![l, m, n]⟩ : Shape).Idx → EReal) (t : Fin l) (r : Fin m) (c : Fin n) :
    arr3 x t.val r.val c.val = x (ix3 t r c) := by
  unfold arr3
  rw [dif_pos ⟨t.isLt, r.isLt, c.isLt⟩]

/-- An array of rank four, continued by zeros. -/
@[irreducible] def arr4 {k l m n : ℕ} (x : (⟨4, ![k, l, m, n]⟩ : Shape).Idx → EReal) : ℕ → ℕ → ℕ → ℕ → EReal := fun a b c d =>
  if h : a < k ∧ b < l ∧ c < m ∧ d < n then x (ix4 ⟨a, h.1⟩ ⟨b, h.2.1⟩ ⟨c, h.2.2.1⟩ ⟨d, h.2.2.2⟩) else 0

/-- The continuation within the array. -/
theorem arr4_apply {k l m n : ℕ} (x : (⟨4, ![k, l, m, n]⟩ : Shape).Idx → EReal) (a : Fin k) (b : Fin l) (c : Fin m) (d : Fin n) :
    arr4 x a.val b.val c.val d.val = x (ix4 a b c d) := by
  unfold arr4
  rw [dif_pos ⟨a.isLt, b.isLt, c.isLt, d.isLt⟩]

/-- The continuation at numbers within the array. -/
theorem arr4_of {k l m n : ℕ} (x : (⟨4, ![k, l, m, n]⟩ : Shape).Idx → EReal) {a b c d : ℕ} (ha : a < k) (hb : b < l) (hc : c < m)
    (hd : d < n) : arr4 x a b c d = x (ix4 ⟨a, ha⟩ ⟨b, hb⟩ ⟨c, hc⟩ ⟨d, hd⟩) := arr4_apply x ⟨a, ha⟩ ⟨b, hb⟩ ⟨c, hc⟩ ⟨d, hd⟩

/-! ## The network's inputs -/

/-- The image of a batch of one. -/
def im {n h w : ℕ} (x : (⟨4, ![1, n, h, w]⟩ : Shape).Idx → EReal) : Img := fun i j c => arr4 x 0 c i j

/-- The weights of a convolution, by neighbour, channel, and channel of the result. -/
def cw {m n : ℕ} (x : (⟨4, ![m, n, 3, 3]⟩ : Shape).Idx → EReal) : ℕ → ℕ → ℕ → EReal := fun t c o => arr4 x o c (t / 3) (t % 3)

/-- The weights of a graph layer with `n` channels, likewise. -/
def gw {l m : ℕ} (n : ℕ) (x : (⟨2, ![l, m]⟩ : Shape).Idx → EReal) : ℕ → ℕ → ℕ → EReal := fun t c o => arr x (t * n + c) o

/-- An array of rank three is a function if it is that at every index. -/
theorem is3_of {l m n : ℕ} {x : (⟨3, ![l, m, n]⟩ : Shape).Idx → EReal} {W : ℕ → ℕ → ℕ → EReal}
    (h : ∀ (t : Fin l) (r : Fin m) (c : Fin n), x (ix3 t r c) = W t.val r.val c.val) : Is3 x W := fun i => by
  rw [eq_ix3 i]; exact h _ _ _

end Cert.Proof.Net

end

end
-- ==== Proof.Host.lean ====
module

public import proofs.«01_k».proof.Proof.Arrays
public import proofs.«01_k».proof.Proof.Launch
public import Idealize.ShloMosaic.Lib.StableHlo.ReadAt
public import Idealize.ShloMosaic.Lib.KernelVsHost

@[expose] public section

set_option maxRecDepth 20000

noncomputable section

namespace Cert.Proof.Net

open Idealize.ShloMosaic

/-- The continuation of a matrix at numbers within it. -/
theorem arr_of {m n : ℕ} (x : (⟨2, ![m, n]⟩ : Shape).Idx → EReal) {r c : ℕ} (hr : r < m) (hc : c < n) : arr x r c = x (ix2 ⟨r, hr⟩ ⟨c, hc⟩) :=
  arr_apply x ⟨r, hr⟩ ⟨c, hc⟩

/-- The padding number. -/
theorem pad_zero {φ : FTy} : (FloatOps.sitofp φ 0#32 : Ideal φ) = (0 : EReal) := sitofp_zero

/-- A choice whose two sides are both `z`. -/
theorem dite_of {β : Type} {p : Prop} [Decidable p] {x : p → β} {y : ¬p → β} {z : β} (h : ∀ q, x q = z) (k : ∀ q, y q = z) : dite p x y = z := by
  by_cases q : p
  · rw [dif_pos q]; exact h q
  · rw [dif_neg q]; exact k q

/-- A matrix at equal places. -/
theorem at_eq {m n : ℕ} (x : (⟨2, ![m, n]⟩ : Shape).Idx → EReal) {r r' c c' : ℕ} {hr : r < m} {hr' : r' < m} {hc : c < n} {hc' : c' < n}
    (h : r = r') (k : c = c') : x (ix2 ⟨r, hr⟩ ⟨c, hc⟩) = x (ix2 ⟨r', hr'⟩ ⟨c', hc'⟩) := by
  subst h; subst k; rfl

/-- An array of rank four at equal places. -/
theorem at_eq4 {k l m n : ℕ} (x : (⟨4, ![k, l, m, n]⟩ : Shape).Idx → EReal) {a a' b b' c c' d d' : ℕ} {ha : a < k} {ha' : a' < k}
    {hb : b < l} {hb' : b' < l} {hc : c < m} {hc' : c' < m} {hd : d < n} {hd' : d' < n} (h1 : a = a') (h2 : b = b') (h3 : c = c') (h4 : d = d') :
    x (ix4 ⟨a, ha⟩ ⟨b, hb⟩ ⟨c, hc⟩ ⟨d, hd⟩) = x (ix4 ⟨a', ha'⟩ ⟨b', hb'⟩ ⟨c', hc'⟩ ⟨d', hd'⟩) := by
  subst h1; subst h2; subst h3; subst h4; rfl

/-- The greatest of the four parts of a row, where the part `q` is the corner `q` of a square. -/
theorem pool_of {n : ℕ} {X : ℕ → ℕ → EReal} {G : Img} {r i j k : ℕ} {p : Prop} [Decidable p]
    (h : ∀ q, q < 4 → X r (q * n + k) = if p then G (2 * i + q / 2) (2 * j + q % 2) k else 0) :
    max (max (X r k) (X r (1 * n + k))) (max (X r (2 * n + k)) (X r (3 * n + k))) = if p then pool G i j k else 0 := by
  have h0 := h 0 (by omega)
  rw [Nat.zero_mul, Nat.zero_add] at h0
  rw [h0, h 1 (by omega), h 2 (by omega), h 3 (by omega)]
  by_cases hp : p
  · simp only [if_pos hp]; rfl
  · simp only [if_neg hp, max_self]

end Cert.Proof.Net

namespace Cert.Proof.K

open Cert.KernelIdeal Cert.KernelIdeal.Gen
open Idealize.ShloMosaic Cert.Proof.Net

/-! ## The operands of the first call -/

set_option maxHeartbeats 0 in
/-- The rows of the bordered image, three neighbours side by side. -/
theorem op0_x (V : Valuation τ sig (Elt Ideal)) (R j t c : ℕ) (hR : R < 226) (hj : j < 224) (ht : t < 3) (hc : c < 3) :
    arr (st0 V (Proc.devRef .tc main_v14) : FVec Ideal S57856x9 .bf16) (R * 256 + j) (t * 3 + c)
      = zpad 224 224 (im (V (Proc.devRef .tc main_arg0) : FVec Ideal S1x3x224x224 .f32)) R (j + t) c := by
  have e1 : (R * 256 + j) / 256 = R := by omega
  have e2 : (R * 256 + j) % 256 = j := by omega
  unfold zpad im
  by_cases hz : (1 ≤ R ∧ R ≤ 224) ∧ (1 ≤ j + t ∧ j + t ≤ 224)
  · refine (arr_of _ (by omega) (by omega)).trans (Eq.trans ?_ ((if_pos hz).trans (arr4_of _ (by omega) hc (by omega) (by omega))).symm)
    unfold st0
    after_reads_at
    after_reads_at
    rw [dif_pos ⟨by omega, by omega⟩]
    split_ifs <;> first | omega | exact at_eq4 (V (Proc.devRef .tc main_arg0) : FVec Ideal S1x3x224x224 .f32) rfl (by omega) (by omega) (by omega)
  · refine (arr_of _ (by omega) (by omega)).trans (Eq.trans ?_ (if_neg hz).symm)
    unfold st0
    after_reads_at
    after_reads_at
    rw [dif_pos ⟨by omega, by omega⟩]
    split_ifs <;> first | omega | exact pad_zero

set_option maxHeartbeats 0 in
theorem op0_v17 (V : Valuation τ sig (Elt Ideal)) : Is3 (st0 V (Proc.devRef .tc main_v17) : FVec Ideal S9x64x64 .bf16)
    (cw (V (Proc.devRef .tc main_arg4) : FVec Ideal S64x64x3x3 .f32)) := is3_of fun t c o => by
  unfold st0
  after_reads_at
  exact (arr4_of _ _ _ _ _).symm

set_option maxHeartbeats 0 in
theorem op0_v16 (V : Valuation τ sig (Elt Ideal)) : Is2 (st0 V (Proc.devRef .tc main_v16) : FVec Ideal S1x64 .f32)
    (fun _ o => arr1 (V (Proc.devRef .tc main_arg3) : FVec Ideal S64 .f32) o) := fun i => by
  rw [eq_ix2 i]
  unfold st0
  after_reads_at
  exact (arr1_apply _ _).symm

set_option maxHeartbeats 0 in
theorem op0_v18 (V : Valuation τ sig (Elt Ideal)) : Is2 (st0 V (Proc.devRef .tc main_v18) : FVec Ideal S1x64 .f32)
    (fun _ o => arr1 (V (Proc.devRef .tc main_arg5) : FVec Ideal S64 .f32) o) := fun i => by
  rw [eq_ix2 i]
  unfold st0
  after_reads_at
  exact (arr1_apply _ _).symm

set_option maxHeartbeats 0 in
theorem op0_v15 (V : Valuation τ sig (Elt Ideal)) (d t c o : ℕ) (hd : d < 3) (ht : t < 3) (hc : c < 3) (ho : o < 64) :
    arr3 (st0 V (Proc.devRef .tc main_v15) : FVec Ideal S3x9x64 .bf16) d (t * 3 + c) o
      = cw (V (Proc.devRef .tc main_arg2) : FVec Ideal S64x3x3x3 .f32) (3 * d + t) c o := by
  refine (arr3_apply (st0 V (Proc.devRef .tc main_v15) : FVec Ideal S3x9x64 .bf16) ⟨d, hd⟩ ⟨t * 3 + c, by omega⟩ ⟨o, ho⟩).trans ?_
  unfold st0
  after_reads_at
  unfold cw
  rw [arr4_of _ ho hc (by omega) (by omega)]
  exact at_eq4 (V (Proc.devRef .tc main_arg2) : FVec Ideal S64x3x3x3 .f32) rfl (by omega) (by omega) (by omega)

/-! ## The operands of call 1 -/

set_option maxHeartbeats 0 in
/-- The four corners of the squares, side by side. -/
theorem op1_q (V : Valuation τ sig (Elt Ideal)) (i j k q : ℕ) (hi : i < 112) (hj : j < 128) (hk : k < 64) (hq : q < 4) :
    arr (st1 V (Proc.devRef .tc main_v31) : FVec Ideal S14336x256 .bf16) (i * 128 + j) (q * 64 + k)
      = if j < 112 then arr (V (Proc.devRef .tc main_v19) : FVec Ideal S57344x64 .bf16) ((2 * i + q / 2) * 256 + (2 * j + q % 2)) k else 0 := by
  have e1 : (i * 128 + j) / 128 = i := by omega
  have e2 : (i * 128 + j) % 128 = j := by omega
  by_cases hz : j < 112
  · refine (arr_of _ (by omega) (by omega)).trans (Eq.trans ?_ ((if_pos hz).trans (arr_of _ (by omega) hk)).symm)
    unfold st1
    after_reads_at
    after_reads_at
    repeat' (refine dite_of (fun _ => ?_) (fun _ => ?_))
    all_goals first | exact at_eq (V (Proc.devRef .tc main_v19) : FVec Ideal S57344x64 .bf16) (by omega) (by omega) | (exfalso; omega)
  · refine (arr_of _ (by omega) (by omega)).trans (Eq.trans ?_ (if_neg hz).symm)
    unfold st1
    after_reads_at
    after_reads_at
    repeat' (refine dite_of (fun _ => ?_) (fun _ => ?_))
    all_goals first | exact pad_zero | (exfalso; omega)

set_option maxHeartbeats 0 in
theorem op1_v36 (V : Valuation τ sig (Elt Ideal)) : Is3 (st1 V (Proc.devRef .tc main_v36) : FVec Ideal S9x64x128 .bf16)
    (cw (V (Proc.devRef .tc main_arg6) : FVec Ideal S128x64x3x3 .f32)) := is3_of fun t c o => by
  unfold st1
  after_reads_at
  exact (arr4_of _ _ _ _ _).symm

set_option maxHeartbeats 0 in
theorem op1_v37 (V : Valuation τ sig (Elt Ideal)) : Is2 (st1 V (Proc.devRef .tc main_v37) : FVec Ideal S1x128 .f32)
    (fun _ o => arr1 (V (Proc.devRef .tc main_arg7) : FVec Ideal S128 .f32) o) := fun i => by
  rw [eq_ix2 i]
  unfold st1
  after_reads_at
  exact (arr1_apply _ _).symm

set_option maxHeartbeats 0 in
theorem op1_v38 (V : Valuation τ sig (Elt Ideal)) : Is3 (st1 V (Proc.devRef .tc main_v38) : FVec Ideal S9x128x128 .bf16)
    (cw (V (Proc.devRef .tc main_arg8) : FVec Ideal S128x128x3x3 .f32)) := is3_of fun t c o => by
  unfold st1
  after_reads_at
  exact (arr4_of _ _ _ _ _).symm

set_option maxHeartbeats 0 in
theorem op1_v39 (V : Valuation τ sig (Elt Ideal)) : Is2 (st1 V (Proc.devRef .tc main_v39) : FVec Ideal S1x128 .f32)
    (fun _ o => arr1 (V (Proc.devRef .tc main_arg9) : FVec Ideal S128 .f32) o) := fun i => by
  rw [eq_ix2 i]
  unfold st1
  after_reads_at
  exact (arr1_apply _ _).symm

/-! ## The operands of call 2 -/

set_option maxHeartbeats 0 in
/-- The four corners of the squares, side by side. -/
theorem op2_q (V : Valuation τ sig (Elt Ideal)) (i j k q : ℕ) (hi : i < 56) (hj : j < 64) (hk : k < 128) (hq : q < 4) :
    arr (st2 V (Proc.devRef .tc main_v52) : FVec Ideal S3584x512 .bf16) (i * 64 + j) (q * 128 + k)
      = if j < 56 then arr (V (Proc.devRef .tc main_v40) : FVec Ideal S14336x128 .bf16) ((2 * i + q / 2) * 128 + (2 * j + q % 2)) k else 0 := by
  have e1 : (i * 64 + j) / 64 = i := by omega
  have e2 : (i * 64 + j) % 64 = j := by omega
  by_cases hz : j < 56
  · refine (arr_of _ (by omega) (by omega)).trans (Eq.trans ?_ ((if_pos hz).trans (arr_of _ (by omega) hk)).symm)
    unfold st2
    after_reads_at
    after_reads_at
    repeat' (refine dite_of (fun _ => ?_) (fun _ => ?_))
    all_goals first | exact at_eq (V (Proc.devRef .tc main_v40) : FVec Ideal S14336x128 .bf16) (by omega) (by omega) | (exfalso; omega)
  · refine (arr_of _ (by omega) (by omega)).trans (Eq.trans ?_ (if_neg hz).symm)
    unfold st2
    after_reads_at
    after_reads_at
    repeat' (refine dite_of (fun _ => ?_) (fun _ => ?_))
    all_goals first | exact pad_zero | (exfalso; omega)

set_option maxHeartbeats 0 in
theorem op2_v56 (V : Valuation τ sig (Elt Ideal)) : Is3 (st2 V (Proc.devRef .tc main_v56) : FVec Ideal S9x128x256 .bf16)
    (gw 128 (V (Proc.devRef .tc main_arg10) : FVec Ideal S1152x256 .f32)) := is3_of fun t c o => by
  unfold st2
  after_reads_at
  exact (arr_of _ _ _).symm

set_option maxHeartbeats 0 in
theorem op2_v57 (V : Valuation τ sig (Elt Ideal)) : Is2 (st2 V (Proc.devRef .tc main_v57) : FVec Ideal S1x256 .f32)
    (fun _ o => arr1 (V (Proc.devRef .tc main_arg11) : FVec Ideal S256 .f32) o) := fun i => by
  rw [eq_ix2 i]
  unfold st2
  after_reads_at
  exact (arr1_apply _ _).symm

set_option maxHeartbeats 0 in
theorem op2_v58 (V : Valuation τ sig (Elt Ideal)) : Is3 (st2 V (Proc.devRef .tc main_v58) : FVec Ideal S9x256x256 .bf16)
    (gw 256 (V (Proc.devRef .tc main_arg12) : FVec Ideal S2304x256 .f32)) := is3_of fun t c o => by
  unfold st2
  after_reads_at
  exact (arr_of _ _ _).symm

set_option maxHeartbeats 0 in
theorem op2_v59 (V : Valuation τ sig (Elt Ideal)) : Is2 (st2 V (Proc.devRef .tc main_v59) : FVec Ideal S1x256 .f32)
    (fun _ o => arr1 (V (Proc.devRef .tc main_arg13) : FVec Ideal S256 .f32) o) := fun i => by
  rw [eq_ix2 i]
  unfold st2
  after_reads_at
  exact (arr1_apply _ _).symm

set_option maxHeartbeats 0 in
theorem op2_v60 (V : Valuation τ sig (Elt Ideal)) : Is3 (st2 V (Proc.devRef .tc main_v60) : FVec Ideal S9x256x256 .bf16)
    (gw 256 (V (Proc.devRef .tc main_arg14) : FVec Ideal S2304x256 .f32)) := is3_of fun t c o => by
  unfold st2
  after_reads_at
  exact (arr_of _ _ _).symm

set_option maxHeartbeats 0 in
theorem op2_v61 (V : Valuation τ sig (Elt Ideal)) : Is2 (st2 V (Proc.devRef .tc main_v61) : FVec Ideal S1x256 .f32)
    (fun _ o => arr1 (V (Proc.devRef .tc main_arg15) : FVec Ideal S256 .f32) o) := fun i => by
  rw [eq_ix2 i]
  unfold st2
  after_reads_at
  exact (arr1_apply _ _).symm

/-! ## The operands of call 3 -/

set_option maxHeartbeats 0 in
/-- The four corners of the squares, side by side. -/
theorem op3_q (V : Valuation τ sig (Elt Ideal)) (i j k q : ℕ) (hi : i < 28) (hj : j < 32) (hk : k < 256) (hq : q < 4) :
    arr (st3 V (Proc.devRef .tc main_v74) : FVec Ideal S896x1024 .bf16) (i * 32 + j) (q * 256 + k)
      = if j < 28 then arr (V (Proc.devRef .tc main_v62) : FVec Ideal S3584x256 .bf16) ((2 * i + q / 2) * 64 + (2 * j + q % 2)) k else 0 := by
  have e1 : (i * 32 + j) / 32 = i := by omega
  have e2 : (i * 32 + j) % 32 = j := by omega
  by_cases hz : j < 28
  · refine (arr_of _ (by omega) (by omega)).trans (Eq.trans ?_ ((if_pos hz).trans (arr_of _ (by omega) hk)).symm)
    unfold st3
    after_reads_at
    after_reads_at
    repeat' (refine dite_of (fun _ => ?_) (fun _ => ?_))
    all_goals first | exact at_eq (V (Proc.devRef .tc main_v62) : FVec Ideal S3584x256 .bf16) (by omega) (by omega) | (exfalso; omega)
  · refine (arr_of _ (by omega) (by omega)).trans (Eq.trans ?_ (if_neg hz).symm)
    unfold st3
    after_reads_at
    after_reads_at
    repeat' (refine dite_of (fun _ => ?_) (fun _ => ?_))
    all_goals first | exact pad_zero | (exfalso; omega)

set_option maxHeartbeats 0 in
theorem op3_v78 (V : Valuation τ sig (Elt Ideal)) : Is3 (st3 V (Proc.devRef .tc main_v78) : FVec Ideal S9x256x512 .bf16)
    (gw 256 (V (Proc.devRef .tc main_arg16) : FVec Ideal S2304x512 .f32)) := is3_of fun t c o => by
  unfold st3
  after_reads_at
  exact (arr_of _ _ _).symm

set_option maxHeartbeats 0 in
theorem op3_v79 (V : Valuation τ sig (Elt Ideal)) : Is2 (st3 V (Proc.devRef .tc main_v79) : FVec Ideal S1x512 .f32)
    (fun _ o => arr1 (V (Proc.devRef .tc main_arg17) : FVec Ideal S512 .f32) o) := fun i => by
  rw [eq_ix2 i]
  unfold st3
  after_reads_at
  exact (arr1_apply _ _).symm

set_option maxHeartbeats 0 in
theorem op3_v80 (V : Valuation τ sig (Elt Ideal)) : Is3 (st3 V (Proc.devRef .tc main_v80) : FVec Ideal S9x512x512 .bf16)
    (gw 512 (V (Proc.devRef .tc main_arg18) : FVec Ideal S4608x512 .f32)) := is3_of fun t c o => by
  unfold st3
  after_reads_at
  exact (arr_of _ _ _).symm

set_option maxHeartbeats 0 in
theorem op3_v81 (V : Valuation τ sig (Elt Ideal)) : Is2 (st3 V (Proc.devRef .tc main_v81) : FVec Ideal S1x512 .f32)
    (fun _ o => arr1 (V (Proc.devRef .tc main_arg19) : FVec Ideal S512 .f32) o) := fun i => by
  rw [eq_ix2 i]
  unfold st3
  after_reads_at
  exact (arr1_apply _ _).symm

set_option maxHeartbeats 0 in
theorem op3_v82 (V : Valuation τ sig (Elt Ideal)) : Is3 (st3 V (Proc.devRef .tc main_v82) : FVec Ideal S9x512x512 .bf16)
    (gw 512 (V (Proc.devRef .tc main_arg20) : FVec Ideal S4608x512 .f32)) := is3_of fun t c o => by
  unfold st3
  after_reads_at
  exact (arr_of _ _ _).symm

set_option maxHeartbeats 0 in
theorem op3_v83 (V : Valuation τ sig (Elt Ideal)) : Is2 (st3 V (Proc.devRef .tc main_v83) : FVec Ideal S1x512 .f32)
    (fun _ o => arr1 (V (Proc.devRef .tc main_arg21) : FVec Ideal S512 .f32) o) := fun i => by
  rw [eq_ix2 i]
  unfold st3
  after_reads_at
  exact (arr1_apply _ _).symm

/-! ## The result -/

set_option maxHeartbeats 0 in
theorem out_at (V : Valuation τ sig (Elt Ideal)) (o : Fin 512) (i j : Fin 28) :
    (st4 V (Proc.devRef .tc main_v88) : FVec Ideal S1x512x28x28 .f32) (ix4 0 o i j)
      = arr (V (Proc.devRef .tc main_v84) : FVec Ideal S896x512 .f32) (i.val * 32 + j.val) o.val := by
  rw [arr_of _ (by omega) (by omega)]
  unfold st4
  after_reads_at

end Cert.Proof.K

end

end
-- ==== Proof.Held0.lean ====
module

public import proofs.«01_k».proof.Proof.Layer
public import proofs.«01_k».proof.Proof.Run0
public import proofs.«01_k».proof.Proof.Gen.KernelIdeal.Skeleton

@[expose] public section

noncomputable section

namespace Cert.Proof.K

open Cert.KernelIdeal Cert.KernelIdeal.Gen
open Idealize.ShloMosaic Cert.Proof.Net

/-! ## The first layer on a block of rows -/

/-- A block of the first layer: three products of the nine lane values, one per image row, the bias, and zero beyond the last column. -/
def first (x0 x1 x2 : Vec Ideal S7168x9 .bf16) (w0 w1 w2 : Vec Ideal S1x9x64 .bf16) (b : Vec Ideal S1x64 .f32) : FVec Ideal S7168x64 .bf16 :=
  k0_pay6 k0_pay2 (k0_pay4 x0 w0 x1 w1 x2 w2 b) k0_pay5

/-- The first layer at row `g` of the whole image. -/
@[irreducible] def A1 (X : ℕ → ℕ → EReal) (W : ℕ → ℕ → ℕ → EReal) (B : ℕ → EReal) (g o : ℕ) : EReal :=
  if g % 256 < 224 then max (∑ k : Fin 9, X g k * W 0 k o + ∑ k : Fin 9, X (256 + g) k * W 1 k o + ∑ k : Fin 9, X (512 + g) k * W 2 k o + B o) 0 else 0

theorem sum9 (f : ℕ → EReal) : ∑ k : Fin 9, f k = ∑ c : Fin 3, f (0 * 3 + c) + ∑ c : Fin 3, f (1 * 3 + c) + ∑ c : Fin 3, f (2 * 3 + c) := by
  simp [Fin.sum_univ_succ, add_assoc]

theorem A1_conv {X : ℕ → ℕ → EReal} {W W' : ℕ → ℕ → ℕ → EReal} {B : ℕ → EReal} {G : Img}
    (hX : ∀ R j t c, R < 226 → j < 224 → t < 3 → c < 3 → X (R * 256 + j) (t * 3 + c) = zpad 224 224 G R (j + t) c)
    (hW : ∀ d t c o, d < 3 → t < 3 → c < 3 → o < 64 → W d (t * 3 + c) o = W' (3 * d + t) c o)
    {i j o : ℕ} (hi : i < 224) (hj : j < 256) (ho : o < 64) : A1 X W B (i * 256 + j) o = if j < 224 then conv 224 224 3 W' B G i j o else 0 := by
  unfold A1
  have e : (i * 256 + j) % 256 = j := by omega
  rw [e]
  by_cases hw : j < 224
  · rw [if_pos hw, if_pos hw]
    have k : ∀ d t (c : Fin 3), d < 3 → t < 3 → X (d * 256 + (i * 256 + j)) (t * 3 + c) * W d (t * 3 + c) o = zpad 224 224 G (i + d) (j + t) c * W' (3 * d + t) c o := fun d t c hd ht => by
      rw [hW d t c o hd ht c.isLt ho, ← hX (i + d) j t c (by omega) hw ht c.isLt]
      congr 2; omega
    have k0 : ∀ t (c : Fin 3), t < 3 → X (i * 256 + j) (t * 3 + c) * W 0 (t * 3 + c) o = zpad 224 224 G (i + 0) (j + t) c * W' (3 * 0 + t) c o := fun t c ht => by
      have := k 0 t c (by omega) ht
      rwa [Nat.zero_mul, Nat.zero_add] at this
    have k1 : ∀ t (c : Fin 3), t < 3 → X (256 + (i * 256 + j)) (t * 3 + c) * W 1 (t * 3 + c) o = zpad 224 224 G (i + 1) (j + t) c * W' (3 * 1 + t) c o := fun t c ht => k 1 t c (by omega) ht
    have k2 : ∀ t (c : Fin 3), t < 3 → X (512 + (i * 256 + j)) (t * 3 + c) * W 2 (t * 3 + c) o = zpad 224 224 G (i + 2) (j + t) c * W' (3 * 2 + t) c o := fun t c ht => k 2 t c (by omega) ht
    rw [sum9 fun k => X (i * 256 + j) k * W 0 k o, sum9 fun k => X (256 + (i * 256 + j)) k * W 1 k o, sum9 fun k => X (512 + (i * 256 + j)) k * W 2 k o]
    unfold conv dot9
    simp only [fun c => k0 0 c (by omega), fun c => k0 1 c (by omega), fun c => k0 2 c (by omega), fun c => k1 0 c (by omega), fun c => k1 1 c (by omega),
      fun c => k1 2 c (by omega), fun c => k2 0 c (by omega), fun c => k2 1 c (by omega), fun c => k2 2 c (by omega)]
    simp only [add_assoc]
  · rw [if_neg hw, if_neg hw]

set_option maxRecDepth 16384 in
theorem first_at {X : ℕ → ℕ → EReal} {W : ℕ → ℕ → ℕ → EReal} {B : ℕ → EReal} {g k0 k1 k2 : ℕ} {r : Fin 7168} {o : Fin 64}
    {x0 x1 x2 : Vec Ideal S7168x9 .bf16} {w0 w1 w2 : Vec Ideal S1x9x64 .bf16} {b : Vec Ideal S1x64 .f32}
    (h0 : ∀ k : Fin 9, x0 (ix2 r k) = X k0 k) (h1 : ∀ k : Fin 9, x1 (ix2 r k) = X k1 k) (h2 : ∀ k : Fin 9, x2 (ix2 r k) = X k2 k)
    (e0 : ∀ k : Fin 9, w0 (ix3 0 k o) = W 0 k o) (e1 : ∀ k : Fin 9, w1 (ix3 0 k o) = W 1 k o) (e2 : ∀ k : Fin 9, w2 (ix3 0 k o) = W 2 k o)
    (eb : b (ix2 0 o) = B o) (hg : g % 256 = r.val % 256) (q0 : k0 = g) (q1 : k1 = 256 + g) (q2 : k2 = 512 + g) :
    first x0 x1 x2 w0 w1 w2 b (ix2 r o) = A1 X W B g o := by
  subst q0 q1 q2
  unfold A1
  pointwise [first, k0_pay6, k0_pay2, k0_pay4, k0_pay5]
  refine (sel_eq (col_lt (k := 8) (m := 224) (i := r.val / 256) (j := r.val % 256) (by omega) (by omega) (by omega) (by omega)) _ _).trans ?_
  rw [hg]
  simp only [h0, h1, h2, e0, e1, e2, eb]

/-! ## The second layer on a block of rows -/

/-- A block of the second layer. -/
def second (x00 x01 x02 x10 x11 x12 x20 x21 x22 : Vec Ideal S7168x64 .bf16) (w0 w1 w2 w3 w4 w5 w6 w7 w8 : Vec Ideal S1x64x64 .bf16) (b : Vec Ideal S1x64 .f32) :
    FVec Ideal S7168x64 .bf16 :=
  k0_pay25 (k0_pay24 (k0_pay23 x00 w0 x01 w1 x02 w2) x10 w3 x11 w4 x12 w5 x20 w6 x21 w7) x22 w8 b

/-- The second layer at row `g` of the whole image, from the rows of its scratch buffer. -/
@[irreducible] def A2 (P : ℕ → ℕ → EReal) (W : ℕ → ℕ → ℕ → EReal) (B : ℕ → EReal) (g o : ℕ) : EReal :=
  dot9 64 (fun t c => P (15 + t % 3 + t / 3 * 256 + g) c) W B o

theorem A2_conv {P : ℕ → ℕ → EReal} {W : ℕ → ℕ → ℕ → EReal} {B : ℕ → EReal} {G : Img}
    (hP : ∀ R J c, R < 226 → J < 226 → c < 64 → P (15 + R * 256 + J) c = zpad 224 224 G R J c)
    {i j o : ℕ} (hi : i < 224) (hj : j < 224) : A2 P W B (i * 256 + j) o = conv 224 224 64 W B G i j o := by
  unfold A2
  exact dot9_congr (fun t c ht hc => by
    rw [← hP (i + t / 3) (j + t % 3) c (by omega) (by omega) hc]
    congr 1; omega) (fun _ _ _ _ => rfl) rfl

set_option maxRecDepth 16384 in
theorem second_at {P : ℕ → ℕ → EReal} {W : ℕ → ℕ → ℕ → EReal} {B : ℕ → EReal} {g k00 k01 k02 k10 k11 k12 k20 k21 k22 : ℕ} {r : Fin 7168} {o : Fin 64}
    {x00 x01 x02 x10 x11 x12 x20 x21 x22 : Vec Ideal S7168x64 .bf16} {w0 w1 w2 w3 w4 w5 w6 w7 w8 : Vec Ideal S1x64x64 .bf16} {b : Vec Ideal S1x64 .f32}
    (h00 : ∀ c : Fin 64, x00 (ix2 r c) = P k00 c)    (h01 : ∀ c : Fin 64, x01 (ix2 r c) = P k01 c)    (h02 : ∀ c : Fin 64, x02 (ix2 r c) = P k02 c)
    (h10 : ∀ c : Fin 64, x10 (ix2 r c) = P k10 c)    (h11 : ∀ c : Fin 64, x11 (ix2 r c) = P k11 c)    (h12 : ∀ c : Fin 64, x12 (ix2 r c) = P k12 c)
    (h20 : ∀ c : Fin 64, x20 (ix2 r c) = P k20 c)    (h21 : ∀ c : Fin 64, x21 (ix2 r c) = P k21 c)    (h22 : ∀ c : Fin 64, x22 (ix2 r c) = P k22 c)
    (e0 : ∀ c : Fin 64, w0 (ix3 0 c o) = W 0 c o)    (e1 : ∀ c : Fin 64, w1 (ix3 0 c o) = W 1 c o)    (e2 : ∀ c : Fin 64, w2 (ix3 0 c o) = W 2 c o)
    (e3 : ∀ c : Fin 64, w3 (ix3 0 c o) = W 3 c o)    (e4 : ∀ c : Fin 64, w4 (ix3 0 c o) = W 4 c o)    (e5 : ∀ c : Fin 64, w5 (ix3 0 c o) = W 5 c o)
    (e6 : ∀ c : Fin 64, w6 (ix3 0 c o) = W 6 c o)    (e7 : ∀ c : Fin 64, w7 (ix3 0 c o) = W 7 c o)    (e8 : ∀ c : Fin 64, w8 (ix3 0 c o) = W 8 c o)
    (eb : b (ix2 0 o) = B o) (q00 : k00 = 15 + g) (q01 : k01 = 16 + g) (q02 : k02 = 17 + g) (q10 : k10 = 271 + g) (q11 : k11 = 272 + g) (q12 : k12 = 273 + g) (q20 : k20 = 527 + g) (q21 : k21 = 528 + g) (q22 : k22 = 529 + g) :
    second x00 x01 x02 x10 x11 x12 x20 x21 x22 w0 w1 w2 w3 w4 w5 w6 w7 w8 b (ix2 r o) = A2 P W B g o := by
  subst q00 q01 q02 q10 q11 q12 q20 q21 q22
  pointwise [second, k0_pay25, k0_pay24, k0_pay23]
  unfold A2 dot9
  simp only [h00, h01, h02, h10, h11, h12, h20, h21, h22, e0, e1, e2, e3, e4, e5, e6, e7, e8, eb]

/-! ## The blocks, one after the other -/

/-- A row of a block loaded from the scratch buffer. -/
theorem rows {κ : Kind} {sp : Space} {v : View sig κ sp ⟨2, ![57888, 64]⟩ .bf16} {L : List (View.Piece (Elt Ideal) ⟨2, ![57888, 64]⟩ .bf16)} {P : ℕ → ℕ → EReal}
    (hc : Cov (Val := Elt Ideal) v L P 0 57888) {k : ℕ} (inb : ∀ a : Fin 2, (![k, 0] : Fin 2 → ℕ) a + (![7168, 64] : Fin 2 → ℕ) a ≤ (![57888, 64] : Fin 2 → ℕ) a)
    (r : Fin 7168) (c : Fin 64) :
    v.readCov L (Rect.unit (s := ⟨2, ![57888, 64]⟩) ![k, 0] ![7168, 64] inb).toLoadRect (ix2 r c) = P (k + r.val) c.val := by
  have h : k + 7168 ≤ 57888 := inb 0
  exact hc.loadCov inb (ix2 r c) (Nat.zero_le _) (show k + r.val < 57888 by omega)

theorem is2_of {m n : ℕ} {x : (⟨2, ![m, n]⟩ : Shape).Idx → EReal} {A : ℕ → ℕ → EReal} (h : ∀ (r : Fin m) (o : Fin n), x (ix2 r o) = A r o) : Is2 x A :=
  fun i => (congrArg x (eq_ix2 i)).trans (h _ _)

/-- The rows of a block, copied whole from the operand into the row buffer, loaded back. -/
theorem xs_load {M0 : Memref sig .tc .hbm S57856x9 .bf16} {f0 : M0.view.ty.Contents (Elt Ideal)} {M7 : Memref sig .tc .vmem S7680x9 .bf16}
    {X : ℕ → ℕ → EReal} (e0 : Is2 (M0.view.read (Elt Ideal) f0) X) {q s : ℕ} (inb : ∀ a : Fin 2, (![s, 0] : Fin 2 → ℕ) a + S7168x9.size a ≤ S7680x9.size a)
    (inb2 : ∀ a : Fin 2, (![q, 0] : Fin 2 → ℕ) a + S7680x9.size a ≤ S57856x9.size a) (hr : ∀ a, (Rect.unit (s := S57856x9) ![q, 0] S7680x9.size inb2).stride a = 1)
    (prev : M7.view.ty.Contents (Elt Ideal)) (r : Fin 7168) (k : Fin 9) :
    View.readAt (Elt Ideal) M7.view (Rect.unit (s := S7680x9) ![s, 0] S7168x9.size inb).toLoadRect
      (View.write (Elt Ideal) M7.view prev (ReadAs.same.apply (View.read (Elt Ideal) (M0.slice (Rect.unit (s := S57856x9) ![q, 0] S7680x9.size inb2) hr).view f0)) Finset.univ)
      (ix2 r k) = X (q + (s + r)) k := by
  rw [View.readAt_apply, View.read_write_univ]
  refine (e0 _).trans ?_
  show X (q + 1 * (s + 1 * r.val)) (0 + 1 * (0 + 1 * k.val)) = _
  congr 1 <;> omega

section

variable {κ : Kind} {sp : Space} {n k b : ℕ} {A : ℕ → ℕ → EReal}

/-- One more block stored over the zeros. -/
theorem block6 {v : View sig κ sp ⟨2, ![57888, n]⟩ .bf16} {L : List (View.Piece (Elt Ideal) ⟨2, ![57888, n]⟩ .bf16)} (b : ℕ)
    (hc : Cov (Val := Elt Ideal) v L (fun r c => if 272 ≤ r ∧ r < 272 + 7168 * b then A (r - 272) c else (0 : EReal)) 0 57888)
    (inb : ∀ a : Fin 2, (![k, 0] : Fin 2 → ℕ) a + (![7168, n] : Fin 2 → ℕ) a ≤ (![57888, n] : Fin 2 → ℕ) a) (hk : k = 272 + 7168 * b)
    {w : (⟨2, ![7168, n]⟩ : Shape).Idx → Elt Ideal .bf16} (hw : Is2 w fun r c => A (7168 * b + r) c) :
    Cov (Val := Elt Ideal) v (⟨Rect.unit (s := ⟨2, ![57888, n]⟩) ![k, 0] ![7168, n] inb, w⟩ :: L)
      (fun r c => if 272 ≤ r ∧ r < 272 + 7168 * (b + 1) then A (r - 272) c else (0 : EReal)) 0 57888 :=
  hc.cons inb hw fun r c p q _ => ⟨fun _ _ => by
      rw [if_pos (by omega)]; congr 1; omega, fun t => ⟨by
      by_cases hr : 272 ≤ r ∧ r < 272 + 7168 * b
      · rw [if_pos hr, if_pos (by omega)]
      · rw [if_neg hr, if_neg (by omega)], by omega, by omega⟩⟩

/-- One more block of the result. -/
theorem block5 {v : View sig κ sp ⟨2, ![57344, n]⟩ .bf16} {L : List (View.Piece (Elt Ideal) ⟨2, ![57344, n]⟩ .bf16)} (b : ℕ)
    (hc : Cov (Val := Elt Ideal) v L A 0 (7168 * b))
    (inb : ∀ a : Fin 2, (![k, 0] : Fin 2 → ℕ) a + (![7168, n] : Fin 2 → ℕ) a ≤ (![57344, n] : Fin 2 → ℕ) a) (hk : k = 7168 * b)
    {w : (⟨2, ![7168, n]⟩ : Shape).Idx → Elt Ideal .bf16} (hw : Is2 w fun r c => A (7168 * b + r) c) :
    Cov (Val := Elt Ideal) v (⟨Rect.unit (s := ⟨2, ![57344, n]⟩) ![k, 0] ![7168, n] inb, w⟩ :: L) A 0 (7168 * (b + 1)) :=
  hc.cons inb hw fun r c p q _ => ⟨fun _ _ => by congr 1; omega, fun t => ⟨rfl, by omega, by omega⟩⟩

end

end Cert.Proof.K

end
-- ==== Proof.Val0.lean ====
module

public import proofs.«01_k».proof.Proof.Held0

@[expose] public section

noncomputable section

namespace Cert.Proof.K

open Cert.KernelIdeal Cert.KernelIdeal.Gen
open Idealize.ShloMosaic Cert.Proof.Net

/-! ## The same blocks, cut differently -/

set_option maxRecDepth 16384 in
theorem first_eq2 (x0 x1 x2 : Vec Ideal S7168x9 .bf16) (w0 w1 w2 : Vec Ideal S1x9x64 .bf16) (b : Vec Ideal S1x64 .f32) :
    k0_pay11 k0_pay2 (k0_pay9 x0 w0 x1 w1 x2 w2) (k0_pay10 b) = first x0 x1 x2 w0 w1 w2 b := rfl

set_option maxRecDepth 16384 in
theorem first_eq5 (x0 x1 x2 : Vec Ideal S7168x9 .bf16) (w0 w1 w2 : Vec Ideal S1x9x64 .bf16) (b : Vec Ideal S1x64 .f32) :
    k0_pay18 k0_pay2 (k0_pay16 x0 w0 x1 w1) x2 (k0_pay17 w2) (constant S7168x64 FTy.f32 0#32) b = first x0 x1 x2 w0 w1 w2 b := rfl

set_option maxRecDepth 16384 in
theorem second_eq1 (x00 x01 x02 x10 x11 x12 x20 x21 x22 : Vec Ideal S7168x64 .bf16) (w0 w1 w2 w3 w4 w5 w6 w7 w8 : Vec Ideal S1x64x64 .bf16) (b : Vec Ideal S1x64 .f32) :
    k0_pay29 (k0_pay28 (k0_pay26 x00 w0 x01 w1 x02 w2) x10 (k0_pay27 w3) x11 w4 x12 w5 x20 w6 x21 w7 x22 w8) b
      = second x00 x01 x02 x10 x11 x12 x20 x21 x22 w0 w1 w2 w3 w4 w5 w6 w7 w8 b := rfl

section Values

variable (c : Dev nD)
    (M0 : Memref sig .tc .hbm S57856x9 .bf16) (h0 : M0.IsWhole)
    (M1 : Memref sig .tc .vmem S3x9x64 .bf16) (h1 : M1.IsWhole)
    (M2 : Memref sig .tc .vmem S1x64 .f32) (h2 : M2.IsWhole)
    (M3 : Memref sig .tc .vmem S9x64x64 .bf16) (h3 : M3.IsWhole)
    (M4 : Memref sig .tc .vmem S1x64 .f32) (h4 : M4.IsWhole)
    (M5 : Memref sig .tc .vmem S57344x64 .bf16) (h5 : M5.IsWhole)
    (M6 : Memref sig .tc .vmem S57888x64 .bf16) (h6 : M6.IsWhole)
    (M7 : Memref sig .tc .vmem S7680x9 .bf16) (h7 : M7.IsWhole)
    (f0 : Bf (F := Ideal) c M0) (f1 : Bf (F := Ideal) c M1) (f2 : Bf (F := Ideal) c M2) (f3 : Bf (F := Ideal) c M3) (f4 : Bf (F := Ideal) c M4)
    (f6 : Bf (F := Ideal) c M6) (f7 : Bf (F := Ideal) c M7)
    {X : ℕ → ℕ → EReal} {W1 W2 : ℕ → ℕ → ℕ → EReal} {B1 B2 : ℕ → EReal}

set_option maxRecDepth 65536 in
set_option maxHeartbeats 0 in
/-- The scratch buffer before the first layer's blocks: zeros. -/
theorem first0_0 : Cov (Val := Elt Ideal) M6.view (run0.sl.H6_1 (F := Ideal)) (fun r c => if 272 ≤ r ∧ r < 272 + 7168 * 0 then A1 X W1 B1 (r - 272) c else (0 : EReal)) 0 57888 :=
    (cov_one (Val := Elt Ideal) (L := []) (A := fun _ _ => (0 : EReal)) _ (fun x => by pointwise [k0_pay3])).congr
      (fun r c _ _ _ => by rw [if_neg (by omega)]) (by omega) (by omega)

set_option maxRecDepth 65536 in
set_option maxHeartbeats 0 in
/-- The scratch buffer with the first block of the first layer. -/
theorem first0_1 (e0 : Is2 (M0.view.read (Elt Ideal) f0) X) (e1 : Is3 (M1.view.read (Elt Ideal) f1) W1) (e2 : Is2 (M2.view.read (Elt Ideal) f2) fun _ o => B1 o)
    (h : Cov (Val := Elt Ideal) M6.view (run0.sl.H6_1 (F := Ideal)) (fun r c => if 272 ≤ r ∧ r < 272 + 7168 * 0 then A1 X W1 B1 (r - 272) c else (0 : EReal)) 0 57888) :
    Cov (Val := Elt Ideal) M6.view (run0.sl.H6_2 (F := Ideal) c M0 M1 M2 M7 f0 f1 f2 f7) (fun r c => if 272 ≤ r ∧ r < 272 + 7168 * 1 then A1 X W1 B1 (r - 272) c else (0 : EReal)) 0 57888 := by
  delta run0.sl.H6_2
  exact block6 0 h _ rfl (is2_of fun r o =>
    first_at (g := 7168 * 0 + r.val) (fun k => xs_load e0 _ _ _ _ r k) (fun k => xs_load e0 _ _ _ _ r k) (fun k => xs_load e0 _ _ _ _ r k)
      (fun k => e1.load _ k o) (fun k => e1.load _ k o) (fun k => e1.load _ k o) (e2.load _ _) (by omega) (by omega) (by omega) (by omega))

set_option maxRecDepth 65536 in
set_option maxHeartbeats 0 in
/-- The scratch buffer with the block after block 1 of the first layer. -/
theorem first0_2 (e0 : Is2 (M0.view.read (Elt Ideal) f0) X) (e1 : Is3 (M1.view.read (Elt Ideal) f1) W1) (e2 : Is2 (M2.view.read (Elt Ideal) f2) fun _ o => B1 o)
    (h : Cov (Val := Elt Ideal) M6.view (run0.sl.H6_2 (F := Ideal) c M0 M1 M2 M7 f0 f1 f2 f7) (fun r c => if 272 ≤ r ∧ r < 272 + 7168 * 1 then A1 X W1 B1 (r - 272) c else (0 : EReal)) 0 57888) :
    Cov (Val := Elt Ideal) M6.view (run0.sl.H6_3 (F := Ideal) c M0 M1 M2 M7 f0 f1 f2 f7) (fun r c => if 272 ≤ r ∧ r < 272 + 7168 * 2 then A1 X W1 B1 (r - 272) c else (0 : EReal)) 0 57888 := by
  delta run0.sl.H6_3
  exact block6 1 h _ rfl (is2_of fun r o =>
    first_at (g := 7168 * 1 + r.val) (fun k => xs_load e0 _ _ _ _ r k) (fun k => xs_load e0 _ _ _ _ r k) (fun k => xs_load e0 _ _ _ _ r k)
      (fun k => e1.load _ k o) (fun k => e1.load _ k o) (fun k => e1.load _ k o) (e2.load _ _) (by omega) (by omega) (by omega) (by omega))

set_option maxRecDepth 65536 in
set_option maxHeartbeats 0 in
/-- The scratch buffer with the block after block 2 of the first layer. -/
theorem first0_3 (e0 : Is2 (M0.view.read (Elt Ideal) f0) X) (e1 : Is3 (M1.view.read (Elt Ideal) f1) W1) (e2 : Is2 (M2.view.read (Elt Ideal) f2) fun _ o => B1 o)
    (h : Cov (Val := Elt Ideal) M6.view (run0.sl.H6_3 (F := Ideal) c M0 M1 M2 M7 f0 f1 f2 f7) (fun r c => if 272 ≤ r ∧ r < 272 + 7168 * 2 then A1 X W1 B1 (r - 272) c else (0 : EReal)) 0 57888) :
    Cov (Val := Elt Ideal) M6.view (run0.sl.H6_4 (F := Ideal) c M0 M1 M2 M7 f0 f1 f2 f7) (fun r c => if 272 ≤ r ∧ r < 272 + 7168 * 3 then A1 X W1 B1 (r - 272) c else (0 : EReal)) 0 57888 := by
  delta run0.sl.H6_4
  delta run0.sl.r_2 run0.sl.r_3
  rw [first_eq2]
  exact block6 2 h _ rfl (is2_of fun r o =>
    first_at (g := 7168 * 2 + r.val) (fun k => xs_load e0 _ _ _ _ r k) (fun k => xs_load e0 _ _ _ _ r k) (fun k => xs_load e0 _ _ _ _ r k)
      (fun k => e1.load _ k o) (fun k => e1.load _ k o) (fun k => e1.load _ k o) (e2.load _ _) (by omega) (by omega) (by omega) (by omega))

set_option maxRecDepth 65536 in
set_option maxHeartbeats 0 in
/-- The scratch buffer with the block after block 3 of the first layer. -/
theorem first0_4 (e0 : Is2 (M0.view.read (Elt Ideal) f0) X) (e1 : Is3 (M1.view.read (Elt Ideal) f1) W1) (e2 : Is2 (M2.view.read (Elt Ideal) f2) fun _ o => B1 o)
    (h : Cov (Val := Elt Ideal) M6.view (run0.sl.H6_4 (F := Ideal) c M0 M1 M2 M7 f0 f1 f2 f7) (fun r c => if 272 ≤ r ∧ r < 272 + 7168 * 3 then A1 X W1 B1 (r - 272) c else (0 : EReal)) 0 57888) :
    Cov (Val := Elt Ideal) M6.view (run0.sl.H6_5 (F := Ideal) c M0 M1 M2 M7 f0 f1 f2 f7) (fun r c => if 272 ≤ r ∧ r < 272 + 7168 * 4 then A1 X W1 B1 (r - 272) c else (0 : EReal)) 0 57888 := by
  delta run0.sl.H6_5
  exact block6 3 h _ rfl (is2_of fun r o =>
    first_at (g := 7168 * 3 + r.val) (fun k => xs_load e0 _ _ _ _ r k) (fun k => xs_load e0 _ _ _ _ r k) (fun k => xs_load e0 _ _ _ _ r k)
      (fun k => e1.load _ k o) (fun k => e1.load _ k o) (fun k => e1.load _ k o) (e2.load _ _) (by omega) (by omega) (by omega) (by omega))

set_option maxRecDepth 65536 in
set_option maxHeartbeats 0 in
/-- The scratch buffer with the block after block 4 of the first layer. -/
theorem first0_5 (e0 : Is2 (M0.view.read (Elt Ideal) f0) X) (e1 : Is3 (M1.view.read (Elt Ideal) f1) W1) (e2 : Is2 (M2.view.read (Elt Ideal) f2) fun _ o => B1 o)
    (h : Cov (Val := Elt Ideal) M6.view (run0.sl.H6_5 (F := Ideal) c M0 M1 M2 M7 f0 f1 f2 f7) (fun r c => if 272 ≤ r ∧ r < 272 + 7168 * 4 then A1 X W1 B1 (r - 272) c else (0 : EReal)) 0 57888) :
    Cov (Val := Elt Ideal) M6.view (run0.sl.H6_6 (F := Ideal) c M0 M1 M2 M7 f0 f1 f2 f7) (fun r c => if 272 ≤ r ∧ r < 272 + 7168 * 5 then A1 X W1 B1 (r - 272) c else (0 : EReal)) 0 57888 := by
  delta run0.sl.H6_6
  exact block6 4 h _ rfl (is2_of fun r o =>
    first_at (g := 7168 * 4 + r.val) (fun k => xs_load e0 _ _ _ _ r k) (fun k => xs_load e0 _ _ _ _ r k) (fun k => xs_load e0 _ _ _ _ r k)
      (fun k => e1.load _ k o) (fun k => e1.load _ k o) (fun k => e1.load _ k o) (e2.load _ _) (by omega) (by omega) (by omega) (by omega))

set_option maxRecDepth 65536 in
set_option maxHeartbeats 0 in
/-- The scratch buffer with the block after block 5 of the first layer. -/
theorem first0_6 (e0 : Is2 (M0.view.read (Elt Ideal) f0) X) (e1 : Is3 (M1.view.read (Elt Ideal) f1) W1) (e2 : Is2 (M2.view.read (Elt Ideal) f2) fun _ o => B1 o)
    (h : Cov (Val := Elt Ideal) M6.view (run0.sl.H6_6 (F := Ideal) c M0 M1 M2 M7 f0 f1 f2 f7) (fun r c => if 272 ≤ r ∧ r < 272 + 7168 * 5 then A1 X W1 B1 (r - 272) c else (0 : EReal)) 0 57888) :
    Cov (Val := Elt Ideal) M6.view (run0.sl.H6_7 (F := Ideal) c M0 M1 M2 M7 f0 f1 f2 f7) (fun r c => if 272 ≤ r ∧ r < 272 + 7168 * 6 then A1 X W1 B1 (r - 272) c else (0 : EReal)) 0 57888 := by
  delta run0.sl.H6_7
  delta run0.sl.r_6 run0.sl.r_7 run0.sl.cst_151
  rw [first_eq5]
  exact block6 5 h _ rfl (is2_of fun r o =>
    first_at (g := 7168 * 5 + r.val) (fun k => xs_load e0 _ _ _ _ r k) (fun k => xs_load e0 _ _ _ _ r k) (fun k => xs_load e0 _ _ _ _ r k)
      (fun k => e1.load _ k o) (fun k => e1.load _ k o) (fun k => e1.load _ k o) (e2.load _ _) (by omega) (by omega) (by omega) (by omega))

set_option maxRecDepth 65536 in
set_option maxHeartbeats 0 in
/-- The scratch buffer with the block after block 6 of the first layer. -/
theorem first0_7 (e0 : Is2 (M0.view.read (Elt Ideal) f0) X) (e1 : Is3 (M1.view.read (Elt Ideal) f1) W1) (e2 : Is2 (M2.view.read (Elt Ideal) f2) fun _ o => B1 o)
    (h : Cov (Val := Elt Ideal) M6.view (run0.sl.H6_7 (F := Ideal) c M0 M1 M2 M7 f0 f1 f2 f7) (fun r c => if 272 ≤ r ∧ r < 272 + 7168 * 6 then A1 X W1 B1 (r - 272) c else (0 : EReal)) 0 57888) :
    Cov (Val := Elt Ideal) M6.view (run0.sl.H6_8 (F := Ideal) c M0 M1 M2 M7 f0 f1 f2 f7) (fun r c => if 272 ≤ r ∧ r < 272 + 7168 * 7 then A1 X W1 B1 (r - 272) c else (0 : EReal)) 0 57888 := by
  delta run0.sl.H6_8
  exact block6 6 h _ rfl (is2_of fun r o =>
    first_at (g := 7168 * 6 + r.val) (fun k => xs_load e0 _ _ _ _ r k) (fun k => xs_load e0 _ _ _ _ r k) (fun k => xs_load e0 _ _ _ _ r k)
      (fun k => e1.load _ k o) (fun k => e1.load _ k o) (fun k => e1.load _ k o) (e2.load _ _) (by omega) (by omega) (by omega) (by omega))

set_option maxRecDepth 65536 in
set_option maxHeartbeats 0 in
/-- The scratch buffer with the block after block 7 of the first layer. -/
theorem first0_8 (e0 : Is2 (M0.view.read (Elt Ideal) f0) X) (e1 : Is3 (M1.view.read (Elt Ideal) f1) W1) (e2 : Is2 (M2.view.read (Elt Ideal) f2) fun _ o => B1 o)
    (h : Cov (Val := Elt Ideal) M6.view (run0.sl.H6_8 (F := Ideal) c M0 M1 M2 M7 f0 f1 f2 f7) (fun r c => if 272 ≤ r ∧ r < 272 + 7168 * 7 then A1 X W1 B1 (r - 272) c else (0 : EReal)) 0 57888) :
    Cov (Val := Elt Ideal) M6.view (run0.sl.H6_9 (F := Ideal) c M0 M1 M2 M7 f0 f1 f2 f7) (fun r c => if 272 ≤ r ∧ r < 272 + 7168 * 8 then A1 X W1 B1 (r - 272) c else (0 : EReal)) 0 57888 := by
  delta run0.sl.H6_9
  exact block6 7 h _ rfl (is2_of fun r o =>
    first_at (g := 7168 * 7 + r.val) (fun k => xs_load e0 _ _ _ _ r k) (fun k => xs_load e0 _ _ _ _ r k) (fun k => xs_load e0 _ _ _ _ r k)
      (fun k => e1.load _ k o) (fun k => e1.load _ k o) (fun k => e1.load _ k o) (e2.load _ _) (by omega) (by omega) (by omega) (by omega))

set_option maxRecDepth 65536 in
set_option maxHeartbeats 0 in
/-- The scratch buffer once the first layer's eight blocks are stored. -/
theorem scratch0 (e0 : Is2 (M0.view.read (Elt Ideal) f0) X) (e1 : Is3 (M1.view.read (Elt Ideal) f1) W1) (e2 : Is2 (M2.view.read (Elt Ideal) f2) fun _ o => B1 o) :
    Cov M6.view (run0.sl.H6_9 (F := Ideal) c M0 M1 M2 M7 f0 f1 f2 f7) (zeroP 256 224 (A1 X W1 B1)) 0 57888 := by
  have c0 := first0_0 M6 (X := X) (W1 := W1) (B1 := B1)
  have c1 := first0_1 c M0 M1 M2 M6 M7 f0 f1 f2 f7 e0 e1 e2 c0
  have c2 := first0_2 c M0 M1 M2 M6 M7 f0 f1 f2 f7 e0 e1 e2 c1
  have c3 := first0_3 c M0 M1 M2 M6 M7 f0 f1 f2 f7 e0 e1 e2 c2
  have c4 := first0_4 c M0 M1 M2 M6 M7 f0 f1 f2 f7 e0 e1 e2 c3
  have c5 := first0_5 c M0 M1 M2 M6 M7 f0 f1 f2 f7 e0 e1 e2 c4
  have c6 := first0_6 c M0 M1 M2 M6 M7 f0 f1 f2 f7 e0 e1 e2 c5
  have c7 := first0_7 c M0 M1 M2 M6 M7 f0 f1 f2 f7 e0 e1 e2 c6
  have c8 := first0_8 c M0 M1 M2 M6 M7 f0 f1 f2 f7 e0 e1 e2 c7
  refine c8.congr (fun r c _ _ _ => ?_) (by omega) (by omega)
  unfold zeroP
  by_cases hr : 272 ≤ r ∧ r < 272 + 7168 * (7 + 1)
  · rw [if_pos hr]
  · rw [if_neg hr]

set_option maxRecDepth 65536 in
set_option maxHeartbeats 0 in
/-- The result with 1 of the second layer's blocks. -/
theorem second0_1 {P : ℕ → ℕ → EReal} (c6 : Cov M6.view (run0.sl.H6_9 (F := Ideal) c M0 M1 M2 M7 f0 f1 f2 f7) P 0 57888)
    (e3 : Is3 (M3.view.read (Elt Ideal) f3) W2) (e4 : Is2 (M4.view.read (Elt Ideal) f4) fun _ o => B2 o)
    (h : Cov (Val := Elt Ideal) M5.view [] (A2 P W2 B2) 0 (7168 * 0)) :
    Cov (Val := Elt Ideal) M5.view (run0.sl.H5_1 (F := Ideal) c M0 M1 M2 M3 M4 M6 M7 f0 f1 f2 f3 f4 f7) (A2 P W2 B2) 0 (7168 * (0 + 1)) := by
  delta run0.sl.H5_1
  exact block5 0 h _ rfl (is2_of fun r o =>
    second_at (g := 7168 * 0 + r.val) (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => e3.load _ c o) (fun c => e3.load _ c o) (fun c => e3.load _ c o) (fun c => e3.load _ c o) (fun c => e3.load _ c o) (fun c => e3.load _ c o) (fun c => e3.load _ c o) (fun c => e3.load _ c o) (fun c => e3.load _ c o)
      (e4.load _ _) (by omega) (by omega) (by omega) (by omega) (by omega) (by omega) (by omega) (by omega) (by omega))

set_option maxRecDepth 65536 in
set_option maxHeartbeats 0 in
/-- The result with 2 of the second layer's blocks. -/
theorem second0_2 {P : ℕ → ℕ → EReal} (c6 : Cov M6.view (run0.sl.H6_9 (F := Ideal) c M0 M1 M2 M7 f0 f1 f2 f7) P 0 57888)
    (e3 : Is3 (M3.view.read (Elt Ideal) f3) W2) (e4 : Is2 (M4.view.read (Elt Ideal) f4) fun _ o => B2 o)
    (h : Cov (Val := Elt Ideal) M5.view (run0.sl.H5_1 (F := Ideal) c M0 M1 M2 M3 M4 M6 M7 f0 f1 f2 f3 f4 f7) (A2 P W2 B2) 0 (7168 * 1)) :
    Cov (Val := Elt Ideal) M5.view (run0.sl.H5_2 (F := Ideal) c M0 M1 M2 M3 M4 M6 M7 f0 f1 f2 f3 f4 f7) (A2 P W2 B2) 0 (7168 * (1 + 1)) := by
  delta run0.sl.H5_2
  delta run0.sl.r_15
  delta run0.sl.r_13 run0.sl.r_14
  rw [second_eq1]
  exact block5 1 h _ rfl (is2_of fun r o =>
    second_at (g := 7168 * 1 + r.val) (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => e3.load _ c o) (fun c => e3.load _ c o) (fun c => e3.load _ c o) (fun c => e3.load _ c o) (fun c => e3.load _ c o) (fun c => e3.load _ c o) (fun c => e3.load _ c o) (fun c => e3.load _ c o) (fun c => e3.load _ c o)
      (e4.load _ _) (by omega) (by omega) (by omega) (by omega) (by omega) (by omega) (by omega) (by omega) (by omega))

set_option maxRecDepth 65536 in
set_option maxHeartbeats 0 in
/-- The result with 3 of the second layer's blocks. -/
theorem second0_3 {P : ℕ → ℕ → EReal} (c6 : Cov M6.view (run0.sl.H6_9 (F := Ideal) c M0 M1 M2 M7 f0 f1 f2 f7) P 0 57888)
    (e3 : Is3 (M3.view.read (Elt Ideal) f3) W2) (e4 : Is2 (M4.view.read (Elt Ideal) f4) fun _ o => B2 o)
    (h : Cov (Val := Elt Ideal) M5.view (run0.sl.H5_2 (F := Ideal) c M0 M1 M2 M3 M4 M6 M7 f0 f1 f2 f3 f4 f7) (A2 P W2 B2) 0 (7168 * 2)) :
    Cov (Val := Elt Ideal) M5.view (run0.sl.H5_3 (F := Ideal) c M0 M1 M2 M3 M4 M6 M7 f0 f1 f2 f3 f4 f7) (A2 P W2 B2) 0 (7168 * (2 + 1)) := by
  delta run0.sl.H5_3
  exact block5 2 h _ rfl (is2_of fun r o =>
    second_at (g := 7168 * 2 + r.val) (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => e3.load _ c o) (fun c => e3.load _ c o) (fun c => e3.load _ c o) (fun c => e3.load _ c o) (fun c => e3.load _ c o) (fun c => e3.load _ c o) (fun c => e3.load _ c o) (fun c => e3.load _ c o) (fun c => e3.load _ c o)
      (e4.load _ _) (by omega) (by omega) (by omega) (by omega) (by omega) (by omega) (by omega) (by omega) (by omega))

set_option maxRecDepth 65536 in
set_option maxHeartbeats 0 in
/-- The result with 4 of the second layer's blocks. -/
theorem second0_4 {P : ℕ → ℕ → EReal} (c6 : Cov M6.view (run0.sl.H6_9 (F := Ideal) c M0 M1 M2 M7 f0 f1 f2 f7) P 0 57888)
    (e3 : Is3 (M3.view.read (Elt Ideal) f3) W2) (e4 : Is2 (M4.view.read (Elt Ideal) f4) fun _ o => B2 o)
    (h : Cov (Val := Elt Ideal) M5.view (run0.sl.H5_3 (F := Ideal) c M0 M1 M2 M3 M4 M6 M7 f0 f1 f2 f3 f4 f7) (A2 P W2 B2) 0 (7168 * 3)) :
    Cov (Val := Elt Ideal) M5.view (run0.sl.H5_4 (F := Ideal) c M0 M1 M2 M3 M4 M6 M7 f0 f1 f2 f3 f4 f7) (A2 P W2 B2) 0 (7168 * (3 + 1)) := by
  delta run0.sl.H5_4
  exact block5 3 h _ rfl (is2_of fun r o =>
    second_at (g := 7168 * 3 + r.val) (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => e3.load _ c o) (fun c => e3.load _ c o) (fun c => e3.load _ c o) (fun c => e3.load _ c o) (fun c => e3.load _ c o) (fun c => e3.load _ c o) (fun c => e3.load _ c o) (fun c => e3.load _ c o) (fun c => e3.load _ c o)
      (e4.load _ _) (by omega) (by omega) (by omega) (by omega) (by omega) (by omega) (by omega) (by omega) (by omega))

set_option maxRecDepth 65536 in
set_option maxHeartbeats 0 in
/-- The result with 5 of the second layer's blocks. -/
theorem second0_5 {P : ℕ → ℕ → EReal} (c6 : Cov M6.view (run0.sl.H6_9 (F := Ideal) c M0 M1 M2 M7 f0 f1 f2 f7) P 0 57888)
    (e3 : Is3 (M3.view.read (Elt Ideal) f3) W2) (e4 : Is2 (M4.view.read (Elt Ideal) f4) fun _ o => B2 o)
    (h : Cov (Val := Elt Ideal) M5.view (run0.sl.H5_4 (F := Ideal) c M0 M1 M2 M3 M4 M6 M7 f0 f1 f2 f3 f4 f7) (A2 P W2 B2) 0 (7168 * 4)) :
    Cov (Val := Elt Ideal) M5.view (run0.sl.H5_5 (F := Ideal) c M0 M1 M2 M3 M4 M6 M7 f0 f1 f2 f3 f4 f7) (A2 P W2 B2) 0 (7168 * (4 + 1)) := by
  delta run0.sl.H5_5
  exact block5 4 h _ rfl (is2_of fun r o =>
    second_at (g := 7168 * 4 + r.val) (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => e3.load _ c o) (fun c => e3.load _ c o) (fun c => e3.load _ c o) (fun c => e3.load _ c o) (fun c => e3.load _ c o) (fun c => e3.load _ c o) (fun c => e3.load _ c o) (fun c => e3.load _ c o) (fun c => e3.load _ c o)
      (e4.load _ _) (by omega) (by omega) (by omega) (by omega) (by omega) (by omega) (by omega) (by omega) (by omega))

set_option maxRecDepth 65536 in
set_option maxHeartbeats 0 in
/-- The result with 6 of the second layer's blocks. -/
theorem second0_6 {P : ℕ → ℕ → EReal} (c6 : Cov M6.view (run0.sl.H6_9 (F := Ideal) c M0 M1 M2 M7 f0 f1 f2 f7) P 0 57888)
    (e3 : Is3 (M3.view.read (Elt Ideal) f3) W2) (e4 : Is2 (M4.view.read (Elt Ideal) f4) fun _ o => B2 o)
    (h : Cov (Val := Elt Ideal) M5.view (run0.sl.H5_5 (F := Ideal) c M0 M1 M2 M3 M4 M6 M7 f0 f1 f2 f3 f4 f7) (A2 P W2 B2) 0 (7168 * 5)) :
    Cov (Val := Elt Ideal) M5.view (run0.sl.H5_6 (F := Ideal) c M0 M1 M2 M3 M4 M6 M7 f0 f1 f2 f3 f4 f7) (A2 P W2 B2) 0 (7168 * (5 + 1)) := by
  delta run0.sl.H5_6
  exact block5 5 h _ rfl (is2_of fun r o =>
    second_at (g := 7168 * 5 + r.val) (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => e3.load _ c o) (fun c => e3.load _ c o) (fun c => e3.load _ c o) (fun c => e3.load _ c o) (fun c => e3.load _ c o) (fun c => e3.load _ c o) (fun c => e3.load _ c o) (fun c => e3.load _ c o) (fun c => e3.load _ c o)
      (e4.load _ _) (by omega) (by omega) (by omega) (by omega) (by omega) (by omega) (by omega) (by omega) (by omega))

set_option maxRecDepth 65536 in
set_option maxHeartbeats 0 in
/-- The result with 7 of the second layer's blocks. -/
theorem second0_7 {P : ℕ → ℕ → EReal} (c6 : Cov M6.view (run0.sl.H6_9 (F := Ideal) c M0 M1 M2 M7 f0 f1 f2 f7) P 0 57888)
    (e3 : Is3 (M3.view.read (Elt Ideal) f3) W2) (e4 : Is2 (M4.view.read (Elt Ideal) f4) fun _ o => B2 o)
    (h : Cov (Val := Elt Ideal) M5.view (run0.sl.H5_6 (F := Ideal) c M0 M1 M2 M3 M4 M6 M7 f0 f1 f2 f3 f4 f7) (A2 P W2 B2) 0 (7168 * 6)) :
    Cov (Val := Elt Ideal) M5.view (run0.sl.H5_7 (F := Ideal) c M0 M1 M2 M3 M4 M6 M7 f0 f1 f2 f3 f4 f7) (A2 P W2 B2) 0 (7168 * (6 + 1)) := by
  delta run0.sl.H5_7
  exact block5 6 h _ rfl (is2_of fun r o =>
    second_at (g := 7168 * 6 + r.val) (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => e3.load _ c o) (fun c => e3.load _ c o) (fun c => e3.load _ c o) (fun c => e3.load _ c o) (fun c => e3.load _ c o) (fun c => e3.load _ c o) (fun c => e3.load _ c o) (fun c => e3.load _ c o) (fun c => e3.load _ c o)
      (e4.load _ _) (by omega) (by omega) (by omega) (by omega) (by omega) (by omega) (by omega) (by omega) (by omega))

set_option maxRecDepth 65536 in
set_option maxHeartbeats 0 in
/-- The result with 8 of the second layer's blocks. -/
theorem second0_8 {P : ℕ → ℕ → EReal} (c6 : Cov M6.view (run0.sl.H6_9 (F := Ideal) c M0 M1 M2 M7 f0 f1 f2 f7) P 0 57888)
    (e3 : Is3 (M3.view.read (Elt Ideal) f3) W2) (e4 : Is2 (M4.view.read (Elt Ideal) f4) fun _ o => B2 o)
    (h : Cov (Val := Elt Ideal) M5.view (run0.sl.H5_7 (F := Ideal) c M0 M1 M2 M3 M4 M6 M7 f0 f1 f2 f3 f4 f7) (A2 P W2 B2) 0 (7168 * 7)) :
    Cov (Val := Elt Ideal) M5.view (run0.sl.H5_8 (F := Ideal) c M0 M1 M2 M3 M4 M6 M7 f0 f1 f2 f3 f4 f7) (A2 P W2 B2) 0 (7168 * (7 + 1)) := by
  delta run0.sl.H5_8
  exact block5 7 h _ rfl (is2_of fun r o =>
    second_at (g := 7168 * 7 + r.val) (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => rows c6 _ r c)
      (fun c => e3.load _ c o) (fun c => e3.load _ c o) (fun c => e3.load _ c o) (fun c => e3.load _ c o) (fun c => e3.load _ c o) (fun c => e3.load _ c o) (fun c => e3.load _ c o) (fun c => e3.load _ c o) (fun c => e3.load _ c o)
      (e4.load _ _) (by omega) (by omega) (by omega) (by omega) (by omega) (by omega) (by omega) (by omega) (by omega))

set_option maxRecDepth 65536 in
set_option maxHeartbeats 0 in
/-- The result once the second layer's eight blocks are stored. -/
theorem result0 {P : ℕ → ℕ → EReal} (c6 : Cov M6.view (run0.sl.H6_9 (F := Ideal) c M0 M1 M2 M7 f0 f1 f2 f7) P 0 57888)
    (e3 : Is3 (M3.view.read (Elt Ideal) f3) W2) (e4 : Is2 (M4.view.read (Elt Ideal) f4) fun _ o => B2 o) :
    Cov M5.view (run0.sl.H5_8 (F := Ideal) c M0 M1 M2 M3 M4 M6 M7 f0 f1 f2 f3 f4 f7) (A2 P W2 B2) 0 57344 := by
  have b0 : Cov (Val := Elt Ideal) M5.view [] (A2 P W2 B2) 0 (7168 * 0) := cov_nil
  have b1 := second0_1 c M0 M1 M2 M3 M4 M5 M6 M7 f0 f1 f2 f3 f4 f7 c6 e3 e4 b0
  have b2 := second0_2 c M0 M1 M2 M3 M4 M5 M6 M7 f0 f1 f2 f3 f4 f7 c6 e3 e4 b1
  have b3 := second0_3 c M0 M1 M2 M3 M4 M5 M6 M7 f0 f1 f2 f3 f4 f7 c6 e3 e4 b2
  have b4 := second0_4 c M0 M1 M2 M3 M4 M5 M6 M7 f0 f1 f2 f3 f4 f7 c6 e3 e4 b3
  have b5 := second0_5 c M0 M1 M2 M3 M4 M5 M6 M7 f0 f1 f2 f3 f4 f7 c6 e3 e4 b4
  have b6 := second0_6 c M0 M1 M2 M3 M4 M5 M6 M7 f0 f1 f2 f3 f4 f7 c6 e3 e4 b5
  have b7 := second0_7 c M0 M1 M2 M3 M4 M5 M6 M7 f0 f1 f2 f3 f4 f7 c6 e3 e4 b6
  have b8 := second0_8 c M0 M1 M2 M3 M4 M5 M6 M7 f0 f1 f2 f3 f4 f7 c6 e3 e4 b7
  exact b8

set_option maxRecDepth 65536 in
set_option maxHeartbeats 0 in
/-- What custom call 0 leaves at a pixel of its result: its two layers, one after the other, whatever its scratch buffers held. -/
theorem val0 {G : Img} {W1' : ℕ → ℕ → ℕ → EReal}
    (e0 : Is2 (M0.view.read (Elt Ideal) f0) X)
    (hX : ∀ R j t c, R < 226 → j < 224 → t < 3 → c < 3 → X (R * 256 + j) (t * 3 + c) = zpad 224 224 G R (j + t) c)
    (e1 : Is3 (M1.view.read (Elt Ideal) f1) W1')
    (hW : ∀ d t c o, d < 3 → t < 3 → c < 3 → o < 64 → W1' d (t * 3 + c) o = W1 (3 * d + t) c o)
    (e2 : Is2 (M2.view.read (Elt Ideal) f2) fun _ o => B1 o)
    (e3 : Is3 (M3.view.read (Elt Ideal) f3) W2) (e4 : Is2 (M4.view.read (Elt Ideal) f4) fun _ o => B2 o)
    (i j o : ℕ) (hi : i < 224) (hj : j < 224) (ho : o < 64) :
    M5.view.read (Elt Ideal) (run0 (F := Ideal) c M0 h0 M1 h1 M2 h2 M3 h3 M4 h4 M5 h5 M6 h6 M7 h7 f0 f1 f2 f3 f4 f6 f7).1
        (ix2 (⟨i * 256 + j, by omega⟩ : Fin 57344) (⟨o, ho⟩ : Fin 64))
      = conv 224 224 64 W2 B2 (conv 224 224 3 W1 B1 G) i j o := by
  have c6 := scratch0 c M0 M1 M2 M6 M7 f0 f1 f2 f7 e0 e1 e2
  delta run0
  dsimp only
  refine (result0 c M0 M1 M2 M3 M4 M5 M6 M7 f0 f1 f2 f3 f4 f7 c6 e3 e4 M5.view.junk (ix2 (⟨i * 256 + j, by omega⟩ : Fin 57344) (⟨o, ho⟩ : Fin 64))
    (Nat.zero_le _) (show i * 256 + j < 57344 by omega)).trans ?_
  exact A2_conv (fun R J c => zeroP_at (by omega) fun i j c hi hj hc => A1_conv hX hW hi hj hc) hi hj

end Values

end Cert.Proof.K

end
-- ==== Proof.Held1.lean ====
module

public import proofs.«01_k».proof.Proof.Layer
public import proofs.«01_k».proof.Proof.Run1
public import proofs.«01_k».proof.Proof.Gen.KernelIdeal.Skeleton

@[expose] public section

noncomputable section

namespace Cert.Proof.K

open Cert.KernelIdeal Cert.KernelIdeal.Gen
open Idealize.ShloMosaic Cert.Proof.Net

set_option maxRecDepth 16384 in
/-- The first layer of custom call 1 at one pixel, zero beyond the image's last column. -/
theorem lay1_1 {W : ℕ → ℕ → ℕ → EReal} {B : ℕ → EReal} {G : Img} {P : ℕ → ℕ → EReal} {i j : ℕ} {r : Fin 14336} {o : Fin 128}
    {x00 x01 x02 x10 x11 x12 x20 x21 x22 : Vec Ideal S14336x64 .bf16} {w0 w1 w2 w3 w4 w5 w6 w7 w8 : Vec Ideal S1x64x128 .bf16} {b : Vec Ideal S1x128 .f32}
    (hi : i < 112) (hj : j < 128) (hr : r.val = i * 128 + j)
    (hP : ∀ R J c, R < 112 + 2 → J < 112 + 2 → c < 64 → P (15 + R * 128 + J) c = zpad 112 112 G R J c)
    (h00 : ∀ c : Fin 64, x00 (ix2 r c) = P (15 + r.val) c)
    (h01 : ∀ c : Fin 64, x01 (ix2 r c) = P (16 + r.val) c)
    (h02 : ∀ c : Fin 64, x02 (ix2 r c) = P (17 + r.val) c)
    (h10 : ∀ c : Fin 64, x10 (ix2 r c) = P (143 + r.val) c)
    (h11 : ∀ c : Fin 64, x11 (ix2 r c) = P (144 + r.val) c)
    (h12 : ∀ c : Fin 64, x12 (ix2 r c) = P (145 + r.val) c)
    (h20 : ∀ c : Fin 64, x20 (ix2 r c) = P (271 + r.val) c)
    (h21 : ∀ c : Fin 64, x21 (ix2 r c) = P (272 + r.val) c)
    (h22 : ∀ c : Fin 64, x22 (ix2 r c) = P (273 + r.val) c)
    (e0 : ∀ c : Fin 64, w0 (ix3 0 c o) = W 0 c o)    (e1 : ∀ c : Fin 64, w1 (ix3 0 c o) = W 1 c o)    (e2 : ∀ c : Fin 64, w2 (ix3 0 c o) = W 2 c o)
    (e3 : ∀ c : Fin 64, w3 (ix3 0 c o) = W 3 c o)    (e4 : ∀ c : Fin 64, w4 (ix3 0 c o) = W 4 c o)    (e5 : ∀ c : Fin 64, w5 (ix3 0 c o) = W 5 c o)
    (e6 : ∀ c : Fin 64, w6 (ix3 0 c o) = W 6 c o)    (e7 : ∀ c : Fin 64, w7 (ix3 0 c o) = W 7 c o)    (e8 : ∀ c : Fin 64, w8 (ix3 0 c o) = W 8 c o)
    (eb : b (ix2 0 o) = B o) :
    k1_pay9 (k1_pay7 x01 x02 (k1_pay6 x00 w0) w1 w2 x11 x10 x12 w3 w4 w5) x21 x20 x22 (k1_pay8 w6) w7 w8 b (ix2 r o) = if j < 112 then conv 112 112 64 W B G i j o else 0 := by
  pointwise [k1_pay9, k1_pay7, k1_pay6, k1_pay8]
  refine (sel_eq (col_lt (k := 7) (m := 112) (by omega) hr (by omega) (by omega)) _ _).trans ?_
  by_cases hw : j < 112
  · rw [if_pos hw, if_pos hw]
    exact conv_at (wp := 128) hi hw hr hP
      h00 h01 h02 h10 h11 h12 h20 h21 h22 e0 e1 e2 e3 e4 e5 e6 e7 e8 eb
  · rw [if_neg hw, if_neg hw]

set_option maxRecDepth 16384 in
/-- Its second layer. -/
theorem lay1_2 {W : ℕ → ℕ → ℕ → EReal} {B : ℕ → EReal} {G : Img} {P : ℕ → ℕ → EReal} {i j : ℕ} {r : Fin 14336} {o : Fin 128}
    {x00 x01 x02 x10 x11 x12 x20 x21 x22 : Vec Ideal S14336x128 .bf16} {w0 w1 w2 w3 w4 w5 w6 w7 w8 : Vec Ideal S1x128x128 .bf16} {b : Vec Ideal S1x128 .f32}
    (hi : i < 112) (hj : j < 112) (hr : r.val = i * 128 + j)
    (hP : ∀ R J c, R < 112 + 2 → J < 112 + 2 → c < 128 → P (15 + R * 128 + J) c = zpad 112 112 G R J c)
    (h00 : ∀ c : Fin 128, x00 (ix2 r c) = P (15 + r.val) c)
    (h01 : ∀ c : Fin 128, x01 (ix2 r c) = P (16 + r.val) c)
    (h02 : ∀ c : Fin 128, x02 (ix2 r c) = P (17 + r.val) c)
    (h10 : ∀ c : Fin 128, x10 (ix2 r c) = P (143 + r.val) c)
    (h11 : ∀ c : Fin 128, x11 (ix2 r c) = P (144 + r.val) c)
    (h12 : ∀ c : Fin 128, x12 (ix2 r c) = P (145 + r.val) c)
    (h20 : ∀ c : Fin 128, x20 (ix2 r c) = P (271 + r.val) c)
    (h21 : ∀ c : Fin 128, x21 (ix2 r c) = P (272 + r.val) c)
    (h22 : ∀ c : Fin 128, x22 (ix2 r c) = P (273 + r.val) c)
    (e0 : ∀ c : Fin 128, w0 (ix3 0 c o) = W 0 c o)    (e1 : ∀ c : Fin 128, w1 (ix3 0 c o) = W 1 c o)    (e2 : ∀ c : Fin 128, w2 (ix3 0 c o) = W 2 c o)
    (e3 : ∀ c : Fin 128, w3 (ix3 0 c o) = W 3 c o)    (e4 : ∀ c : Fin 128, w4 (ix3 0 c o) = W 4 c o)    (e5 : ∀ c : Fin 128, w5 (ix3 0 c o) = W 5 c o)
    (e6 : ∀ c : Fin 128, w6 (ix3 0 c o) = W 6 c o)    (e7 : ∀ c : Fin 128, w7 (ix3 0 c o) = W 7 c o)    (e8 : ∀ c : Fin 128, w8 (ix3 0 c o) = W 8 c o)
    (eb : b (ix2 0 o) = B o) :
    k1_pay1 (k1_pay11 x01 x00 x02 (k1_pay10 w0) (constant S14336x128 FTy.f32 0#32) w1 w2 x11 x10 x12 w3 w4 w5) x21 x20 x22 w6 w7 w8 b (ix2 r o) = conv 112 112 128 W B G i j o := by
  pointwise [k1_pay1, k1_pay11, k1_pay10]
  exact conv_at (wp := 128) hi hj hr hP
    h00 h01 h02 h10 h11 h12 h20 h21 h22 e0 e1 e2 e3 e4 e5 e6 e7 e8 eb

set_option maxRecDepth 16384 in
/-- The greatest of the four channel groups. -/
theorem groups1 (v : Vec Ideal S14336x256 .bf16) (r : Fin 14336) (c : Fin 64) : k1_pay4 v (ix2 r c)
    = max (max (arr v r.val c.val) (arr v r.val (64 + c.val))) (max (arr v r.val (128 + c.val)) (arr v r.val (192 + c.val))) := by
  have a0 := arr_apply v r ⟨c.val, by omega⟩
  have a1 := arr_apply v r ⟨64 + c.val, by omega⟩
  have a2 := arr_apply v r ⟨128 + c.val, by omega⟩
  have a3 := arr_apply v r ⟨192 + c.val, by omega⟩
  simp only at a0 a1 a2 a3
  rw [a0, a1, a2, a3]
  pointwise [k1_pay4]

set_option maxRecDepth 65536 in
set_option maxHeartbeats 0 in
/-- The first scratch buffer once its stores are made: the squares' greatest, zeros around. -/
theorem held1_6 (c : Dev nD)
    (M0 : Memref sig .tc .vmem S14336x256 .bf16)
    (M6 : Memref sig .tc .vmem S14624x64 .bf16)
    (f0 : Bf (F := Ideal) c M0) {X : ℕ → ℕ → EReal} {G : Img}
    (e0 : Is2 (M0.view.read (Elt Ideal) f0) X)
    (hX : ∀ i j k, i < 112 → j < 128 → k < 64 → max (max (X (i * 128 + j) k) (X (i * 128 + j) (64 + k)))
      (max (X (i * 128 + j) (128 + k)) (X (i * 128 + j) (192 + k))) = if j < 112 then G i j k else 0) :
    ∃ A0 : ℕ → ℕ → Elt Ideal .bf16, Cov M6.view (run1.sl.H6_3 (F := Ideal) c M0 f0) (zeroP 128 112 A0) 0 14624 ∧
      ∀ i j k, i < 112 → j < 128 → k < 64 → A0 (i * 128 + j) k = if j < 112 then G i j k else 0 :=
    ⟨_, zero_cov3 (wp := 128) (h := 112) rfl rfl rfl rfl _ _ _ (is2_arr _) (fun x => by pointwise [k1_pay2]) (fun x => by pointwise [k1_pay3]), fun i j k hi hj hk => by
        refine (arr_apply _ (⟨i * 128 + j, by omega⟩ : Fin 14336) (⟨k, hk⟩ : Fin 64)).trans ((groups1 _ _ _).trans ?_)
        have ar : ∀ q, q < 256 → arr (View.readAt (Elt Ideal) M0.view (Rect.unit ![0, 0] S14336x256.size inb_S14336x256_S14336x256_0_0).toLoadRect f0) (i * 128 + j) q
            = X (i * 128 + j) q := fun q hq =>
          (arr_apply _ (⟨i * 128 + j, by omega⟩ : Fin 14336) (⟨q, hq⟩ : Fin 256)).trans ((e0.load _ _).trans (by simp [ix2]))
        rw [← hX i j k hi hj hk]
        exact congrArg₂ max (congrArg₂ max (ar _ (by omega)) (ar _ (show 64 + k < _ by omega)))
          (congrArg₂ max (ar _ (show 128 + k < _ by omega)) (ar _ (show 192 + k < _ by omega)))⟩

set_option maxRecDepth 65536 in
set_option maxHeartbeats 0 in
/-- The second scratch buffer once its stores are made: the first layer, zeros around. -/
theorem held1_7 (c : Dev nD)
    (M0 : Memref sig .tc .vmem S14336x256 .bf16)
    (M1 : Memref sig .tc .vmem S9x64x128 .bf16)
    (M2 : Memref sig .tc .vmem S1x128 .f32)
    (M6 : Memref sig .tc .vmem S14624x64 .bf16)
    (M7 : Memref sig .tc .vmem S14624x128 .bf16)
    (f0 : Bf (F := Ideal) c M0) (f1 : Bf (F := Ideal) c M1) (f2 : Bf (F := Ideal) c M2)
    {G : Img} {W1 : ℕ → ℕ → ℕ → EReal} {B1 : ℕ → EReal}
    (e1 : Is3 (M1.view.read (Elt Ideal) f1) W1) (e2 : Is2 (M2.view.read (Elt Ideal) f2) fun _ o => B1 o)
    {A0 : ℕ → ℕ → Elt Ideal .bf16} (c6 : Cov M6.view (run1.sl.H6_3 (F := Ideal) c M0 f0) (zeroP 128 112 A0) 0 14624)
    (a0 : ∀ i j k, i < 112 → j < 128 → k < 64 → A0 (i * 128 + j) k = if j < 112 then G i j k else 0) :
    ∃ A1 : ℕ → ℕ → Elt Ideal .bf16, Cov M7.view (run1.sl.H7_2 (F := Ideal) c M0 M1 M2 M6 f0 f1 f2) (zeroP 128 112 A1) 0 14624 ∧
      ∀ i j k, i < 112 → j < 128 → k < 128 → A1 (i * 128 + j) k = if j < 112 then conv 112 112 64 W1 B1 G i j k else 0 :=
    ⟨_, zero_cov2 (wp := 128) (h := 112) rfl rfl rfl _ _ (is2_arr _) (fun x => by pointwise [k1_pay5]), fun i j k hi hj hk =>
        (arr_apply _ (⟨i * 128 + j, by omega⟩ : Fin 14336) (⟨k, hk⟩ : Fin 128)).trans
          (lay1_1 hi hj rfl (fun R J c => zeroP_at (by omega) a0)
            (fun c => c6.load _ _ (ix2 _ c) (by simp only [ix2]; omega) (by simp only [ix2]; omega))
            (fun c => c6.load _ _ (ix2 _ c) (by simp only [ix2]; omega) (by simp only [ix2]; omega))
            (fun c => c6.load _ _ (ix2 _ c) (by simp only [ix2]; omega) (by simp only [ix2]; omega))
            (fun c => c6.load _ _ (ix2 _ c) (by simp only [ix2]; omega) (by simp only [ix2]; omega))
            (fun c => c6.load _ _ (ix2 _ c) (by simp only [ix2]; omega) (by simp only [ix2]; omega))
            (fun c => c6.load _ _ (ix2 _ c) (by simp only [ix2]; omega) (by simp only [ix2]; omega))
            (fun c => c6.load _ _ (ix2 _ c) (by simp only [ix2]; omega) (by simp only [ix2]; omega))
            (fun c => c6.load _ _ (ix2 _ c) (by simp only [ix2]; omega) (by simp only [ix2]; omega))
            (fun c => c6.load _ _ (ix2 _ c) (by simp only [ix2]; omega) (by simp only [ix2]; omega))
            (fun c => e1.load _ c _) (fun c => e1.load _ c _) (fun c => e1.load _ c _) (fun c => e1.load _ c _) (fun c => e1.load _ c _) (fun c => e1.load _ c _) (fun c => e1.load _ c _) (fun c => e1.load _ c _) (fun c => e1.load _ c _) (e2.load _ _))⟩

set_option maxRecDepth 65536 in
set_option maxHeartbeats 0 in
/-- The result once it is stored: the second layer. -/
theorem held1_5 (c : Dev nD)
    (M0 : Memref sig .tc .vmem S14336x256 .bf16)
    (M1 : Memref sig .tc .vmem S9x64x128 .bf16)
    (M2 : Memref sig .tc .vmem S1x128 .f32)
    (M3 : Memref sig .tc .vmem S9x128x128 .bf16)
    (M4 : Memref sig .tc .vmem S1x128 .f32)
    (M5 : Memref sig .tc .vmem S14336x128 .bf16)
    (M6 : Memref sig .tc .vmem S14624x64 .bf16)
    (M7 : Memref sig .tc .vmem S14624x128 .bf16)
    (f0 : Bf (F := Ideal) c M0) (f1 : Bf (F := Ideal) c M1) (f2 : Bf (F := Ideal) c M2) (f3 : Bf (F := Ideal) c M3) (f4 : Bf (F := Ideal) c M4)
    {G : Img} {W2 : ℕ → ℕ → ℕ → EReal} {B2 : ℕ → EReal}
    (e3 : Is3 (M3.view.read (Elt Ideal) f3) W2) (e4 : Is2 (M4.view.read (Elt Ideal) f4) fun _ o => B2 o)
    {A1 : ℕ → ℕ → Elt Ideal .bf16} (c7 : Cov M7.view (run1.sl.H7_2 (F := Ideal) c M0 M1 M2 M6 f0 f1 f2) (zeroP 128 112 A1) 0 14624)
    (a1 : ∀ i j k, i < 112 → j < 128 → k < 128 → A1 (i * 128 + j) k = if j < 112 then G i j k else 0) :
    ∃ A2 : ℕ → ℕ → Elt Ideal .bf16, Cov M5.view (run1.sl.H5_1 (F := Ideal) c M0 M1 M2 M3 M4 M6 M7 f0 f1 f2 f3 f4) A2 0 14336 ∧
      ∀ i j o, i < 112 → j < 112 → o < 128 → A2 (i * 128 + j) o = conv 112 112 128 W2 B2 G i j o :=
  ⟨_, cov_all (L := []) _ (is2_arr _), fun i j o hi hj ho =>
    (arr_apply _ (⟨i * 128 + j, by omega⟩ : Fin 14336) (⟨o, ho⟩ : Fin 128)).trans
    (lay1_2 hi hj rfl (fun R J c => zeroP_at (by omega) a1)
            (fun c => c7.load _ _ (ix2 _ c) (by simp only [ix2]; omega) (by simp only [ix2]; omega))
            (fun c => c7.load _ _ (ix2 _ c) (by simp only [ix2]; omega) (by simp only [ix2]; omega))
            (fun c => c7.load _ _ (ix2 _ c) (by simp only [ix2]; omega) (by simp only [ix2]; omega))
            (fun c => c7.load _ _ (ix2 _ c) (by simp only [ix2]; omega) (by simp only [ix2]; omega))
            (fun c => c7.load _ _ (ix2 _ c) (by simp only [ix2]; omega) (by simp only [ix2]; omega))
            (fun c => c7.load _ _ (ix2 _ c) (by simp only [ix2]; omega) (by simp only [ix2]; omega))
            (fun c => c7.load _ _ (ix2 _ c) (by simp only [ix2]; omega) (by simp only [ix2]; omega))
            (fun c => c7.load _ _ (ix2 _ c) (by simp only [ix2]; omega) (by simp only [ix2]; omega))
            (fun c => c7.load _ _ (ix2 _ c) (by simp only [ix2]; omega) (by simp only [ix2]; omega))
            (fun c => e3.load _ c _) (fun c => e3.load _ c _) (fun c => e3.load _ c _) (fun c => e3.load _ c _) (fun c => e3.load _ c _) (fun c => e3.load _ c _) (fun c => e3.load _ c _) (fun c => e3.load _ c _) (fun c => e3.load _ c _) (e4.load _ _))⟩

end Cert.Proof.K

end
-- ==== Proof.Val1.lean ====
module

public import proofs.«01_k».proof.Proof.Held1

@[expose] public section

noncomputable section

namespace Cert.Proof.K

open Cert.KernelIdeal Cert.KernelIdeal.Gen
open Idealize.ShloMosaic Cert.Proof.Net

set_option maxRecDepth 65536 in
set_option maxHeartbeats 0 in
/-- What custom call 1 leaves at a pixel of its result: its two layers, one after the other, of the greatest of the four channel
    groups, whatever its scratch buffers held. -/
theorem val1 (c : Dev nD)
    (M0 : Memref sig .tc .vmem S14336x256 .bf16) (h0 : M0.IsWhole)
    (M1 : Memref sig .tc .vmem S9x64x128 .bf16) (h1 : M1.IsWhole)
    (M2 : Memref sig .tc .vmem S1x128 .f32) (h2 : M2.IsWhole)
    (M3 : Memref sig .tc .vmem S9x128x128 .bf16) (h3 : M3.IsWhole)
    (M4 : Memref sig .tc .vmem S1x128 .f32) (h4 : M4.IsWhole)
    (M5 : Memref sig .tc .vmem S14336x128 .bf16) (h5 : M5.IsWhole)
    (M6 : Memref sig .tc .vmem S14624x64 .bf16) (h6 : M6.IsWhole)
    (M7 : Memref sig .tc .vmem S14624x128 .bf16) (h7 : M7.IsWhole)
    (f0 : Bf (F := Ideal) c M0) (f1 : Bf (F := Ideal) c M1) (f2 : Bf (F := Ideal) c M2) (f3 : Bf (F := Ideal) c M3) (f4 : Bf (F := Ideal) c M4)
    (f6 : Bf (F := Ideal) c M6) (f7 : Bf (F := Ideal) c M7)
    {X : ℕ → ℕ → EReal} {G : Img} {W1 W2 : ℕ → ℕ → ℕ → EReal} {B1 B2 : ℕ → EReal}
    (e0 : Is2 (M0.view.read (Elt Ideal) f0) X)
    (hX : ∀ i j k, i < 112 → j < 128 → k < 64 → max (max (X (i * 128 + j) k) (X (i * 128 + j) (64 + k)))
      (max (X (i * 128 + j) (128 + k)) (X (i * 128 + j) (192 + k))) = if j < 112 then G i j k else 0)
    (e1 : Is3 (M1.view.read (Elt Ideal) f1) W1) (e2 : Is2 (M2.view.read (Elt Ideal) f2) fun _ o => B1 o)
    (e3 : Is3 (M3.view.read (Elt Ideal) f3) W2) (e4 : Is2 (M4.view.read (Elt Ideal) f4) fun _ o => B2 o)
    (i j o : ℕ) (hi : i < 112) (hj : j < 112) (ho : o < 128) :
    M5.view.read (Elt Ideal) (run1 (F := Ideal) c M0 h0 M1 h1 M2 h2 M3 h3 M4 h4 M5 h5 M6 h6 M7 h7 f0 f1 f2 f3 f4 f6 f7).1
        (ix2 (⟨i * 128 + j, by omega⟩ : Fin 14336) (⟨o, ho⟩ : Fin 128))
      = conv 112 112 128 W2 B2 (conv 112 112 64 W1 B1 G) i j o := by
  obtain ⟨A0, c6, a0⟩ := held1_6 c M0 M6 f0 e0 hX
  obtain ⟨A1, c7, a1⟩ := held1_7 c M0 M1 M2 M6 M7 f0 f1 f2 e1 e2 c6 a0
  obtain ⟨A2, c5, a2⟩ := held1_5 c M0 M1 M2 M3 M4 M5 M6 M7 f0 f1 f2 f3 f4 e3 e4 c7 a1
  delta run1
  dsimp only
  exact (c5 M5.view.junk (ix2 (⟨i * 128 + j, by omega⟩ : Fin 14336) (⟨o, ho⟩ : Fin 128)) (Nat.zero_le _)
    (show i * 128 + j < 14336 by omega)).trans (a2 i j o hi hj ho)

end Cert.Proof.K

end
-- ==== Proof.Val2.lean ====
module

public import proofs.«01_k».proof.Proof.Layer
public import proofs.«01_k».proof.Proof.Run2
public import proofs.«01_k».proof.Proof.Gen.KernelIdeal.Skeleton

@[expose] public section

noncomputable section

namespace Cert.Proof.K

open Cert.KernelIdeal Cert.KernelIdeal.Gen
open Idealize.ShloMosaic Cert.Proof.Net

set_option maxRecDepth 16384 in
/-- The first layer of custom call 2 at one pixel. -/
theorem lay2_1 {W : ℕ → ℕ → ℕ → EReal} {B : ℕ → EReal} {G : Img} {P : ℕ → ℕ → EReal} {i j : ℕ} {r : Fin 3584} {o : Fin 256}
    {x00 x01 x02 x10 x11 x12 x20 x21 x22 : Vec Ideal S3584x128 .bf16} {w0 w1 w2 w3 w4 w5 w6 w7 w8 : Vec Ideal S1x128x256 .bf16} {b : Vec Ideal S1x256 .f32}
    (hi : i < 56) (hj : j < 56) (hr : r.val = i * 64 + j)
    (hP : ∀ R J c, R < 56 + 2 → J < 56 → c < 128 → P (16 + R * 64 + J) c = G (min (R - 1) (56 - 1)) J c)
    (h00 : ∀ c : Fin 128, 0 < j → x00 (ix2 r c) = P (15 + r.val) c)
    (h01 : ∀ c : Fin 128, x01 (ix2 r c) = P (16 + r.val) c)
    (h02 : ∀ c : Fin 128, x02 (ix2 r c) = P (17 + r.val) c)
    (h10 : ∀ c : Fin 128, x10 (ix2 r c) = P (79 + r.val) c)
    (h11 : ∀ c : Fin 128, x11 (ix2 r c) = P (80 + r.val) c)
    (h12 : ∀ c : Fin 128, x12 (ix2 r c) = P (81 + r.val) c)
    (h20 : ∀ c : Fin 128, x20 (ix2 r c) = P (143 + r.val) c)
    (h21 : ∀ c : Fin 128, x21 (ix2 r c) = P (144 + r.val) c)
    (h22 : ∀ c : Fin 128, x22 (ix2 r c) = P (145 + r.val) c)
    (e0 : ∀ c : Fin 128, w0 (ix3 0 c o) = W 0 c o)    (e1 : ∀ c : Fin 128, w1 (ix3 0 c o) = W 1 c o)    (e2 : ∀ c : Fin 128, w2 (ix3 0 c o) = W 2 c o)
    (e3 : ∀ c : Fin 128, w3 (ix3 0 c o) = W 3 c o)    (e4 : ∀ c : Fin 128, w4 (ix3 0 c o) = W 4 c o)    (e5 : ∀ c : Fin 128, w5 (ix3 0 c o) = W 5 c o)
    (e6 : ∀ c : Fin 128, w6 (ix3 0 c o) = W 6 c o)    (e7 : ∀ c : Fin 128, w7 (ix3 0 c o) = W 7 c o)    (e8 : ∀ c : Fin 128, w8 (ix3 0 c o) = W 8 c o)
    (eb : b (ix2 0 o) = B o) :
    k2_pay9 k2_pay5 (k2_pay8 k2_pay5 x01 (k2_pay6 x01 x00) (k2_pay7 x01 x02) w0 w1 w2 x11 x10 x12 w3 w4 w5) x21 x20 x22 w6 w7 w8 b (ix2 r o) = gconv 56 56 128 W B G i j o := by
  pointwise [k2_pay9, k2_pay5, k2_pay8, k2_pay6, k2_pay7]
  exact gconv_at (wp := 64) hi hj hr (col_eq (k := 6) (m := 0) (by omega) hr (by omega) (by omega)) (col_eq (k := 6) (m := 55) (by omega) hr (by omega) (by omega)) hP
    h00 h01 h02 h10 h11 h12 h20 h21 h22 e0 e1 e2 e3 e4 e5 e6 e7 e8 eb

set_option maxRecDepth 16384 in
/-- Its second layer. -/
theorem lay2_2 {W : ℕ → ℕ → ℕ → EReal} {B : ℕ → EReal} {G : Img} {P : ℕ → ℕ → EReal} {i j : ℕ} {r : Fin 3584} {o : Fin 256}
    {x00 x01 x02 x10 x11 x12 x20 x21 x22 : Vec Ideal S3584x256 .bf16} {w0 w1 w2 w3 w4 w5 w6 w7 w8 : Vec Ideal S1x256x256 .bf16} {b : Vec Ideal S1x256 .f32}
    (hi : i < 56) (hj : j < 56) (hr : r.val = i * 64 + j)
    (hP : ∀ R J c, R < 56 + 2 → J < 56 → c < 256 → P (16 + R * 64 + J) c = G (min (R - 1) (56 - 1)) J c)
    (h00 : ∀ c : Fin 256, 0 < j → x00 (ix2 r c) = P (15 + r.val) c)
    (h01 : ∀ c : Fin 256, x01 (ix2 r c) = P (16 + r.val) c)
    (h02 : ∀ c : Fin 256, x02 (ix2 r c) = P (17 + r.val) c)
    (h10 : ∀ c : Fin 256, x10 (ix2 r c) = P (79 + r.val) c)
    (h11 : ∀ c : Fin 256, x11 (ix2 r c) = P (80 + r.val) c)
    (h12 : ∀ c : Fin 256, x12 (ix2 r c) = P (81 + r.val) c)
    (h20 : ∀ c : Fin 256, x20 (ix2 r c) = P (143 + r.val) c)
    (h21 : ∀ c : Fin 256, x21 (ix2 r c) = P (144 + r.val) c)
    (h22 : ∀ c : Fin 256, x22 (ix2 r c) = P (145 + r.val) c)
    (e0 : ∀ c : Fin 256, w0 (ix3 0 c o) = W 0 c o)    (e1 : ∀ c : Fin 256, w1 (ix3 0 c o) = W 1 c o)    (e2 : ∀ c : Fin 256, w2 (ix3 0 c o) = W 2 c o)
    (e3 : ∀ c : Fin 256, w3 (ix3 0 c o) = W 3 c o)    (e4 : ∀ c : Fin 256, w4 (ix3 0 c o) = W 4 c o)    (e5 : ∀ c : Fin 256, w5 (ix3 0 c o) = W 5 c o)
    (e6 : ∀ c : Fin 256, w6 (ix3 0 c o) = W 6 c o)    (e7 : ∀ c : Fin 256, w7 (ix3 0 c o) = W 7 c o)    (e8 : ∀ c : Fin 256, w8 (ix3 0 c o) = W 8 c o)
    (eb : b (ix2 0 o) = B o) :
    k2_pay17 (k2_pay14 k2_pay12 (k2_pay13 x01 x00 x02 w0 w1 w2) x11 x10 x12 w3 w4 w5) x21 (k2_pay15 k2_pay12 x21 x20) (k2_pay16 k2_pay12 x21 x22) w6 w7 w8 b (ix2 r o) = gconv 56 56 256 W B G i j o := by
  pointwise [k2_pay17, k2_pay12, k2_pay14, k2_pay13, k2_pay15, k2_pay16]
  exact gconv_at (wp := 64) hi hj hr (col_eq (k := 6) (m := 0) (by omega) hr (by omega) (by omega)) (col_eq (k := 6) (m := 55) (by omega) hr (by omega) (by omega)) hP
    h00 h01 h02 h10 h11 h12 h20 h21 h22 e0 e1 e2 e3 e4 e5 e6 e7 e8 eb

set_option maxRecDepth 16384 in
/-- Its third layer. -/
theorem lay2_3 {W : ℕ → ℕ → ℕ → EReal} {B : ℕ → EReal} {G : Img} {P : ℕ → ℕ → EReal} {i j : ℕ} {r : Fin 3584} {o : Fin 256}
    {x00 x01 x02 x10 x11 x12 x20 x21 x22 : Vec Ideal S3584x256 .bf16} {w0 w1 w2 w3 w4 w5 w6 w7 w8 : Vec Ideal S1x256x256 .bf16} {b : Vec Ideal S1x256 .f32}
    (hi : i < 56) (hj : j < 56) (hr : r.val = i * 64 + j)
    (hP : ∀ R J c, R < 56 + 2 → J < 56 → c < 256 → P (16 + R * 64 + J) c = G (min (R - 1) (56 - 1)) J c)
    (h00 : ∀ c : Fin 256, 0 < j → x00 (ix2 r c) = P (15 + r.val) c)
    (h01 : ∀ c : Fin 256, x01 (ix2 r c) = P (16 + r.val) c)
    (h02 : ∀ c : Fin 256, x02 (ix2 r c) = P (17 + r.val) c)
    (h10 : ∀ c : Fin 256, x10 (ix2 r c) = P (79 + r.val) c)
    (h11 : ∀ c : Fin 256, x11 (ix2 r c) = P (80 + r.val) c)
    (h12 : ∀ c : Fin 256, x12 (ix2 r c) = P (81 + r.val) c)
    (h20 : ∀ c : Fin 256, x20 (ix2 r c) = P (143 + r.val) c)
    (h21 : ∀ c : Fin 256, x21 (ix2 r c) = P (144 + r.val) c)
    (h22 : ∀ c : Fin 256, x22 (ix2 r c) = P (145 + r.val) c)
    (e0 : ∀ c : Fin 256, w0 (ix3 0 c o) = W 0 c o)    (e1 : ∀ c : Fin 256, w1 (ix3 0 c o) = W 1 c o)    (e2 : ∀ c : Fin 256, w2 (ix3 0 c o) = W 2 c o)
    (e3 : ∀ c : Fin 256, w3 (ix3 0 c o) = W 3 c o)    (e4 : ∀ c : Fin 256, w4 (ix3 0 c o) = W 4 c o)    (e5 : ∀ c : Fin 256, w5 (ix3 0 c o) = W 5 c o)
    (e6 : ∀ c : Fin 256, w6 (ix3 0 c o) = W 6 c o)    (e7 : ∀ c : Fin 256, w7 (ix3 0 c o) = W 7 c o)    (e8 : ∀ c : Fin 256, w8 (ix3 0 c o) = W 8 c o)
    (eb : b (ix2 0 o) = B o) :
    k2_pay1 (k2_pay24 k2_pay20 (k2_pay21 k2_pay20 x01 x00 x02 w0 w1 w2) x11 (k2_pay22 k2_pay20 x11 x10) (k2_pay23 k2_pay20 x11 x12) w3 w4 w5 x21 x20 w6 w7) (k2_pay25 k2_pay20 x21 x22 w8) b (ix2 r o) = gconv 56 56 256 W B G i j o := by
  pointwise [k2_pay1, k2_pay20, k2_pay24, k2_pay21, k2_pay22, k2_pay23, k2_pay25]
  exact gconv_at (wp := 64) hi hj hr (col_eq (k := 6) (m := 0) (by omega) hr (by omega) (by omega)) (col_eq (k := 6) (m := 55) (by omega) hr (by omega) (by omega)) hP
    h00 h01 h02 h10 h11 h12 h20 h21 h22 e0 e1 e2 e3 e4 e5 e6 e7 e8 eb

set_option maxRecDepth 16384 in
/-- The greatest of the four channel groups. -/
theorem groups2 (v : Vec Ideal S3584x512 .bf16) (r : Fin 3584) (c : Fin 128) : k2_pay2 v (ix2 r c)
    = max (max (arr v r.val c.val) (arr v r.val (128 + c.val))) (max (arr v r.val (256 + c.val)) (arr v r.val (384 + c.val))) := by
  have a0 := arr_apply v r ⟨c.val, by omega⟩
  have a1 := arr_apply v r ⟨128 + c.val, by omega⟩
  have a2 := arr_apply v r ⟨256 + c.val, by omega⟩
  have a3 := arr_apply v r ⟨384 + c.val, by omega⟩
  simp only at a0 a1 a2 a3
  rw [a0, a1, a2, a3]
  pointwise [k2_pay2]

set_option maxRecDepth 65536 in
set_option maxHeartbeats 0 in
/-- What custom call 2 leaves at a pixel of its result: its three layers, one after the other, of the greatest of the four channel
    groups, whatever its scratch buffers held. -/
theorem val2 (c : Dev nD)
    (M0 : Memref sig .tc .vmem S3584x512 .bf16) (h0 : M0.IsWhole)
    (M1 : Memref sig .tc .vmem S9x128x256 .bf16) (h1 : M1.IsWhole)
    (M2 : Memref sig .tc .vmem S1x256 .f32) (h2 : M2.IsWhole)
    (M3 : Memref sig .tc .vmem S9x256x256 .bf16) (h3 : M3.IsWhole)
    (M4 : Memref sig .tc .vmem S1x256 .f32) (h4 : M4.IsWhole)
    (M5 : Memref sig .tc .vmem S9x256x256 .bf16) (h5 : M5.IsWhole)
    (M6 : Memref sig .tc .vmem S1x256 .f32) (h6 : M6.IsWhole)
    (M7 : Memref sig .tc .vmem S3584x256 .bf16) (h7 : M7.IsWhole)
    (M8 : Memref sig .tc .vmem S3744x128 .bf16) (h8 : M8.IsWhole)
    (M9 : Memref sig .tc .vmem S3744x256 .bf16) (h9 : M9.IsWhole)
    (M10 : Memref sig .tc .vmem S3744x256 .bf16) (h10 : M10.IsWhole)
    (f0 : Bf (F := Ideal) c M0) (f1 : Bf (F := Ideal) c M1) (f2 : Bf (F := Ideal) c M2) (f3 : Bf (F := Ideal) c M3) (f4 : Bf (F := Ideal) c M4)
    (f5 : Bf (F := Ideal) c M5) (f6 : Bf (F := Ideal) c M6) (f8 : Bf (F := Ideal) c M8) (f9 : Bf (F := Ideal) c M9) (f10 : Bf (F := Ideal) c M10)
    {X : ℕ → ℕ → EReal} {G : Img} {W1 W2 W3 : ℕ → ℕ → ℕ → EReal} {B1 B2 B3 : ℕ → EReal}
    (e0 : Is2 (M0.view.read (Elt Ideal) f0) X)
    (hX : ∀ i j k, i < 56 → j < 56 → k < 128 → max (max (X (i * 64 + j) k) (X (i * 64 + j) (128 + k)))
      (max (X (i * 64 + j) (256 + k)) (X (i * 64 + j) (384 + k))) = G i j k)
    (e1 : Is3 (M1.view.read (Elt Ideal) f1) W1) (e2 : Is2 (M2.view.read (Elt Ideal) f2) fun _ o => B1 o)
    (e3 : Is3 (M3.view.read (Elt Ideal) f3) W2) (e4 : Is2 (M4.view.read (Elt Ideal) f4) fun _ o => B2 o)
    (e5 : Is3 (M5.view.read (Elt Ideal) f5) W3) (e6 : Is2 (M6.view.read (Elt Ideal) f6) fun _ o => B3 o)
    (i j o : ℕ) (hi : i < 56) (hj : j < 56) (ho : o < 256) :
    M7.view.read (Elt Ideal) (run2 (F := Ideal) c M0 h0 M1 h1 M2 h2 M3 h3 M4 h4 M5 h5 M6 h6 M7 h7 M8 h8 M9 h9 M10 h10 f0 f1 f2 f3 f4 f5 f6 f8 f9 f10).1
        (ix2 (⟨i * 64 + j, by omega⟩ : Fin 3584) (⟨o, ho⟩ : Fin 256))
      = gconv 56 56 256 W3 B3 (gconv 56 56 256 W2 B2 (gconv 56 56 128 W1 B1 G)) i j o := by
  obtain ⟨A0, c8, a0⟩ : ∃ A0 : ℕ → ℕ → Elt Ideal .bf16, Cov M8.view (run2.sl.H8_3 (F := Ideal) c M0 M8 f0) (edgeP 64 56 A0) 16 3728 ∧
      ∀ i j k, i < 56 → j < 56 → k < 128 → A0 (i * 64 + j) k = G i j k :=
    ⟨_, edge_cov (wp := 64) (h := 56) rfl rfl rfl rfl (by omega) _ _ _ _ _ (is2_arr _) (fun x => by unfold k2_pay3; rw [shapeCast_self]; rfl)
      (fun x => by unfold k2_pay4; rw [shapeCast_self]; rfl), fun i j k hi hj hk => by
        refine (arr_apply _ (⟨i * 64 + j, by omega⟩ : Fin 3584) (⟨k, hk⟩ : Fin 128)).trans ((groups2 _ _ _).trans ?_)
        have ar : ∀ q, q < 512 → arr (View.readAt (Elt Ideal) M0.view (Rect.unit ![0, 0] S3584x512.size inb_S3584x512_S3584x512_0_0).toLoadRect f0) (i * 64 + j) q
            = X (i * 64 + j) q := fun q hq =>
          (arr_apply _ (⟨i * 64 + j, by omega⟩ : Fin 3584) (⟨q, hq⟩ : Fin 512)).trans ((e0.load _ _).trans (by simp [ix2]))
        rw [← hX i j k hi hj hk]
        exact congrArg₂ max (congrArg₂ max (ar _ (by omega)) (ar _ (show 128 + k < _ by omega)))
          (congrArg₂ max (ar _ (show 256 + k < _ by omega)) (ar _ (show 384 + k < _ by omega)))⟩
  obtain ⟨A1, c9, a1⟩ : ∃ A1 : ℕ → ℕ → Elt Ideal .bf16, Cov M9.view (run2.sl.H9_3 (F := Ideal) c M0 M1 M2 M8 M9 f0 f1 f2 f8) (edgeP 64 56 A1) 16 3728 ∧
      ∀ i j k, i < 56 → j < 56 → k < 256 → A1 (i * 64 + j) k = gconv 56 56 128 W1 B1 G i j k :=
    ⟨_, edge_cov (wp := 64) (h := 56) rfl rfl rfl rfl (by omega) _ _ _ _ _ (is2_arr _) (fun x => by unfold k2_pay10; rw [shapeCast_self]; rfl)
      (fun x => by unfold k2_pay11; rw [shapeCast_self]; rfl), fun i j k hi hj hk =>
        (arr_apply _ (⟨i * 64 + j, by omega⟩ : Fin 3584) (⟨k, hk⟩ : Fin 256)).trans
          (lay2_1 hi hj rfl (edge_rows (by omega) (by omega) a0)
            (fun c hc => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => e1.load _ c _) (fun c => e1.load _ c _) (fun c => e1.load _ c _) (fun c => e1.load _ c _) (fun c => e1.load _ c _) (fun c => e1.load _ c _) (fun c => e1.load _ c _) (fun c => e1.load _ c _) (fun c => e1.load _ c _) (e2.load _ _))⟩
  obtain ⟨A2, c10, a2⟩ : ∃ A2 : ℕ → ℕ → Elt Ideal .bf16, Cov M10.view (run2.sl.H10_3 (F := Ideal) c M0 M1 M2 M3 M4 M8 M9 M10 f0 f1 f2 f3 f4 f8 f9) (edgeP 64 56 A2) 16 3728 ∧
      ∀ i j k, i < 56 → j < 56 → k < 256 → A2 (i * 64 + j) k = gconv 56 56 256 W2 B2 (gconv 56 56 128 W1 B1 G) i j k :=
    ⟨_, edge_cov (wp := 64) (h := 56) rfl rfl rfl rfl (by omega) _ _ _ _ _ (is2_arr _) (fun x => by unfold k2_pay18; rw [shapeCast_self]; rfl)
      (fun x => by unfold k2_pay19; rw [shapeCast_self]; rfl), fun i j k hi hj hk =>
        (arr_apply _ (⟨i * 64 + j, by omega⟩ : Fin 3584) (⟨k, hk⟩ : Fin 256)).trans
          (lay2_2 hi hj rfl (edge_rows (by omega) (by omega) a1)
            (fun c hc => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => e3.load _ c _) (fun c => e3.load _ c _) (fun c => e3.load _ c _) (fun c => e3.load _ c _) (fun c => e3.load _ c _) (fun c => e3.load _ c _) (fun c => e3.load _ c _) (fun c => e3.load _ c _) (fun c => e3.load _ c _) (e4.load _ _))⟩
  delta run2
  dsimp only
  refine ((cov_all (L := []) _ (is2_arr _)) M7.view.junk _ (Nat.zero_le _) (show i * 64 + j < 3584 by omega)).trans ?_
  exact (arr_apply _ (⟨i * 64 + j, by omega⟩ : Fin 3584) (⟨o, ho⟩ : Fin 256)).trans
    (lay2_3 hi hj rfl (edge_rows (by omega) (by omega) a2)
            (fun c hc => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => e5.load _ c _) (fun c => e5.load _ c _) (fun c => e5.load _ c _) (fun c => e5.load _ c _) (fun c => e5.load _ c _) (fun c => e5.load _ c _) (fun c => e5.load _ c _) (fun c => e5.load _ c _) (fun c => e5.load _ c _) (e6.load _ _))

end Cert.Proof.K

end
-- ==== Proof.Val3.lean ====
module

public import proofs.«01_k».proof.Proof.Layer
public import proofs.«01_k».proof.Proof.Run3
public import proofs.«01_k».proof.Proof.Gen.KernelIdeal.Skeleton

@[expose] public section

noncomputable section

namespace Cert.Proof.K

open Cert.KernelIdeal Cert.KernelIdeal.Gen
open Idealize.ShloMosaic Cert.Proof.Net

set_option maxRecDepth 16384 in
/-- The first layer of custom call 3 at one pixel. -/
theorem lay3_1 {W : ℕ → ℕ → ℕ → EReal} {B : ℕ → EReal} {G : Img} {P : ℕ → ℕ → EReal} {i j : ℕ} {r : Fin 896} {o : Fin 512}
    {x00 x01 x02 x10 x11 x12 x20 x21 x22 : Vec Ideal S896x256 .bf16} {w0 w1 w2 w3 w4 w5 w6 w7 w8 : Vec Ideal S1x256x512 .bf16} {b : Vec Ideal S1x512 .f32}
    (hi : i < 28) (hj : j < 28) (hr : r.val = i * 32 + j)
    (hP : ∀ R J c, R < 28 + 2 → J < 28 → c < 256 → P (16 + R * 32 + J) c = G (min (R - 1) (28 - 1)) J c)
    (h00 : ∀ c : Fin 256, 0 < j → x00 (ix2 r c) = P (15 + r.val) c)
    (h01 : ∀ c : Fin 256, x01 (ix2 r c) = P (16 + r.val) c)
    (h02 : ∀ c : Fin 256, x02 (ix2 r c) = P (17 + r.val) c)
    (h10 : ∀ c : Fin 256, x10 (ix2 r c) = P (47 + r.val) c)
    (h11 : ∀ c : Fin 256, x11 (ix2 r c) = P (48 + r.val) c)
    (h12 : ∀ c : Fin 256, x12 (ix2 r c) = P (49 + r.val) c)
    (h20 : ∀ c : Fin 256, x20 (ix2 r c) = P (79 + r.val) c)
    (h21 : ∀ c : Fin 256, x21 (ix2 r c) = P (80 + r.val) c)
    (h22 : ∀ c : Fin 256, x22 (ix2 r c) = P (81 + r.val) c)
    (e0 : ∀ c : Fin 256, w0 (ix3 0 c o) = W 0 c o)    (e1 : ∀ c : Fin 256, w1 (ix3 0 c o) = W 1 c o)    (e2 : ∀ c : Fin 256, w2 (ix3 0 c o) = W 2 c o)
    (e3 : ∀ c : Fin 256, w3 (ix3 0 c o) = W 3 c o)    (e4 : ∀ c : Fin 256, w4 (ix3 0 c o) = W 4 c o)    (e5 : ∀ c : Fin 256, w5 (ix3 0 c o) = W 5 c o)
    (e6 : ∀ c : Fin 256, w6 (ix3 0 c o) = W 6 c o)    (e7 : ∀ c : Fin 256, w7 (ix3 0 c o) = W 7 c o)    (e8 : ∀ c : Fin 256, w8 (ix3 0 c o) = W 8 c o)
    (eb : b (ix2 0 o) = B o) :
    k3_pay9 k3_pay5 (k3_pay8 k3_pay5 x01 (k3_pay6 x01 x00) (k3_pay7 x01 x02) w0 w1 w2 x11 x10 x12 w3 w4 w5) x21 x20 x22 w6 w7 w8 b (ix2 r o) = gconv 28 28 256 W B G i j o := by
  pointwise [k3_pay9, k3_pay5, k3_pay8, k3_pay6, k3_pay7]
  exact gconv_at (wp := 32) hi hj hr (col_eq (k := 5) (m := 0) (by omega) hr (by omega) (by omega)) (col_eq (k := 5) (m := 27) (by omega) hr (by omega) (by omega)) hP
    h00 h01 h02 h10 h11 h12 h20 h21 h22 e0 e1 e2 e3 e4 e5 e6 e7 e8 eb

set_option maxRecDepth 16384 in
/-- Its second layer. -/
theorem lay3_2 {W : ℕ → ℕ → ℕ → EReal} {B : ℕ → EReal} {G : Img} {P : ℕ → ℕ → EReal} {i j : ℕ} {r : Fin 896} {o : Fin 512}
    {x00 x01 x02 x10 x11 x12 x20 x21 x22 : Vec Ideal S896x512 .bf16} {w0 w1 w2 w3 w4 w5 w6 w7 w8 : Vec Ideal S1x512x512 .bf16} {b : Vec Ideal S1x512 .f32}
    (hi : i < 28) (hj : j < 28) (hr : r.val = i * 32 + j)
    (hP : ∀ R J c, R < 28 + 2 → J < 28 → c < 512 → P (16 + R * 32 + J) c = G (min (R - 1) (28 - 1)) J c)
    (h00 : ∀ c : Fin 512, 0 < j → x00 (ix2 r c) = P (15 + r.val) c)
    (h01 : ∀ c : Fin 512, x01 (ix2 r c) = P (16 + r.val) c)
    (h02 : ∀ c : Fin 512, x02 (ix2 r c) = P (17 + r.val) c)
    (h10 : ∀ c : Fin 512, x10 (ix2 r c) = P (47 + r.val) c)
    (h11 : ∀ c : Fin 512, x11 (ix2 r c) = P (48 + r.val) c)
    (h12 : ∀ c : Fin 512, x12 (ix2 r c) = P (49 + r.val) c)
    (h20 : ∀ c : Fin 512, x20 (ix2 r c) = P (79 + r.val) c)
    (h21 : ∀ c : Fin 512, x21 (ix2 r c) = P (80 + r.val) c)
    (h22 : ∀ c : Fin 512, x22 (ix2 r c) = P (81 + r.val) c)
    (e0 : ∀ c : Fin 512, w0 (ix3 0 c o) = W 0 c o)    (e1 : ∀ c : Fin 512, w1 (ix3 0 c o) = W 1 c o)    (e2 : ∀ c : Fin 512, w2 (ix3 0 c o) = W 2 c o)
    (e3 : ∀ c : Fin 512, w3 (ix3 0 c o) = W 3 c o)    (e4 : ∀ c : Fin 512, w4 (ix3 0 c o) = W 4 c o)    (e5 : ∀ c : Fin 512, w5 (ix3 0 c o) = W 5 c o)
    (e6 : ∀ c : Fin 512, w6 (ix3 0 c o) = W 6 c o)    (e7 : ∀ c : Fin 512, w7 (ix3 0 c o) = W 7 c o)    (e8 : ∀ c : Fin 512, w8 (ix3 0 c o) = W 8 c o)
    (eb : b (ix2 0 o) = B o) :
    k3_pay17 (k3_pay14 k3_pay12 (k3_pay13 x01 x00 x02 w0 w1 w2) x11 x10 x12 w3 w4 w5) x21 (k3_pay15 k3_pay12 x21 x20) (k3_pay16 k3_pay12 x21 x22) w6 w7 w8 b (ix2 r o) = gconv 28 28 512 W B G i j o := by
  pointwise [k3_pay17, k3_pay12, k3_pay14, k3_pay13, k3_pay15, k3_pay16]
  exact gconv_at (wp := 32) hi hj hr (col_eq (k := 5) (m := 0) (by omega) hr (by omega) (by omega)) (col_eq (k := 5) (m := 27) (by omega) hr (by omega) (by omega)) hP
    h00 h01 h02 h10 h11 h12 h20 h21 h22 e0 e1 e2 e3 e4 e5 e6 e7 e8 eb

set_option maxRecDepth 16384 in
/-- Its third layer. -/
theorem lay3_3 {W : ℕ → ℕ → ℕ → EReal} {B : ℕ → EReal} {G : Img} {P : ℕ → ℕ → EReal} {i j : ℕ} {r : Fin 896} {o : Fin 512}
    {x00 x01 x02 x10 x11 x12 x20 x21 x22 : Vec Ideal S896x512 .bf16} {w0 w1 w2 w3 w4 w5 w6 w7 w8 : Vec Ideal S1x512x512 .bf16} {b : Vec Ideal S1x512 .f32}
    (hi : i < 28) (hj : j < 28) (hr : r.val = i * 32 + j)
    (hP : ∀ R J c, R < 28 + 2 → J < 28 → c < 512 → P (16 + R * 32 + J) c = G (min (R - 1) (28 - 1)) J c)
    (h00 : ∀ c : Fin 512, 0 < j → x00 (ix2 r c) = P (15 + r.val) c)
    (h01 : ∀ c : Fin 512, x01 (ix2 r c) = P (16 + r.val) c)
    (h02 : ∀ c : Fin 512, x02 (ix2 r c) = P (17 + r.val) c)
    (h10 : ∀ c : Fin 512, x10 (ix2 r c) = P (47 + r.val) c)
    (h11 : ∀ c : Fin 512, x11 (ix2 r c) = P (48 + r.val) c)
    (h12 : ∀ c : Fin 512, x12 (ix2 r c) = P (49 + r.val) c)
    (h20 : ∀ c : Fin 512, x20 (ix2 r c) = P (79 + r.val) c)
    (h21 : ∀ c : Fin 512, x21 (ix2 r c) = P (80 + r.val) c)
    (h22 : ∀ c : Fin 512, x22 (ix2 r c) = P (81 + r.val) c)
    (e0 : ∀ c : Fin 512, w0 (ix3 0 c o) = W 0 c o)    (e1 : ∀ c : Fin 512, w1 (ix3 0 c o) = W 1 c o)    (e2 : ∀ c : Fin 512, w2 (ix3 0 c o) = W 2 c o)
    (e3 : ∀ c : Fin 512, w3 (ix3 0 c o) = W 3 c o)    (e4 : ∀ c : Fin 512, w4 (ix3 0 c o) = W 4 c o)    (e5 : ∀ c : Fin 512, w5 (ix3 0 c o) = W 5 c o)
    (e6 : ∀ c : Fin 512, w6 (ix3 0 c o) = W 6 c o)    (e7 : ∀ c : Fin 512, w7 (ix3 0 c o) = W 7 c o)    (e8 : ∀ c : Fin 512, w8 (ix3 0 c o) = W 8 c o)
    (eb : b (ix2 0 o) = B o) :
    k3_pay1 (k3_pay24 k3_pay20 (k3_pay21 k3_pay20 x01 x00 x02 w0 w1 w2) x11 (k3_pay22 k3_pay20 x11 x10) (k3_pay23 k3_pay20 x11 x12) w3 w4 w5 x21 x20 w6 w7) (k3_pay25 k3_pay20 x21 x22 w8) b (ix2 r o) = gconv 28 28 512 W B G i j o := by
  pointwise [k3_pay1, k3_pay20, k3_pay24, k3_pay21, k3_pay22, k3_pay23, k3_pay25]
  exact gconv_at (wp := 32) hi hj hr (col_eq (k := 5) (m := 0) (by omega) hr (by omega) (by omega)) (col_eq (k := 5) (m := 27) (by omega) hr (by omega) (by omega)) hP
    h00 h01 h02 h10 h11 h12 h20 h21 h22 e0 e1 e2 e3 e4 e5 e6 e7 e8 eb

set_option maxRecDepth 16384 in
/-- The greatest of the four channel groups. -/
theorem groups3 (v : Vec Ideal S896x1024 .bf16) (r : Fin 896) (c : Fin 256) : k3_pay2 v (ix2 r c)
    = max (max (arr v r.val c.val) (arr v r.val (256 + c.val))) (max (arr v r.val (512 + c.val)) (arr v r.val (768 + c.val))) := by
  have a0 := arr_apply v r ⟨c.val, by omega⟩
  have a1 := arr_apply v r ⟨256 + c.val, by omega⟩
  have a2 := arr_apply v r ⟨512 + c.val, by omega⟩
  have a3 := arr_apply v r ⟨768 + c.val, by omega⟩
  simp only at a0 a1 a2 a3
  rw [a0, a1, a2, a3]
  pointwise [k3_pay2]

set_option maxRecDepth 65536 in
set_option maxHeartbeats 0 in
/-- What custom call 3 leaves at a pixel of its result: its three layers, one after the other, of the greatest of the four channel
    groups, whatever its scratch buffers held. -/
theorem val3 (c : Dev nD)
    (M0 : Memref sig .tc .vmem S896x1024 .bf16) (h0 : M0.IsWhole)
    (M1 : Memref sig .tc .vmem S9x256x512 .bf16) (h1 : M1.IsWhole)
    (M2 : Memref sig .tc .vmem S1x512 .f32) (h2 : M2.IsWhole)
    (M3 : Memref sig .tc .vmem S9x512x512 .bf16) (h3 : M3.IsWhole)
    (M4 : Memref sig .tc .vmem S1x512 .f32) (h4 : M4.IsWhole)
    (M5 : Memref sig .tc .vmem S9x512x512 .bf16) (h5 : M5.IsWhole)
    (M6 : Memref sig .tc .vmem S1x512 .f32) (h6 : M6.IsWhole)
    (M7 : Memref sig .tc .vmem S896x512 .f32) (h7 : M7.IsWhole)
    (M8 : Memref sig .tc .vmem S992x256 .bf16) (h8 : M8.IsWhole)
    (M9 : Memref sig .tc .vmem S992x512 .bf16) (h9 : M9.IsWhole)
    (M10 : Memref sig .tc .vmem S992x512 .bf16) (h10 : M10.IsWhole)
    (f0 : Bf (F := Ideal) c M0) (f1 : Bf (F := Ideal) c M1) (f2 : Bf (F := Ideal) c M2) (f3 : Bf (F := Ideal) c M3) (f4 : Bf (F := Ideal) c M4)
    (f5 : Bf (F := Ideal) c M5) (f6 : Bf (F := Ideal) c M6) (f8 : Bf (F := Ideal) c M8) (f9 : Bf (F := Ideal) c M9) (f10 : Bf (F := Ideal) c M10)
    {X : ℕ → ℕ → EReal} {G : Img} {W1 W2 W3 : ℕ → ℕ → ℕ → EReal} {B1 B2 B3 : ℕ → EReal}
    (e0 : Is2 (M0.view.read (Elt Ideal) f0) X)
    (hX : ∀ i j k, i < 28 → j < 28 → k < 256 → max (max (X (i * 32 + j) k) (X (i * 32 + j) (256 + k)))
      (max (X (i * 32 + j) (512 + k)) (X (i * 32 + j) (768 + k))) = G i j k)
    (e1 : Is3 (M1.view.read (Elt Ideal) f1) W1) (e2 : Is2 (M2.view.read (Elt Ideal) f2) fun _ o => B1 o)
    (e3 : Is3 (M3.view.read (Elt Ideal) f3) W2) (e4 : Is2 (M4.view.read (Elt Ideal) f4) fun _ o => B2 o)
    (e5 : Is3 (M5.view.read (Elt Ideal) f5) W3) (e6 : Is2 (M6.view.read (Elt Ideal) f6) fun _ o => B3 o)
    (i j o : ℕ) (hi : i < 28) (hj : j < 28) (ho : o < 512) :
    M7.view.read (Elt Ideal) (run3 (F := Ideal) c M0 h0 M1 h1 M2 h2 M3 h3 M4 h4 M5 h5 M6 h6 M7 h7 M8 h8 M9 h9 M10 h10 f0 f1 f2 f3 f4 f5 f6 f8 f9 f10).1
        (ix2 (⟨i * 32 + j, by omega⟩ : Fin 896) (⟨o, ho⟩ : Fin 512))
      = gconv 28 28 512 W3 B3 (gconv 28 28 512 W2 B2 (gconv 28 28 256 W1 B1 G)) i j o := by
  obtain ⟨A0, c8, a0⟩ : ∃ A0 : ℕ → ℕ → Elt Ideal .bf16, Cov M8.view (run3.sl.H8_3 (F := Ideal) c M0 M8 f0) (edgeP 32 28 A0) 16 976 ∧
      ∀ i j k, i < 28 → j < 28 → k < 256 → A0 (i * 32 + j) k = G i j k :=
    ⟨_, edge_cov (wp := 32) (h := 28) rfl rfl rfl rfl (by omega) _ _ _ _ _ (is2_arr _) (fun x => by unfold k3_pay3; rw [shapeCast_self]; rfl)
      (fun x => by unfold k3_pay4; rw [shapeCast_self]; rfl), fun i j k hi hj hk => by
        refine (arr_apply _ (⟨i * 32 + j, by omega⟩ : Fin 896) (⟨k, hk⟩ : Fin 256)).trans ((groups3 _ _ _).trans ?_)
        have ar : ∀ q, q < 1024 → arr (View.readAt (Elt Ideal) M0.view (Rect.unit ![0, 0] S896x1024.size inb_S896x1024_S896x1024_0_0).toLoadRect f0) (i * 32 + j) q
            = X (i * 32 + j) q := fun q hq =>
          (arr_apply _ (⟨i * 32 + j, by omega⟩ : Fin 896) (⟨q, hq⟩ : Fin 1024)).trans ((e0.load _ _).trans (by simp [ix2]))
        rw [← hX i j k hi hj hk]
        exact congrArg₂ max (congrArg₂ max (ar _ (by omega)) (ar _ (show 256 + k < _ by omega)))
          (congrArg₂ max (ar _ (show 512 + k < _ by omega)) (ar _ (show 768 + k < _ by omega)))⟩
  obtain ⟨A1, c9, a1⟩ : ∃ A1 : ℕ → ℕ → Elt Ideal .bf16, Cov M9.view (run3.sl.H9_3 (F := Ideal) c M0 M1 M2 M8 M9 f0 f1 f2 f8) (edgeP 32 28 A1) 16 976 ∧
      ∀ i j k, i < 28 → j < 28 → k < 512 → A1 (i * 32 + j) k = gconv 28 28 256 W1 B1 G i j k :=
    ⟨_, edge_cov (wp := 32) (h := 28) rfl rfl rfl rfl (by omega) _ _ _ _ _ (is2_arr _) (fun x => by unfold k3_pay10; rw [shapeCast_self]; rfl)
      (fun x => by unfold k3_pay11; rw [shapeCast_self]; rfl), fun i j k hi hj hk =>
        (arr_apply _ (⟨i * 32 + j, by omega⟩ : Fin 896) (⟨k, hk⟩ : Fin 512)).trans
          (lay3_1 hi hj rfl (edge_rows (by omega) (by omega) a0)
            (fun c hc => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => c8.load _ _ (ix2 _ c) (by simp only [ix2]; omega) (by simp only [ix2]; omega))
            (fun c => e1.load _ c _) (fun c => e1.load _ c _) (fun c => e1.load _ c _) (fun c => e1.load _ c _) (fun c => e1.load _ c _) (fun c => e1.load _ c _) (fun c => e1.load _ c _) (fun c => e1.load _ c _) (fun c => e1.load _ c _) (e2.load _ _))⟩
  obtain ⟨A2, c10, a2⟩ : ∃ A2 : ℕ → ℕ → Elt Ideal .bf16, Cov M10.view (run3.sl.H10_3 (F := Ideal) c M0 M1 M2 M3 M4 M8 M9 M10 f0 f1 f2 f3 f4 f8 f9) (edgeP 32 28 A2) 16 976 ∧
      ∀ i j k, i < 28 → j < 28 → k < 512 → A2 (i * 32 + j) k = gconv 28 28 512 W2 B2 (gconv 28 28 256 W1 B1 G) i j k :=
    ⟨_, edge_cov (wp := 32) (h := 28) rfl rfl rfl rfl (by omega) _ _ _ _ _ (is2_arr _) (fun x => by unfold k3_pay18; rw [shapeCast_self]; rfl)
      (fun x => by unfold k3_pay19; rw [shapeCast_self]; rfl), fun i j k hi hj hk =>
        (arr_apply _ (⟨i * 32 + j, by omega⟩ : Fin 896) (⟨k, hk⟩ : Fin 512)).trans
          (lay3_2 hi hj rfl (edge_rows (by omega) (by omega) a1)
            (fun c hc => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => c9.load _ _ (ix2 _ c) (by simp only [ix2]; omega) (by simp only [ix2]; omega))
            (fun c => e3.load _ c _) (fun c => e3.load _ c _) (fun c => e3.load _ c _) (fun c => e3.load _ c _) (fun c => e3.load _ c _) (fun c => e3.load _ c _) (fun c => e3.load _ c _) (fun c => e3.load _ c _) (fun c => e3.load _ c _) (e4.load _ _))⟩
  delta run3
  dsimp only
  refine ((cov_all (L := []) _ (is2_arr _)) M7.view.junk _ (Nat.zero_le _) (show i * 32 + j < 896 by omega)).trans ?_
  exact (arr_apply _ (⟨i * 32 + j, by omega⟩ : Fin 896) (⟨o, ho⟩ : Fin 512)).trans
    (lay3_3 hi hj rfl (edge_rows (by omega) (by omega) a2)
            (fun c hc => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => c10.load _ _ (ix2 _ c) (by simp only [ix2]; omega) (by simp only [ix2]; omega))
            (fun c => e5.load _ c _) (fun c => e5.load _ c _) (fun c => e5.load _ c _) (fun c => e5.load _ c _) (fun c => e5.load _ c _) (fun c => e5.load _ c _) (fun c => e5.load _ c _) (fun c => e5.load _ c _) (fun c => e5.load _ c _) (e6.load _ _))

end Cert.Proof.K

end
-- ==== Proof.Link.lean ====
module

public import proofs.«01_k».proof.Proof.Launch
public import proofs.«01_k».proof.Proof.Host
public import proofs.«01_k».proof.Proof.Val0
public import proofs.«01_k».proof.Proof.Val1
public import proofs.«01_k».proof.Proof.Val2
public import proofs.«01_k».proof.Proof.Val3
public import Idealize.ShloMosaic.Lib.Pipeline.ValueKit
public import Idealize.ShloMosaic.Lib.Pipeline.ArrRel

@[expose] public section

set_option maxRecDepth 16384

noncomputable section

namespace Cert.Proof.K

open Cert.KernelIdeal Cert.KernelIdeal.Gen
open Idealize.ShloMosaic Cert.Proof.Net
open Idealize.ShloMosaic.TcCoe Idealize.ShloMosaic.Tactic
open Idealize.ShloMosaic.Pipeline (RDat Cfg Window cellOf)

variable {F : FTy → Type} [FloatOps F]

/-! What each region stages is the array, and what it leaves in the result's array is what its body left in the staging buffer. -/

theorem in0_0 (V : Valuation τ sig (Elt F)) : (stage0_0 0).view.read (Elt F) (((cfg0.win 0).blk t0_0).view.read (Elt F) (V (Pipeline.arrRef spec0 0))) = V main_v15 := by
  have e0 : win0_0.index t0_0 0 = 0 := by decide +kernel
  have e1 : win0_0.index t0_0 1 = 0 := by decide +kernel
  have e2 : win0_0.index t0_0 2 = 0 := by decide +kernel
  funext i
  show V main_v15 _ = _
  blk_ext [e0, e1, e2]

theorem in0_1 (V : Valuation τ sig (Elt F)) : (stage0_1 0).view.read (Elt F) (((cfg0.win 1).blk t0_0).view.read (Elt F) (V (Pipeline.arrRef spec0 1))) = V main_v16 := by
  have e0 : win0_1.index t0_0 0 = 0 := by decide +kernel
  have e1 : win0_1.index t0_0 1 = 0 := by decide +kernel
  funext i
  show V main_v16 _ = _
  blk_ext [e0, e1]

theorem in0_2 (V : Valuation τ sig (Elt F)) : (stage0_2 0).view.read (Elt F) (((cfg0.win 2).blk t0_0).view.read (Elt F) (V (Pipeline.arrRef spec0 2))) = V main_v17 := by
  have e0 : win0_2.index t0_0 0 = 0 := by decide +kernel
  have e1 : win0_2.index t0_0 1 = 0 := by decide +kernel
  have e2 : win0_2.index t0_0 2 = 0 := by decide +kernel
  funext i
  show V main_v17 _ = _
  blk_ext [e0, e1, e2]

theorem in0_3 (V : Valuation τ sig (Elt F)) : (stage0_3 0).view.read (Elt F) (((cfg0.win 3).blk t0_0).view.read (Elt F) (V (Pipeline.arrRef spec0 3))) = V main_v18 := by
  have e0 : win0_3.index t0_0 0 = 0 := by decide +kernel
  have e1 : win0_3.index t0_0 1 = 0 := by decide +kernel
  funext i
  show V main_v18 _ = _
  blk_ext [e0, e1]

theorem out0 {V V' : Valuation τ sig (Elt F)} {c : Dev nD} (h : Next V 0 4 c V') :
    ∃ f6 f7, ∀ i, V' main_v19 i = (stage0_4 0).view.read (Elt F) (res0 V c f6 f7) i := by
  obtain ⟨G, hG, rfl⟩ := h
  have hw : win0_4.WholeAt t0_0 := by decide +kernel
  have e0 : win0_4.index t0_0 0 = 0 := by decide +kernel
  have e1 : win0_4.index t0_0 1 = 0 := by decide +kernel
  obtain ⟨X, ⟨_, _, hL⟩, hj⟩ := hG.emb_eq_of_wholeAt (t₀ := t0_0) hw
  obtain ⟨f6, f7, hX⟩ : ∃ f6 f7, X = res0 V c f6 f7 := hL
  refine ⟨f6, f7, fun i => ?_⟩
  rw [← hX]
  exact (congrFun (Function.update_self (Proc.devRef .tc main_v19 : DevRef τ sig) G V) i).trans (hj i)

theorem in1_0 (V : Valuation τ sig (Elt F)) : (stage1_0 0).view.read (Elt F) (((cfg1.win 0).blk t1_0).view.read (Elt F) (V (Pipeline.arrRef spec1 0))) = V main_v31 := by
  have e0 : win1_0.index t1_0 0 = 0 := by decide +kernel
  have e1 : win1_0.index t1_0 1 = 0 := by decide +kernel
  funext i
  show V main_v31 _ = _
  blk_ext [e0, e1]

theorem in1_1 (V : Valuation τ sig (Elt F)) : (stage1_1 0).view.read (Elt F) (((cfg1.win 1).blk t1_0).view.read (Elt F) (V (Pipeline.arrRef spec1 1))) = V main_v36 := by
  have e0 : win1_1.index t1_0 0 = 0 := by decide +kernel
  have e1 : win1_1.index t1_0 1 = 0 := by decide +kernel
  have e2 : win1_1.index t1_0 2 = 0 := by decide +kernel
  funext i
  show V main_v36 _ = _
  blk_ext [e0, e1, e2]

theorem in1_2 (V : Valuation τ sig (Elt F)) : (stage1_2 0).view.read (Elt F) (((cfg1.win 2).blk t1_0).view.read (Elt F) (V (Pipeline.arrRef spec1 2))) = V main_v37 := by
  have e0 : win1_2.index t1_0 0 = 0 := by decide +kernel
  have e1 : win1_2.index t1_0 1 = 0 := by decide +kernel
  funext i
  show V main_v37 _ = _
  blk_ext [e0, e1]

theorem in1_3 (V : Valuation τ sig (Elt F)) : (stage1_3 0).view.read (Elt F) (((cfg1.win 3).blk t1_0).view.read (Elt F) (V (Pipeline.arrRef spec1 3))) = V main_v38 := by
  have e0 : win1_3.index t1_0 0 = 0 := by decide +kernel
  have e1 : win1_3.index t1_0 1 = 0 := by decide +kernel
  have e2 : win1_3.index t1_0 2 = 0 := by decide +kernel
  funext i
  show V main_v38 _ = _
  blk_ext [e0, e1, e2]

theorem in1_4 (V : Valuation τ sig (Elt F)) : (stage1_4 0).view.read (Elt F) (((cfg1.win 4).blk t1_0).view.read (Elt F) (V (Pipeline.arrRef spec1 4))) = V main_v39 := by
  have e0 : win1_4.index t1_0 0 = 0 := by decide +kernel
  have e1 : win1_4.index t1_0 1 = 0 := by decide +kernel
  funext i
  show V main_v39 _ = _
  blk_ext [e0, e1]

theorem out1 {V V' : Valuation τ sig (Elt F)} {c : Dev nD} (h : Next V 1 5 c V') :
    ∃ f6 f7, ∀ i, V' main_v40 i = (stage1_5 0).view.read (Elt F) (res1 V c f6 f7) i := by
  obtain ⟨G, hG, rfl⟩ := h
  have hw : win1_5.WholeAt t1_0 := by decide +kernel
  have e0 : win1_5.index t1_0 0 = 0 := by decide +kernel
  have e1 : win1_5.index t1_0 1 = 0 := by decide +kernel
  obtain ⟨X, ⟨_, _, hL⟩, hj⟩ := hG.emb_eq_of_wholeAt (t₀ := t1_0) hw
  obtain ⟨f6, f7, hX⟩ : ∃ f6 f7, X = res1 V c f6 f7 := hL
  refine ⟨f6, f7, fun i => ?_⟩
  rw [← hX]
  exact (congrFun (Function.update_self (Proc.devRef .tc main_v40 : DevRef τ sig) G V) i).trans (hj i)

theorem in2_0 (V : Valuation τ sig (Elt F)) : (stage2_0 0).view.read (Elt F) (((cfg2.win 0).blk t2_0).view.read (Elt F) (V (Pipeline.arrRef spec2 0))) = V main_v52 := by
  have e0 : win2_0.index t2_0 0 = 0 := by decide +kernel
  have e1 : win2_0.index t2_0 1 = 0 := by decide +kernel
  funext i
  show V main_v52 _ = _
  blk_ext [e0, e1]

theorem in2_1 (V : Valuation τ sig (Elt F)) : (stage2_1 0).view.read (Elt F) (((cfg2.win 1).blk t2_0).view.read (Elt F) (V (Pipeline.arrRef spec2 1))) = V main_v56 := by
  have e0 : win2_1.index t2_0 0 = 0 := by decide +kernel
  have e1 : win2_1.index t2_0 1 = 0 := by decide +kernel
  have e2 : win2_1.index t2_0 2 = 0 := by decide +kernel
  funext i
  show V main_v56 _ = _
  blk_ext [e0, e1, e2]

theorem in2_2 (V : Valuation τ sig (Elt F)) : (stage2_2 0).view.read (Elt F) (((cfg2.win 2).blk t2_0).view.read (Elt F) (V (Pipeline.arrRef spec2 2))) = V main_v57 := by
  have e0 : win2_2.index t2_0 0 = 0 := by decide +kernel
  have e1 : win2_2.index t2_0 1 = 0 := by decide +kernel
  funext i
  show V main_v57 _ = _
  blk_ext [e0, e1]

theorem in2_3 (V : Valuation τ sig (Elt F)) : (stage2_3 0).view.read (Elt F) (((cfg2.win 3).blk t2_0).view.read (Elt F) (V (Pipeline.arrRef spec2 3))) = V main_v58 := by
  have e0 : win2_3.index t2_0 0 = 0 := by decide +kernel
  have e1 : win2_3.index t2_0 1 = 0 := by decide +kernel
  have e2 : win2_3.index t2_0 2 = 0 := by decide +kernel
  funext i
  show V main_v58 _ = _
  blk_ext [e0, e1, e2]

theorem in2_4 (V : Valuation τ sig (Elt F)) : (stage2_4 0).view.read (Elt F) (((cfg2.win 4).blk t2_0).view.read (Elt F) (V (Pipeline.arrRef spec2 4))) = V main_v59 := by
  have e0 : win2_4.index t2_0 0 = 0 := by decide +kernel
  have e1 : win2_4.index t2_0 1 = 0 := by decide +kernel
  funext i
  show V main_v59 _ = _
  blk_ext [e0, e1]

theorem in2_5 (V : Valuation τ sig (Elt F)) : (stage2_5 0).view.read (Elt F) (((cfg2.win 5).blk t2_0).view.read (Elt F) (V (Pipeline.arrRef spec2 5))) = V main_v60 := by
  have e0 : win2_5.index t2_0 0 = 0 := by decide +kernel
  have e1 : win2_5.index t2_0 1 = 0 := by decide +kernel
  have e2 : win2_5.index t2_0 2 = 0 := by decide +kernel
  funext i
  show V main_v60 _ = _
  blk_ext [e0, e1, e2]

theorem in2_6 (V : Valuation τ sig (Elt F)) : (stage2_6 0).view.read (Elt F) (((cfg2.win 6).blk t2_0).view.read (Elt F) (V (Pipeline.arrRef spec2 6))) = V main_v61 := by
  have e0 : win2_6.index t2_0 0 = 0 := by decide +kernel
  have e1 : win2_6.index t2_0 1 = 0 := by decide +kernel
  funext i
  show V main_v61 _ = _
  blk_ext [e0, e1]

theorem out2 {V V' : Valuation τ sig (Elt F)} {c : Dev nD} (h : Next V 2 7 c V') :
    ∃ f8 f9 f10, ∀ i, V' main_v62 i = (stage2_7 0).view.read (Elt F) (res2 V c f8 f9 f10) i := by
  obtain ⟨G, hG, rfl⟩ := h
  have hw : win2_7.WholeAt t2_0 := by decide +kernel
  have e0 : win2_7.index t2_0 0 = 0 := by decide +kernel
  have e1 : win2_7.index t2_0 1 = 0 := by decide +kernel
  obtain ⟨X, ⟨_, _, hL⟩, hj⟩ := hG.emb_eq_of_wholeAt (t₀ := t2_0) hw
  obtain ⟨f8, f9, f10, hX⟩ : ∃ f8 f9 f10, X = res2 V c f8 f9 f10 := hL
  refine ⟨f8, f9, f10, fun i => ?_⟩
  rw [← hX]
  exact (congrFun (Function.update_self (Proc.devRef .tc main_v62 : DevRef τ sig) G V) i).trans (hj i)

theorem in3_0 (V : Valuation τ sig (Elt F)) : (stage3_0 0).view.read (Elt F) (((cfg3.win 0).blk t3_0).view.read (Elt F) (V (Pipeline.arrRef spec3 0))) = V main_v74 := by
  have e0 : win3_0.index t3_0 0 = 0 := by decide +kernel
  have e1 : win3_0.index t3_0 1 = 0 := by decide +kernel
  funext i
  show V main_v74 _ = _
  blk_ext [e0, e1]

theorem in3_1 (V : Valuation τ sig (Elt F)) : (stage3_1 0).view.read (Elt F) (((cfg3.win 1).blk t3_0).view.read (Elt F) (V (Pipeline.arrRef spec3 1))) = V main_v78 := by
  have e0 : win3_1.index t3_0 0 = 0 := by decide +kernel
  have e1 : win3_1.index t3_0 1 = 0 := by decide +kernel
  have e2 : win3_1.index t3_0 2 = 0 := by decide +kernel
  funext i
  show V main_v78 _ = _
  blk_ext [e0, e1, e2]

theorem in3_2 (V : Valuation τ sig (Elt F)) : (stage3_2 0).view.read (Elt F) (((cfg3.win 2).blk t3_0).view.read (Elt F) (V (Pipeline.arrRef spec3 2))) = V main_v79 := by
  have e0 : win3_2.index t3_0 0 = 0 := by decide +kernel
  have e1 : win3_2.index t3_0 1 = 0 := by decide +kernel
  funext i
  show V main_v79 _ = _
  blk_ext [e0, e1]

theorem in3_3 (V : Valuation τ sig (Elt F)) : (stage3_3 0).view.read (Elt F) (((cfg3.win 3).blk t3_0).view.read (Elt F) (V (Pipeline.arrRef spec3 3))) = V main_v80 := by
  have e0 : win3_3.index t3_0 0 = 0 := by decide +kernel
  have e1 : win3_3.index t3_0 1 = 0 := by decide +kernel
  have e2 : win3_3.index t3_0 2 = 0 := by decide +kernel
  funext i
  show V main_v80 _ = _
  blk_ext [e0, e1, e2]

theorem in3_4 (V : Valuation τ sig (Elt F)) : (stage3_4 0).view.read (Elt F) (((cfg3.win 4).blk t3_0).view.read (Elt F) (V (Pipeline.arrRef spec3 4))) = V main_v81 := by
  have e0 : win3_4.index t3_0 0 = 0 := by decide +kernel
  have e1 : win3_4.index t3_0 1 = 0 := by decide +kernel
  funext i
  show V main_v81 _ = _
  blk_ext [e0, e1]

theorem in3_5 (V : Valuation τ sig (Elt F)) : (stage3_5 0).view.read (Elt F) (((cfg3.win 5).blk t3_0).view.read (Elt F) (V (Pipeline.arrRef spec3 5))) = V main_v82 := by
  have e0 : win3_5.index t3_0 0 = 0 := by decide +kernel
  have e1 : win3_5.index t3_0 1 = 0 := by decide +kernel
  have e2 : win3_5.index t3_0 2 = 0 := by decide +kernel
  funext i
  show V main_v82 _ = _
  blk_ext [e0, e1, e2]

theorem in3_6 (V : Valuation τ sig (Elt F)) : (stage3_6 0).view.read (Elt F) (((cfg3.win 6).blk t3_0).view.read (Elt F) (V (Pipeline.arrRef spec3 6))) = V main_v83 := by
  have e0 : win3_6.index t3_0 0 = 0 := by decide +kernel
  have e1 : win3_6.index t3_0 1 = 0 := by decide +kernel
  funext i
  show V main_v83 _ = _
  blk_ext [e0, e1]

theorem out3 {V V' : Valuation τ sig (Elt F)} {c : Dev nD} (h : Next V 3 7 c V') :
    ∃ f8 f9 f10, ∀ i, V' main_v84 i = (stage3_7 0).view.read (Elt F) (res3 V c f8 f9 f10) i := by
  obtain ⟨G, hG, rfl⟩ := h
  have hw : win3_7.WholeAt t3_0 := by decide +kernel
  have e0 : win3_7.index t3_0 0 = 0 := by decide +kernel
  have e1 : win3_7.index t3_0 1 = 0 := by decide +kernel
  obtain ⟨X, ⟨_, _, hL⟩, hj⟩ := hG.emb_eq_of_wholeAt (t₀ := t3_0) hw
  obtain ⟨f8, f9, f10, hX⟩ : ∃ f8 f9 f10, X = res3 V c f8 f9 f10 := hL
  refine ⟨f8, f9, f10, fun i => ?_⟩
  rw [← hX]
  exact (congrFun (Function.update_self (Proc.devRef .tc main_v84 : DevRef τ sig) G V) i).trans (hj i)

/-! The regions' results over the reals. -/

variable {c : Dev nD} (T U : Valuation τ sig (Elt Ideal)) (i j o : ℕ)

theorem region0 (hN : Next (st0 T) 0 4 c U) (hi : i < 224) (hj : j < 224) (ho : o < 64) :
    arr (U main_v19 : FVec Ideal S57344x64 .bf16) (i * 256 + j) o =
      conv 224 224 64 (cw (T main_arg4 : FVec Ideal S64x64x3x3 .f32)) (arr1 (T main_arg5 : FVec Ideal S64 .f32)) (conv 224 224 3 (cw (T main_arg2 : FVec Ideal S64x3x3x3 .f32)) (arr1 (T main_arg3 : FVec Ideal S64 .f32)) (im (T main_arg0 : FVec Ideal S1x3x224x224 .f32))) i j o := by
  obtain ⟨f6, f7, hU⟩ := out0 hN
  refine (arr_of _ (by omega) ho).trans ((hU _).trans ?_)
  unfold res0
  exact val0 c _ _ _ _ _ _ _ _ _ _ _ _ _ _ _ _ _ _ _ _ _ _ _ (X := arr (st0 T main_v14 : FVec Ideal S57856x9 .bf16))
    (is2_arr _)
    (fun R j t c hR hj ht hc => op0_x T R j t c hR hj ht hc)
    (W1' := arr3 (st0 T main_v15 : FVec Ideal S3x9x64 .bf16)) (by rw [in0_0]; exact is3_arr3 _)
    (fun d t c o hd ht hc ho => op0_v15 T d t c o hd ht hc ho)
    (by rw [in0_1]; exact op0_v16 T) (by rw [in0_2]; exact op0_v17 T) (by rw [in0_3]; exact op0_v18 T) i j o hi hj ho

theorem region1 (hN : Next (st1 T) 1 5 c U) (hi : i < 112) (hj : j < 112) (ho : o < 128) :
    arr (U main_v40 : FVec Ideal S14336x128 .bf16) (i * 128 + j) o =
      conv 112 112 128 (cw (T main_arg8 : FVec Ideal S128x128x3x3 .f32)) (arr1 (T main_arg9 : FVec Ideal S128 .f32)) (conv 112 112 64 (cw (T main_arg6 : FVec Ideal S128x64x3x3 .f32)) (arr1 (T main_arg7 : FVec Ideal S128 .f32)) (pool fun i j c => arr (T main_v19 : FVec Ideal S57344x64 .bf16) (i * 256 + j) c)) i j o := by
  obtain ⟨f6, f7, hU⟩ := out1 hN
  refine (arr_of _ (by omega) ho).trans ((hU _).trans ?_)
  unfold res1
  exact val1 c _ _ _ _ _ _ _ _ _ _ _ _ _ _ _ _ _ _ _ _ _ _ _ (X := arr (st1 T main_v31 : FVec Ideal S14336x256 .bf16))
    (by rw [in1_0]; exact is2_arr _)
    (fun i j k hi hj hk => (pool_of (n := 64) (p := j < 112) fun q hq => op1_q T i j k q hi (by omega) hk hq))
    (by rw [in1_1]; exact op1_v36 T) (by rw [in1_2]; exact op1_v37 T) (by rw [in1_3]; exact op1_v38 T) (by rw [in1_4]; exact op1_v39 T) i j o hi hj ho

theorem region2 (hN : Next (st2 T) 2 7 c U) (hi : i < 56) (hj : j < 56) (ho : o < 256) :
    arr (U main_v62 : FVec Ideal S3584x256 .bf16) (i * 64 + j) o =
      gconv 56 56 256 (gw 256 (T main_arg14 : FVec Ideal S2304x256 .f32)) (arr1 (T main_arg15 : FVec Ideal S256 .f32)) (gconv 56 56 256 (gw 256 (T main_arg12 : FVec Ideal S2304x256 .f32)) (arr1 (T main_arg13 : FVec Ideal S256 .f32)) (gconv 56 56 128 (gw 128 (T main_arg10 : FVec Ideal S1152x256 .f32)) (arr1 (T main_arg11 : FVec Ideal S256 .f32)) (pool fun i j c => arr (T main_v40 : FVec Ideal S14336x128 .bf16) (i * 128 + j) c))) i j o := by
  obtain ⟨f8, f9, f10, hU⟩ := out2 hN
  refine (arr_of _ (by omega) ho).trans ((hU _).trans ?_)
  unfold res2
  exact val2 c _ _ _ _ _ _ _ _ _ _ _ _ _ _ _ _ _ _ _ _ _ _ _ _ _ _ _ _ _ _ _ _ (X := arr (st2 T main_v52 : FVec Ideal S3584x512 .bf16))
    (by rw [in2_0]; exact is2_arr _)
    (fun i j k hi hj hk => (pool_of (n := 128) (p := j < 56) fun q hq => op2_q T i j k q hi (by omega) hk hq).trans (if_pos hj))
    (by rw [in2_1]; exact op2_v56 T) (by rw [in2_2]; exact op2_v57 T) (by rw [in2_3]; exact op2_v58 T) (by rw [in2_4]; exact op2_v59 T) (by rw [in2_5]; exact op2_v60 T) (by rw [in2_6]; exact op2_v61 T) i j o hi hj ho

theorem region3 (hN : Next (st3 T) 3 7 c U) (hi : i < 28) (hj : j < 28) (ho : o < 512) :
    arr (U main_v84 : FVec Ideal S896x512 .f32) (i * 32 + j) o =
      gconv 28 28 512 (gw 512 (T main_arg20 : FVec Ideal S4608x512 .f32)) (arr1 (T main_arg21 : FVec Ideal S512 .f32)) (gconv 28 28 512 (gw 512 (T main_arg18 : FVec Ideal S4608x512 .f32)) (arr1 (T main_arg19 : FVec Ideal S512 .f32)) (gconv 28 28 256 (gw 256 (T main_arg16 : FVec Ideal S2304x512 .f32)) (arr1 (T main_arg17 : FVec Ideal S512 .f32)) (pool fun i j c => arr (T main_v62 : FVec Ideal S3584x256 .bf16) (i * 64 + j) c))) i j o := by
  obtain ⟨f8, f9, f10, hU⟩ := out3 hN
  refine (arr_of _ (by omega) ho).trans ((hU _).trans ?_)
  unfold res3
  exact val3 c _ _ _ _ _ _ _ _ _ _ _ _ _ _ _ _ _ _ _ _ _ _ _ _ _ _ _ _ _ _ _ _ (X := arr (st3 T main_v74 : FVec Ideal S896x1024 .bf16))
    (by rw [in3_0]; exact is2_arr _)
    (fun i j k hi hj hk => (pool_of (n := 256) (p := j < 28) fun q hq => op3_q T i j k q hi (by omega) hk hq).trans (if_pos hj))
    (by rw [in3_1]; exact op3_v78 T) (by rw [in3_2]; exact op3_v79 T) (by rw [in3_3]; exact op3_v80 T) (by rw [in3_4]; exact op3_v81 T) (by rw [in3_5]; exact op3_v82 T) (by rw [in3_6]; exact op3_v83 T) i j o hi hj ho

end Cert.Proof.K

end
end
-- ==== Proof.Congr.lean ====
module

public import proofs.«01_k».proof.Proof.Arrays

@[expose] public section

noncomputable section

namespace Cert.Proof.Net

/-! The layers read their image inside its bounds only. -/

variable {h w n : ℕ} {W : ℕ → ℕ → ℕ → EReal} {b : ℕ → EReal} {G G' : Img} {i j o : ℕ}

theorem zpad_congr (hG : ∀ i j, i < h → j < w → G i j o = G' i j o) : zpad h w G i j o = zpad h w G' i j o := by
  unfold zpad
  by_cases hc : (1 ≤ i ∧ i ≤ h) ∧ (1 ≤ j ∧ j ≤ w)
  · rw [if_pos hc, if_pos hc, hG _ _ (by omega) (by omega)]
  · rw [if_neg hc, if_neg hc]

theorem conv_congr (hG : ∀ i j c, i < h → j < w → c < n → G i j c = G' i j c) : conv h w n W b G i j o = conv h w n W b G' i j o := by
  unfold conv
  exact dot9_congr (fun t c _ hc => zpad_congr fun i j hi hj => hG i j c hi hj hc) (fun _ _ _ _ => rfl) rfl

theorem gconv_congr (hh : 0 < h) (hw : 0 < w) (hG : ∀ i j c, i < h → j < w → c < n → G i j c = G' i j c) :
    gconv h w n W b G i j o = gconv h w n W b G' i j o := by
  unfold gconv
  exact dot9_congr (fun t c _ hc => hG _ _ c (by omega) (by omega) hc) (fun _ _ _ _ => rfl) rfl

theorem pool_congr (hG : ∀ i' j', i' < 2 * i + 2 → j' < 2 * j + 2 → G i' j' o = G' i' j' o) : pool G i j o = pool G' i j o := by
  unfold pool
  rw [hG _ _ (by omega) (by omega), hG _ _ (by omega) (by omega), hG _ _ (by omega) (by omega), hG _ _ (by omega) (by omega)]

theorem zpad_at {i' j' : ℕ} (hi : i = i') (hj : j = j') : zpad h w G i j o = zpad h w G i' j' o := by rw [hi, hj]

/-- A choice between the image inside its bounds and zero outside is the bordered image. -/
theorem zpad_of {p : Prop} [Decidable p] {x : p → EReal} {y : ¬p → EReal} (hp : p ↔ (1 ≤ i ∧ i ≤ h) ∧ (1 ≤ j ∧ j ≤ w))
    (hx : ∀ q, x q = G (i - 1) (j - 1) o) (hy : ∀ q, y q = 0) : dite p x y = zpad h w G i j o := by
  unfold zpad
  by_cases q : p
  · rw [dif_pos q, if_pos (hp.mp q)]; exact hx q
  · rw [dif_neg q, if_neg fun k => q (hp.mpr k)]; exact hy q

/-- Nine sums with a bias, each the sum over one neighbour. -/
theorem dot9_of {x : ℕ → ℕ → EReal} {s0 s1 s2 s3 s4 s5 s6 s7 s8 B : EReal}
    (h0 : s0 = ∑ c : Fin n, x 0 c * W 0 c o) (h1 : s1 = ∑ c : Fin n, x 1 c * W 1 c o) (h2 : s2 = ∑ c : Fin n, x 2 c * W 2 c o)
    (h3 : s3 = ∑ c : Fin n, x 3 c * W 3 c o) (h4 : s4 = ∑ c : Fin n, x 4 c * W 4 c o) (h5 : s5 = ∑ c : Fin n, x 5 c * W 5 c o)
    (h6 : s6 = ∑ c : Fin n, x 6 c * W 6 c o) (h7 : s7 = ∑ c : Fin n, x 7 c * W 7 c o) (h8 : s8 = ∑ c : Fin n, x 8 c * W 8 c o)
    (hb : B = b o) : max (s0 + s1 + s2 + s3 + s4 + s5 + s6 + s7 + s8 + B) 0 = dot9 n x W b o := by
  unfold dot9
  rw [h0, h1, h2, h3, h4, h5, h6, h7, h8, hb]

/-- A sum over nine rows of `n` laid end to end. -/
theorem sum_nine {N : ℕ} (hN : N = 9 * n) (f : Fin N → EReal) (g : ℕ → ℕ → EReal) (hf : ∀ x : Fin N, f x = g (x.val / n) (x.val % n)) :
    ∑ x, f x = (∑ c : Fin n, g 0 c) + (∑ c : Fin n, g 1 c) + (∑ c : Fin n, g 2 c) + (∑ c : Fin n, g 3 c) + (∑ c : Fin n, g 4 c)
      + (∑ c : Fin n, g 5 c) + (∑ c : Fin n, g 6 c) + (∑ c : Fin n, g 7 c) + ∑ c : Fin n, g 8 c := by
  subst hN
  have e : ∑ x, f x = ∑ t : Fin 9, ∑ c : Fin n, g t c := by
    rw [← Finset.sum_product', ← Equiv.sum_comp (finProdFinEquiv (m := 9) (n := n))]
    refine Finset.sum_congr rfl fun x _ => ?_
    rw [hf]
    have hn : 0 < n := lt_of_le_of_lt (Nat.zero_le _) x.2.isLt
    have hd : (finProdFinEquiv x).val = x.2.val + n * x.1.val := rfl
    rw [hd, Nat.add_mul_div_left _ _ hn, Nat.div_eq_of_lt x.2.isLt, Nat.add_mul_mod_self_left, Nat.mod_eq_of_lt x.2.isLt, zero_add]
  rw [e]
  simp only [Fin.sum_univ_succ (n := 8), Fin.sum_univ_eight]
  simp only [← add_assoc]
  rfl

end Cert.Proof.Net

end
end
-- ==== Proof.Net.lean ====
module

public import proofs.«01_k».proof.Proof.Congr

@[expose] public section

set_option maxRecDepth 16384

noncomputable section

namespace Cert.Proof.Net

/-- The ten layers and the two poolings between them, as plain formulas over the image and the weights. -/
def net (x : Img) (C1 : ℕ → ℕ → ℕ → EReal) (b1 : ℕ → EReal) (C2 : ℕ → ℕ → ℕ → EReal) (b2 : ℕ → EReal) (C3 : ℕ → ℕ → ℕ → EReal) (b3 : ℕ → EReal)
    (C4 : ℕ → ℕ → ℕ → EReal) (b4 : ℕ → EReal) (W5 : ℕ → ℕ → ℕ → EReal) (b5 : ℕ → EReal) (W6 : ℕ → ℕ → ℕ → EReal) (b6 : ℕ → EReal)
    (W7 : ℕ → ℕ → ℕ → EReal) (b7 : ℕ → EReal) (W8 : ℕ → ℕ → ℕ → EReal) (b8 : ℕ → EReal) (W9 : ℕ → ℕ → ℕ → EReal) (b9 : ℕ → EReal)
    (W10 : ℕ → ℕ → ℕ → EReal) (b10 : ℕ → EReal) : Img :=
  gconv 28 28 512 W10 b10 <| gconv 28 28 512 W9 b9 <| gconv 28 28 256 W8 b8 <| pool <|
  gconv 56 56 256 W7 b7 <| gconv 56 56 256 W6 b6 <| gconv 56 56 128 W5 b5 <| pool <|
  conv 112 112 128 C4 b4 <| conv 112 112 64 C3 b3 <| pool <|
  conv 224 224 64 C2 b2 <| conv 224 224 3 C1 b1 x

end Cert.Proof.Net

end
end
-- ==== Proof.Value.lean ====
module

public import proofs.«01_k».proof.Proof.Frame
public import proofs.«01_k».proof.Proof.Link
public import proofs.«01_k».proof.Proof.Net

@[expose] public section

set_option maxRecDepth 16384

noncomputable section

namespace Cert.Proof.K

open Cert.KernelIdeal Cert.KernelIdeal.Gen
open Idealize.ShloMosaic Cert.Proof.Net
open Idealize.ShloMosaic.TcCoe Idealize.ShloMosaic.Tactic

variable (m : (ℓ : Loc nD τ sig) → Buf (Elt Ideal) ℓ)

/-- What the program's result holds, element by element. -/
theorem value {c : Dev nD} {V : Valuation τ sig (Elt Ideal)} (h : At m 4 c V) (o : Fin 512) (i j : Fin 28) :
    (st4 V (Proc.devRef .tc main_v88) : FVec Ideal S1x512x28x28 .f32) (ix4 0 o i j)
      = net (im (m ((c : Thread nD τ).loc main_arg0) : FVec Ideal S1x3x224x224 .f32)) (cw (m ((c : Thread nD τ).loc main_arg2) : FVec Ideal S64x3x3x3 .f32)) (arr1 (m ((c : Thread nD τ).loc main_arg3) : FVec Ideal S64 .f32)) (cw (m ((c : Thread nD τ).loc main_arg4) : FVec Ideal S64x64x3x3 .f32)) (arr1 (m ((c : Thread nD τ).loc main_arg5) : FVec Ideal S64 .f32)) (cw (m ((c : Thread nD τ).loc main_arg6) : FVec Ideal S128x64x3x3 .f32)) (arr1 (m ((c : Thread nD τ).loc main_arg7) : FVec Ideal S128 .f32)) (cw (m ((c : Thread nD τ).loc main_arg8) : FVec Ideal S128x128x3x3 .f32)) (arr1 (m ((c : Thread nD τ).loc main_arg9) : FVec Ideal S128 .f32)) (gw 128 (m ((c : Thread nD τ).loc main_arg10) : FVec Ideal S1152x256 .f32)) (arr1 (m ((c : Thread nD τ).loc main_arg11) : FVec Ideal S256 .f32)) (gw 256 (m ((c : Thread nD τ).loc main_arg12) : FVec Ideal S2304x256 .f32)) (arr1 (m ((c : Thread nD τ).loc main_arg13) : FVec Ideal S256 .f32)) (gw 256 (m ((c : Thread nD τ).loc main_arg14) : FVec Ideal S2304x256 .f32)) (arr1 (m ((c : Thread nD τ).loc main_arg15) : FVec Ideal S256 .f32)) (gw 256 (m ((c : Thread nD τ).loc main_arg16) : FVec Ideal S2304x512 .f32)) (arr1 (m ((c : Thread nD τ).loc main_arg17) : FVec Ideal S512 .f32)) (gw 512 (m ((c : Thread nD τ).loc main_arg18) : FVec Ideal S4608x512 .f32)) (arr1 (m ((c : Thread nD τ).loc main_arg19) : FVec Ideal S512 .f32)) (gw 512 (m ((c : Thread nD τ).loc main_arg20) : FVec Ideal S4608x512 .f32)) (arr1 (m ((c : Thread nD τ).loc main_arg21) : FVec Ideal S512 .f32)) i j o := by
  obtain ⟨X, ⟨W, ⟨U, ⟨T, rfl, h0⟩, h1⟩, h2⟩, h3⟩ := h
  have eT : ∀ r ∈ args, V0 m c (Proc.devRef .tc r) = m ((c : Thread nD τ).loc r) := fun r _ => rfl
  have eU : ∀ r ∈ args, U (Proc.devRef .tc r) = m ((c : Thread nD τ).loc r) := fun r hr => by
    obtain ⟨a0, a1, a2, a3, a4, b0, b1, b2, b3⟩ := args_fresh r hr
    exact (h0.of r b0).trans (st0_of _ r a0)
  have eW : ∀ r ∈ args, W (Proc.devRef .tc r) = m ((c : Thread nD τ).loc r) := fun r hr => by
    obtain ⟨a0, a1, a2, a3, a4, b0, b1, b2, b3⟩ := args_fresh r hr
    exact ((h1.of r b1).trans (st1_of _ r a1)).trans (eU r hr)
  have eX : ∀ r ∈ args, X (Proc.devRef .tc r) = m ((c : Thread nD τ).loc r) := fun r hr => by
    obtain ⟨a0, a1, a2, a3, a4, b0, b1, b2, b3⟩ := args_fresh r hr
    exact ((h2.of r b2).trans (st2_of _ r a2)).trans (eW r hr)
  refine (out_at V o i j).trans ((region3 X V i.val j.val o.val h3 i.isLt j.isLt o.isLt).trans ?_)
  rw [eX main_arg16 (by decide), eX main_arg17 (by decide), eX main_arg18 (by decide), eX main_arg19 (by decide), eX main_arg20 (by decide), eX main_arg21 (by decide)]
  refine gconv_congr (by decide) (by decide) fun i j o hi hj ho => gconv_congr (by decide) (by decide) fun i j o hi hj ho =>
    gconv_congr (by decide) (by decide) fun i j o hi hj ho => pool_congr fun i' j' hi' hj' => ?_
  refine (region2 W X i' j' o h2 (by omega) (by omega) ho).trans ?_
  rw [eW main_arg10 (by decide), eW main_arg11 (by decide), eW main_arg12 (by decide), eW main_arg13 (by decide), eW main_arg14 (by decide), eW main_arg15 (by decide)]
  refine gconv_congr (by decide) (by decide) fun i j o hi hj ho => gconv_congr (by decide) (by decide) fun i j o hi hj ho =>
    gconv_congr (by decide) (by decide) fun i j o hi hj ho => pool_congr fun i' j' hi' hj' => ?_
  refine (region1 U W i' j' o h1 (by omega) (by omega) ho).trans ?_
  rw [eU main_arg6 (by decide), eU main_arg7 (by decide), eU main_arg8 (by decide), eU main_arg9 (by decide)]
  refine conv_congr fun i j o hi hj ho => conv_congr fun i j o hi hj ho => pool_congr fun i' j' hi' hj' => ?_
  exact region0 (V0 m c) U i' j' o h0 (by omega) (by omega) ho

/-- What every run leaves: the result, element by element, and the arguments. -/
theorem outcome (ρ : Dev nD → PrngReg) :
    θ_run (defs (F := Ideal)) (onTc (main (F := Ideal))) ⟨m, fun _ => 0, ρ⟩ fun r => ∀ c : Dev nD,
      (∀ (o : Fin 512) (i j : Fin 28), (r.2.mem ((c : Thread nD τ).loc main_v88) : FVec Ideal S1x512x28x28 .f32) (ix4 0 o i j)
        = net (im (m ((c : Thread nD τ).loc main_arg0) : FVec Ideal S1x3x224x224 .f32)) (cw (m ((c : Thread nD τ).loc main_arg2) : FVec Ideal S64x3x3x3 .f32)) (arr1 (m ((c : Thread nD τ).loc main_arg3) : FVec Ideal S64 .f32)) (cw (m ((c : Thread nD τ).loc main_arg4) : FVec Ideal S64x64x3x3 .f32)) (arr1 (m ((c : Thread nD τ).loc main_arg5) : FVec Ideal S64 .f32)) (cw (m ((c : Thread nD τ).loc main_arg6) : FVec Ideal S128x64x3x3 .f32)) (arr1 (m ((c : Thread nD τ).loc main_arg7) : FVec Ideal S128 .f32)) (cw (m ((c : Thread nD τ).loc main_arg8) : FVec Ideal S128x128x3x3 .f32)) (arr1 (m ((c : Thread nD τ).loc main_arg9) : FVec Ideal S128 .f32)) (gw 128 (m ((c : Thread nD τ).loc main_arg10) : FVec Ideal S1152x256 .f32)) (arr1 (m ((c : Thread nD τ).loc main_arg11) : FVec Ideal S256 .f32)) (gw 256 (m ((c : Thread nD τ).loc main_arg12) : FVec Ideal S2304x256 .f32)) (arr1 (m ((c : Thread nD τ).loc main_arg13) : FVec Ideal S256 .f32)) (gw 256 (m ((c : Thread nD τ).loc main_arg14) : FVec Ideal S2304x256 .f32)) (arr1 (m ((c : Thread nD τ).loc main_arg15) : FVec Ideal S256 .f32)) (gw 256 (m ((c : Thread nD τ).loc main_arg16) : FVec Ideal S2304x512 .f32)) (arr1 (m ((c : Thread nD τ).loc main_arg17) : FVec Ideal S512 .f32)) (gw 512 (m ((c : Thread nD τ).loc main_arg18) : FVec Ideal S4608x512 .f32)) (arr1 (m ((c : Thread nD τ).loc main_arg19) : FVec Ideal S512 .f32)) (gw 512 (m ((c : Thread nD τ).loc main_arg20) : FVec Ideal S4608x512 .f32)) (arr1 (m ((c : Thread nD τ).loc main_arg21) : FVec Ideal S512 .f32)) i j o)
      ∧ ∀ b ∈ args, r.2.mem ((c : Thread nD τ).loc b) = m ((c : Thread nD τ).loc b) := by
  refine (θ_run _ _ _).mono ?_ (run m ρ)
  rintro r ⟨h, -⟩ c
  obtain ⟨V, hV, hr⟩ := h c
  refine ⟨fun o i j => (congrFun (hr _ (mem_ucRefs main_v88 rfl)) (ix4 0 o i j)).trans (value m hV o i j), fun b hb => ?_⟩
  exact (hr _ (mem_ucRefs b (by revert b; decide))).trans (hV.arg m b hb)

end Cert.Proof.K

end
end
-- ==== Proof.RefConv.lean ====
module

public import proofs.«01_k».proof.Proof.Arrays
public import proofs.«01_k».proof.Proof.Congr
public import proofs.«01_k».proof.Proof.Gen.ReferenceIdeal.Run
public import Idealize.ShloMosaic.Lib.StableHlo.ReadAt
public import Idealize.ShloMosaic.Lib.KernelVsHost

@[expose] public section

set_option maxRecDepth 16384

noncomputable section

namespace Cert.Proof.R

open Cert.ReferenceIdeal Cert.ReferenceIdeal.Gen Cert.ReferenceIdeal.Value
open Idealize.ShloMosaic Cert.Proof.Net
open Idealize.ShloMosaic.TcCoe Idealize.ShloMosaic.Tactic

variable (V : Valuation τ sig (Elt Ideal))

theorem neg_inf : Ideal.ofBits .f32 0xFF800000#32 = (⊥ : EReal) := by simp [Ideal.ofBits, Ideal.ieee]

/-- The greatest of the 2 by 2 windows of an image, each channel by itself. -/
theorem window_at {C H W h w : ℕ} {u : Shape} {x : (⟨4, ![1, C, H, W]⟩ : Shape).Idx → EReal} {init : u.Idx → EReal}
    (hr : (⟨4, ![1, C, H, W]⟩ : Shape).ReduceWindows ![1, 1, 2, 2] ![1, 1, 2, 2] ![0, 0, 0, 0] ![0, 0, 0, 0] ⟨4, ![1, C, h, w]⟩) (hu : 0 < u.numel)
    (hi : init (Shape.Idx.first hu) = ⊥) (hH : 2 * h ≤ H) (hW : 2 * w ≤ W) (c : Fin C) (a : Fin h) (b : Fin w) (g : ℕ → ℕ → EReal)
    (hg : ∀ i j, x (ix4 0 c i j) = g i j) :
    Host.reduceWindow (max : EReal → EReal → EReal) ![1, 1, 2, 2] ![1, 1, 2, 2] ![0, 0, 0, 0] ![0, 0, 0, 0] x init hr hu (ix4 0 c a b)
      = max (max (g (2 * a) (2 * b)) (g (2 * a) (2 * b + 1))) (max (g (2 * a + 1) (2 * b)) (g (2 * a + 1) (2 * b + 1))) := by
  have hl : List.finRange (⟨4, ![1, 1, 2, 2]⟩ : Shape).numel = [⟨0, by decide⟩, ⟨1, by decide⟩, ⟨2, by decide⟩, ⟨3, by decide⟩] := by decide
  have off : ∀ (n : Fin (⟨4, ![1, 1, 2, 2]⟩ : Shape).numel) (p q : ℕ), p < 2 → q < 2 →
      (∀ k, ((⟨4, ![1, 1, 2, 2]⟩ : Shape).rowMajor.symm n k).val = (![0, 0, p, q] : Fin 4 → ℕ) k) → ∀ k : Fin 4,
        (ix4 (0 : Fin 1) c a b k).val * (![1, 1, 2, 2] : Fin 4 → ℕ) k + ((⟨4, ![1, 1, 2, 2]⟩ : Shape).rowMajor.symm n k).val - (![0, 0, 0, 0] : Fin 4 → ℕ) k
          = (![0, c.val, 2 * a.val + p, 2 * b.val + q] : Fin 4 → ℕ) k := by
    intro n p q hp hq hn k
    rw [hn k]
    match k with
    | ⟨0, _⟩ => rfl
    | ⟨1, _⟩ => show c.val * 1 + 0 - 0 = c.val; omega
    | ⟨2, _⟩ => show a.val * 2 + p - 0 = 2 * a.val + p; omega
    | ⟨3, _⟩ => show b.val * 2 + q - 0 = 2 * b.val + q; omega
  have hin : ∀ (n : Fin (⟨4, ![1, 1, 2, 2]⟩ : Shape).numel) (p q : ℕ), p < 2 → q < 2 →
      (∀ k, ((⟨4, ![1, 1, 2, 2]⟩ : Shape).rowMajor.symm n k).val = (![0, 0, p, q] : Fin 4 → ℕ) k) → ∀ k : Fin 4,
        (![0, 0, 0, 0] : Fin 4 → ℕ) k ≤ (ix4 (0 : Fin 1) c a b k).val * (![1, 1, 2, 2] : Fin 4 → ℕ) k + ((⟨4, ![1, 1, 2, 2]⟩ : Shape).rowMajor.symm n k).val
          ∧ (ix4 (0 : Fin 1) c a b k).val * (![1, 1, 2, 2] : Fin 4 → ℕ) k + ((⟨4, ![1, 1, 2, 2]⟩ : Shape).rowMajor.symm n k).val - (![0, 0, 0, 0] : Fin 4 → ℕ) k < (![1, C, H, W] : Fin 4 → ℕ) k := by
    intro n p q hp hq hn k
    have e := off n p q hp hq hn k
    have ha := a.isLt
    have hb := b.isLt
    match k with
    | ⟨0, _⟩ => exact ⟨Nat.zero_le _, lt_of_eq_of_lt e Nat.one_pos⟩
    | ⟨1, _⟩ => exact ⟨Nat.zero_le _, lt_of_eq_of_lt e c.isLt⟩
    | ⟨2, _⟩ => exact ⟨Nat.zero_le _, lt_of_eq_of_lt e (show 2 * a.val + p < H by omega)⟩
    | ⟨3, _⟩ => exact ⟨Nat.zero_le _, lt_of_eq_of_lt e (show 2 * b.val + q < W by omega)⟩
  have key : ∀ (n : Fin (⟨4, ![1, 1, 2, 2]⟩ : Shape).numel) (p q : ℕ) (hp : p < 2) (hq : q < 2)
      (hn : ∀ k, ((⟨4, ![1, 1, 2, 2]⟩ : Shape).rowMajor.symm n k).val = (![0, 0, p, q] : Fin 4 → ℕ) k),
      x (fun k => ⟨(ix4 (0 : Fin 1) c a b k).val * (![1, 1, 2, 2] : Fin 4 → ℕ) k + ((⟨4, ![1, 1, 2, 2]⟩ : Shape).rowMajor.symm n k).val - (![0, 0, 0, 0] : Fin 4 → ℕ) k, (hin n p q hp hq hn k).2⟩)
        = g (2 * a + p) (2 * b + q) := by
    intro n p q hp hq hn
    have ha := a.isLt
    have hb := b.isLt
    rw [← hg ⟨2 * a.val + p, by omega⟩ ⟨2 * b.val + q, by omega⟩]
    congr 1
    funext k
    apply Fin.ext
    have e := off n p q hp hq hn k
    match k with
    | ⟨0, _⟩ => exact e
    | ⟨1, _⟩ => exact e
    | ⟨2, _⟩ => exact e
    | ⟨3, _⟩ => exact e
  unfold Host.reduceWindow
  dsimp only
  erw [hl]
  simp only [List.foldl]
  have z : (0 : ℕ) < 2 := by omega
  have y : (1 : ℕ) < 2 := by omega
  refine (congrArg₂ max (congrArg₂ max (congrArg₂ max (congrArg₂ max hi
    ((dif_pos (hin ⟨0, by decide⟩ 0 0 z z (by decide))).trans (key ⟨0, by decide⟩ 0 0 z z (by decide))))
    ((dif_pos (hin ⟨1, by decide⟩ 0 1 z y (by decide))).trans (key ⟨1, by decide⟩ 0 1 z y (by decide))))
    ((dif_pos (hin ⟨2, by decide⟩ 1 0 y z (by decide))).trans (key ⟨2, by decide⟩ 1 0 y z (by decide))))
    ((dif_pos (hin ⟨3, by decide⟩ 1 1 y y (by decide))).trans (key ⟨3, by decide⟩ 1 1 y y (by decide)))).trans ?_
  rw [max_eq_right bot_le, max_assoc]
  rfl

/-- The two convolutions on the 224 by 224 grid. -/
def G1 : Img := conv 224 224 3 (cw (V (Proc.devRef .tc main_arg2) : FVec Ideal S64x3x3x3 .f32)) (arr1 (V (Proc.devRef .tc main_arg3) : FVec Ideal S64 .f32)) (im (V (Proc.devRef .tc main_arg0) : FVec Ideal S1x3x224x224 .f32))
def G2 : Img := conv 224 224 64 (cw (V (Proc.devRef .tc main_arg4) : FVec Ideal S64x64x3x3 .f32)) (arr1 (V (Proc.devRef .tc main_arg5) : FVec Ideal S64 .f32)) (G1 V)

/-- The two convolutions on the 112 by 112 grid. -/
def G3 : Img := conv 112 112 64 (cw (V (Proc.devRef .tc main_arg6) : FVec Ideal S128x64x3x3 .f32)) (arr1 (V (Proc.devRef .tc main_arg7) : FVec Ideal S128 .f32)) (pool (G2 V))
def G4 : Img := conv 112 112 128 (cw (V (Proc.devRef .tc main_arg8) : FVec Ideal S128x128x3x3 .f32)) (arr1 (V (Proc.devRef .tc main_arg9) : FVec Ideal S128 .f32)) (G3 V)

theorem z0 (c : Fin 3) (a b : Fin 226) : (res_main_v0 V : FVec Ideal S1x3x226x226 .f32) (ix4 0 c a b) = zpad 224 224 (im (V (Proc.devRef .tc main_arg0) : FVec Ideal S1x3x224x224 .f32)) a b c := by
  unfold res_main_v0
  clean_types
  pointwise
  refine zpad_of ?_ (fun h => ?_) (fun h => ?_)
  · omega
  · exact (arr4_apply _ 0 c _ _).symm
  · exact sitofp_zero (φ := .f32)

theorem r56 (o : Fin 64) (i j : Fin 224) : @max EReal _ ((res_main_v56 V : FVec Ideal S1x64x224x224 .f32) (ix4 0 o i j)) 0 = G1 V i j o := by
  pointwise [res_main_v56]
  unfold G1 conv
  refine dot9_of ?_ ?_ ?_ ?_ ?_ ?_ ?_ ?_ ?_ (arr1_apply _ o).symm
  · exact Finset.sum_congr rfl fun x _ => (mul_comm _ _).trans (congrArg₂ (· * ·) ((z0 V x _ _).trans (zpad_at (by dsimp only; omega) (by dsimp only; omega))) (arr4_apply _ o x 0 0).symm)
  · exact Finset.sum_congr rfl fun x _ => (mul_comm _ _).trans (congrArg₂ (· * ·) ((z0 V x _ _).trans (zpad_at (by dsimp only; omega) (by dsimp only; omega))) (arr4_apply _ o x 0 1).symm)
  · exact Finset.sum_congr rfl fun x _ => (mul_comm _ _).trans (congrArg₂ (· * ·) ((z0 V x _ _).trans (zpad_at (by dsimp only; omega) (by dsimp only; omega))) (arr4_apply _ o x 0 2).symm)
  · exact Finset.sum_congr rfl fun x _ => (mul_comm _ _).trans (congrArg₂ (· * ·) ((z0 V x _ _).trans (zpad_at (by dsimp only; omega) (by dsimp only; omega))) (arr4_apply _ o x 1 0).symm)
  · exact Finset.sum_congr rfl fun x _ => (mul_comm _ _).trans (congrArg₂ (· * ·) ((z0 V x _ _).trans (zpad_at (by dsimp only; omega) (by dsimp only; omega))) (arr4_apply _ o x 1 1).symm)
  · exact Finset.sum_congr rfl fun x _ => (mul_comm _ _).trans (congrArg₂ (· * ·) ((z0 V x _ _).trans (zpad_at (by dsimp only; omega) (by dsimp only; omega))) (arr4_apply _ o x 1 2).symm)
  · exact Finset.sum_congr rfl fun x _ => (mul_comm _ _).trans (congrArg₂ (· * ·) ((z0 V x _ _).trans (zpad_at (by dsimp only; omega) (by dsimp only; omega))) (arr4_apply _ o x 2 0).symm)
  · exact Finset.sum_congr rfl fun x _ => (mul_comm _ _).trans (congrArg₂ (· * ·) ((z0 V x _ _).trans (zpad_at (by dsimp only; omega) (by dsimp only; omega))) (arr4_apply _ o x 2 1).symm)
  · exact Finset.sum_congr rfl fun x _ => (mul_comm _ _).trans (congrArg₂ (· * ·) ((z0 V x _ _).trans (zpad_at (by dsimp only; omega) (by dsimp only; omega))) (arr4_apply _ o x 2 2).symm)

theorem z59 (c : Fin 64) (a b : Fin 226) : (res_main_v59 V : FVec Ideal S1x64x226x226 .f32) (ix4 0 c a b) = zpad 224 224 (G1 V) a b c := by
  unfold res_main_v59
  clean_types
  pointwise
  refine zpad_of ?_ (fun h => ?_) (fun h => ?_)
  · omega
  · exact r56 V c _ _
  · exact sitofp_zero (φ := .f32)

theorem r115 (o : Fin 64) (i j : Fin 224) : @max EReal _ ((res_main_v115 V : FVec Ideal S1x64x224x224 .f32) (ix4 0 o i j)) 0 = G2 V i j o := by
  pointwise [res_main_v115]
  unfold G2 conv
  refine dot9_of ?_ ?_ ?_ ?_ ?_ ?_ ?_ ?_ ?_ (arr1_apply _ o).symm
  · exact Finset.sum_congr rfl fun x _ => (mul_comm _ _).trans (congrArg₂ (· * ·) ((z59 V x _ _).trans (zpad_at (by dsimp only; omega) (by dsimp only; omega))) (arr4_apply _ o x 0 0).symm)
  · exact Finset.sum_congr rfl fun x _ => (mul_comm _ _).trans (congrArg₂ (· * ·) ((z59 V x _ _).trans (zpad_at (by dsimp only; omega) (by dsimp only; omega))) (arr4_apply _ o x 0 1).symm)
  · exact Finset.sum_congr rfl fun x _ => (mul_comm _ _).trans (congrArg₂ (· * ·) ((z59 V x _ _).trans (zpad_at (by dsimp only; omega) (by dsimp only; omega))) (arr4_apply _ o x 0 2).symm)
  · exact Finset.sum_congr rfl fun x _ => (mul_comm _ _).trans (congrArg₂ (· * ·) ((z59 V x _ _).trans (zpad_at (by dsimp only; omega) (by dsimp only; omega))) (arr4_apply _ o x 1 0).symm)
  · exact Finset.sum_congr rfl fun x _ => (mul_comm _ _).trans (congrArg₂ (· * ·) ((z59 V x _ _).trans (zpad_at (by dsimp only; omega) (by dsimp only; omega))) (arr4_apply _ o x 1 1).symm)
  · exact Finset.sum_congr rfl fun x _ => (mul_comm _ _).trans (congrArg₂ (· * ·) ((z59 V x _ _).trans (zpad_at (by dsimp only; omega) (by dsimp only; omega))) (arr4_apply _ o x 1 2).symm)
  · exact Finset.sum_congr rfl fun x _ => (mul_comm _ _).trans (congrArg₂ (· * ·) ((z59 V x _ _).trans (zpad_at (by dsimp only; omega) (by dsimp only; omega))) (arr4_apply _ o x 2 0).symm)
  · exact Finset.sum_congr rfl fun x _ => (mul_comm _ _).trans (congrArg₂ (· * ·) ((z59 V x _ _).trans (zpad_at (by dsimp only; omega) (by dsimp only; omega))) (arr4_apply _ o x 2 1).symm)
  · exact Finset.sum_congr rfl fun x _ => (mul_comm _ _).trans (congrArg₂ (· * ·) ((z59 V x _ _).trans (zpad_at (by dsimp only; omega) (by dsimp only; omega))) (arr4_apply _ o x 2 2).symm)

/-- The greatest of each 2 by 2 window. -/
theorem w112 (c : Fin 64) (a b : Fin 112) : Host.reduceWindow (FloatOps.maximumf (F := Ideal) (φ := .f32)) ![1, 1, 2, 2] ![1, 1, 2, 2] ![0, 0, 0, 0] ![0, 0, 0, 0] (maximumf (res_main_v115 V) (broadcastInDim S1x64x224x224 ![] bcast_S_S1x64x224x224 (constant S_ .f32 0x00000000#32))) (broadcastInDim S_ ![] bcast_S_S_ (constant S_ .f32 0xFF800000#32)) reduceWindows_S1x64x224x224_S1x64x112x112_w1s1p0_0_w1s1p0_0_w2s2p0_0_w2s2p0_0 h_S_ (ix4 0 c a b) = pool (G2 V) a b c := by
  refine window_at (H := 224) (W := 224) _ _ neg_inf (by decide) (by decide) c a b (fun i j => G2 V i j c) fun i j => ?_
  pointwise
  exact r115 V c i j

theorem z120 (c : Fin 64) (a b : Fin 114) : (res_main_v120 V : FVec Ideal S1x64x114x114 .f32) (ix4 0 c a b) = zpad 112 112 (pool (G2 V)) a b c := by
  unfold res_main_v120
  clean_types
  pointwise
  refine zpad_of ?_ (fun h => ?_) (fun h => ?_)
  · omega
  · exact w112 V c _ _
  · exact sitofp_zero (φ := .f32)

theorem r173 (o : Fin 128) (i j : Fin 112) : @max EReal _ (@HAdd.hAdd EReal EReal EReal _ ((res_main_v173 V : FVec Ideal S1x128x112x112 .f32) (ix4 0 o i j)) ((V (Proc.devRef .tc main_arg7) : FVec Ideal S128 .f32) (ix1 o))) 0 = G3 V i j o := by
  pointwise [res_main_v173]
  unfold G3 conv
  refine dot9_of ?_ ?_ ?_ ?_ ?_ ?_ ?_ ?_ ?_ (arr1_apply _ o).symm
  · exact Finset.sum_congr rfl fun x _ => (mul_comm _ _).trans (congrArg₂ (· * ·) ((z120 V x _ _).trans (zpad_at (by dsimp only; omega) (by dsimp only; omega))) (arr4_apply _ o x 0 0).symm)
  · exact Finset.sum_congr rfl fun x _ => (mul_comm _ _).trans (congrArg₂ (· * ·) ((z120 V x _ _).trans (zpad_at (by dsimp only; omega) (by dsimp only; omega))) (arr4_apply _ o x 0 1).symm)
  · exact Finset.sum_congr rfl fun x _ => (mul_comm _ _).trans (congrArg₂ (· * ·) ((z120 V x _ _).trans (zpad_at (by dsimp only; omega) (by dsimp only; omega))) (arr4_apply _ o x 0 2).symm)
  · exact Finset.sum_congr rfl fun x _ => (mul_comm _ _).trans (congrArg₂ (· * ·) ((z120 V x _ _).trans (zpad_at (by dsimp only; omega) (by dsimp only; omega))) (arr4_apply _ o x 1 0).symm)
  · exact Finset.sum_congr rfl fun x _ => (mul_comm _ _).trans (congrArg₂ (· * ·) ((z120 V x _ _).trans (zpad_at (by dsimp only; omega) (by dsimp only; omega))) (arr4_apply _ o x 1 1).symm)
  · exact Finset.sum_congr rfl fun x _ => (mul_comm _ _).trans (congrArg₂ (· * ·) ((z120 V x _ _).trans (zpad_at (by dsimp only; omega) (by dsimp only; omega))) (arr4_apply _ o x 1 2).symm)
  · exact Finset.sum_congr rfl fun x _ => (mul_comm _ _).trans (congrArg₂ (· * ·) ((z120 V x _ _).trans (zpad_at (by dsimp only; omega) (by dsimp only; omega))) (arr4_apply _ o x 2 0).symm)
  · exact Finset.sum_congr rfl fun x _ => (mul_comm _ _).trans (congrArg₂ (· * ·) ((z120 V x _ _).trans (zpad_at (by dsimp only; omega) (by dsimp only; omega))) (arr4_apply _ o x 2 1).symm)
  · exact Finset.sum_congr rfl fun x _ => (mul_comm _ _).trans (congrArg₂ (· * ·) ((z120 V x _ _).trans (zpad_at (by dsimp only; omega) (by dsimp only; omega))) (arr4_apply _ o x 2 2).symm)

theorem z179 (c : Fin 128) (a b : Fin 114) : (res_main_v179 V : FVec Ideal S1x128x114x114 .f32) (ix4 0 c a b) = zpad 112 112 (G3 V) a b c := by
  unfold res_main_v179
  clean_types
  pointwise
  refine zpad_of ?_ (fun h => ?_) (fun h => ?_)
  · omega
  · exact r173 V c _ _
  · exact sitofp_zero (φ := .f32)

theorem r232 (o : Fin 128) (i j : Fin 112) : @max EReal _ (@HAdd.hAdd EReal EReal EReal _ ((res_main_v232 V : FVec Ideal S1x128x112x112 .f32) (ix4 0 o i j)) ((V (Proc.devRef .tc main_arg9) : FVec Ideal S128 .f32) (ix1 o))) 0 = G4 V i j o := by
  pointwise [res_main_v232]
  unfold G4 conv
  refine dot9_of ?_ ?_ ?_ ?_ ?_ ?_ ?_ ?_ ?_ (arr1_apply _ o).symm
  · exact Finset.sum_congr rfl fun x _ => (mul_comm _ _).trans (congrArg₂ (· * ·) ((z179 V x _ _).trans (zpad_at (by dsimp only; omega) (by dsimp only; omega))) (arr4_apply _ o x 0 0).symm)
  · exact Finset.sum_congr rfl fun x _ => (mul_comm _ _).trans (congrArg₂ (· * ·) ((z179 V x _ _).trans (zpad_at (by dsimp only; omega) (by dsimp only; omega))) (arr4_apply _ o x 0 1).symm)
  · exact Finset.sum_congr rfl fun x _ => (mul_comm _ _).trans (congrArg₂ (· * ·) ((z179 V x _ _).trans (zpad_at (by dsimp only; omega) (by dsimp only; omega))) (arr4_apply _ o x 0 2).symm)
  · exact Finset.sum_congr rfl fun x _ => (mul_comm _ _).trans (congrArg₂ (· * ·) ((z179 V x _ _).trans (zpad_at (by dsimp only; omega) (by dsimp only; omega))) (arr4_apply _ o x 1 0).symm)
  · exact Finset.sum_congr rfl fun x _ => (mul_comm _ _).trans (congrArg₂ (· * ·) ((z179 V x _ _).trans (zpad_at (by dsimp only; omega) (by dsimp only; omega))) (arr4_apply _ o x 1 1).symm)
  · exact Finset.sum_congr rfl fun x _ => (mul_comm _ _).trans (congrArg₂ (· * ·) ((z179 V x _ _).trans (zpad_at (by dsimp only; omega) (by dsimp only; omega))) (arr4_apply _ o x 1 2).symm)
  · exact Finset.sum_congr rfl fun x _ => (mul_comm _ _).trans (congrArg₂ (· * ·) ((z179 V x _ _).trans (zpad_at (by dsimp only; omega) (by dsimp only; omega))) (arr4_apply _ o x 2 0).symm)
  · exact Finset.sum_congr rfl fun x _ => (mul_comm _ _).trans (congrArg₂ (· * ·) ((z179 V x _ _).trans (zpad_at (by dsimp only; omega) (by dsimp only; omega))) (arr4_apply _ o x 2 1).symm)
  · exact Finset.sum_congr rfl fun x _ => (mul_comm _ _).trans (congrArg₂ (· * ·) ((z179 V x _ _).trans (zpad_at (by dsimp only; omega) (by dsimp only; omega))) (arr4_apply _ o x 2 2).symm)

end Cert.Proof.R

end
end
-- ==== Proof.RefGraph.lean ====
module

public import proofs.«01_k».proof.Proof.RefConv

@[expose] public section

set_option maxRecDepth 16384

noncomputable section

namespace Cert.Proof.R

open Cert.ReferenceIdeal Cert.ReferenceIdeal.Gen Cert.ReferenceIdeal.Value
open Idealize.ShloMosaic Cert.Proof.Net
open Idealize.ShloMosaic.TcCoe Idealize.ShloMosaic.Tactic

/-! Rows of a matrix taken by a table of row numbers. -/

/-- The dimension numbers of taking, for every table entry `(r, t)`, a whole row of a matrix. -/
abbrev rowDims (M R C K : ℕ) (wf : GatherDims.WF ⟨3, ![1, M, K]⟩ ⟨3, ![R, C, 1]⟩ ⟨4, ![1, R, C, K]⟩ [0, 3] [1] [] [1] [] 2 ![1, 1, K]) :
    GatherDims ⟨3, ![1, M, K]⟩ ⟨3, ![R, C, 1]⟩ ⟨4, ![1, R, C, K]⟩ where
  offsetDims := [0, 3]
  collapsedSliceDims := [1]
  operandBatchingDims := []
  startIndicesBatchingDims := []
  startIndexMap := [1]
  indexVectorDim := 2
  sliceSizes := ![1, 1, K]
  wf := wf

/-- An entry that names a row of the matrix takes that row. -/
theorem rows_at {M R C K : ℕ} {wf : GatherDims.WF ⟨3, ![1, M, K]⟩ ⟨3, ![R, C, 1]⟩ ⟨4, ![1, R, C, K]⟩ [0, 3] [1] [] [1] [] 2 ![1, 1, K]}
    (x : (⟨3, ![1, M, K]⟩ : Shape).Idx → EReal) (idx : IVec ⟨3, ![R, C, 1]⟩ 32) (r : Fin R) (t : Fin C) (k : Fin K) {z : ℕ} (hz : z < M)
    (hM : M < 2 ^ 31) (he : idx (ix3 r t 0) = BitVec.ofNat 32 z) :
    Host.gather (rowDims M R C K wf) x idx (ix4 0 r t k) = x (ix3 0 ⟨z, hz⟩ k) := by
  unfold Host.gather
  congr 1
  funext a
  refine Fin.ext ?_
  show (rowDims M R C K wf).start (ix4 0 r t k) idx a + (rowDims M R C K wf).batchCoord (ix4 0 r t k) a + (rowDims M R C K wf).offCoord (ix4 0 r t k) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (show (0 : Fin 3) ∉ ([1] : List (Fin 3)) by decide)]
    have := (rowDims M R C K wf).offCoord_lt (ix4 0 r t k) 0 (((rowDims M R C K wf).mem_sKept 0).mpr ⟨show (0 : Fin 3) ∉ ([1] : List (Fin 3)) by decide, List.not_mem_nil⟩)
    show 0 + 0 + (rowDims M R C K wf).offCoord (ix4 0 r t k) 0 = 0
    have h1 : (rowDims M R C K wf).sliceSizes 0 = 1 := rfl
    omega
  · rw [show (rowDims M R C K wf).offCoord (ix4 0 r t k) 1 = 0 from
      GatherDims.offCoord_eq_zero _ _ _ (fun h => ((GatherDims.mem_sKept _ _).mp h).1 (List.mem_singleton.mpr rfl))]
    unfold GatherDims.start
    rw [dif_pos (show (1 : Fin 3) ∈ (rowDims M R C K wf).startIndexMap from List.mem_singleton.mpr rfl)]
    have hsi : (rowDims M R C K wf).siIdx (ix4 0 r t k) ⟨List.idxOf (1 : Fin 3) (rowDims M R C K wf).startIndexMap,
        List.idxOf_lt_length_iff.2 (List.mem_singleton.mpr rfl)⟩ = ix3 r t 0 := by
      funext b; refine Fin.ext ?_
      match b with
      | ⟨0, _⟩ => rfl
      | ⟨1, _⟩ => rfl
      | ⟨2, _⟩ => rfl
    have hv : (BitVec.ofNat 32 z).toInt.toNat = z := by rw [WordCmp.toInt_ofNat_of_lt (w := 32) (by omega)]; rfl
    show min (idx ((rowDims M R C K wf).siIdx (ix4 0 r t k) ⟨List.idxOf (1 : Fin 3) (rowDims M R C K wf).startIndexMap, _⟩)).toInt.toNat (M - 1) + 0 + 0 = z
    rw [hsi, he, hv]
    omega
  · unfold GatherDims.start
    rw [dif_neg (show (2 : Fin 3) ∉ ([1] : List (Fin 3)) by decide)]
    show 0 + 0 + (rowDims M R C K wf).offCoord (ix4 0 r t k) 2 = k.val
    rw [Nat.add_zero, Nat.zero_add]
    unfold GatherDims.offCoord
    rw [dif_pos (((rowDims M R C K wf).mem_sKept 2).mpr ⟨show (2 : Fin 3) ∉ ([1] : List (Fin 3)) by decide, List.not_mem_nil⟩)]
    rfl

/-! The tables of row numbers. -/

theorem add_word (a b : ℕ) : IntOp.addi (BitVec.ofNat 32 a) (BitVec.ofNat 32 b) = BitVec.ofNat 32 (a + b) := by
  simp only [IntOp.addi, BitVec.ofNat_add]

theorem mul_word (a b : ℕ) : IntOp.muli (BitVec.ofNat 32 a) (BitVec.ofNat 32 b) = BitVec.ofNat 32 (a * b) := by
  simp only [IntOp.muli, BitVec.ofNat_mul]

/-- The greatest of the four rows of a group, channel by channel. -/
theorem four_at {R K : ℕ} {u : Shape} {x : (⟨4, ![1, R, 4, K]⟩ : Shape).Idx → EReal} {init : u.Idx → EReal}
    (h' : (⟨4, ![1, R, 4, K]⟩ : Shape).ReducesTo [2] ⟨3, ![1, R, K]⟩) (h : (⟨4, ![1, R, 4, K]⟩ : Shape).Reduces [2] ⟨3, ![1, R, K]⟩) (hu : 0 < u.numel)
    (hi : init (Shape.Idx.first hu) = ⊥) (r : Fin R) (k : Fin K) :
    Host.reduce (max : EReal → EReal → EReal) x init h' hu (ix3 0 r k)
      = max (max (x (ix4 0 r 0 k)) (x (ix4 0 r 1 k))) (max (x (ix4 0 r 2 k)) (x (ix4 0 r 3 k))) := by
  have e : ∀ q : Fin 4, h.lift (ix3 0 r k) q = ix4 0 r q k := fun q => by
    funext c
    apply Fin.ext
    match c with
    | ⟨0, _⟩ => rfl
    | ⟨1, _⟩ => rfl
    | ⟨2, _⟩ => rfl
    | ⟨3, _⟩ => rfl
  rw [Host.reduce_eq_fold_single max x init h' h hu, hi]
  show max (x (h.lift (ix3 0 r k) (0 : Fin 4))) (max (x (h.lift (ix3 0 r k) (1 : Fin 4))) (max (x (h.lift (ix3 0 r k) (2 : Fin 4))) (max (x (h.lift (ix3 0 r k) (3 : Fin 4))) ⊥))) = _
  rw [e, e, e, e, max_eq_left (bot_le : (⊥ : EReal) ≤ _), max_assoc]

variable (V : Valuation τ sig (Elt Ideal))

theorem near56 : ∀ (a : Fin 56) (s : Fin 3), IntOp.minsi (IntOp.maxsi (IntOp.addi (BitVec.ofNat 32 a.val) (IntOp.subi (BitVec.ofNat 32 s.val) 1#32)) 0#32) 55#32
    = BitVec.ofNat 32 (min (a.val + s.val - 1) 55) := by decide +kernel

/-- The neighbours of a pixel, the edge standing for what lies beyond it. -/
theorem tab56 (i j : ℕ) (hi : i < 56) (hj : j < 56) (t : Fin 9) :
    (broadcastInDim S3136x9x1 ![0, 1] bcast_S3136x9_S3136x9x1_0_1 (res_main_v297 V) : IVec S3136x9x1 32) (ix3 (⟨i * 56 + j, by omega⟩ : Fin 3136) t 0)
      = BitVec.ofNat 32 (min (i + t.val / 3 - 1) 55 * 56 + min (j + t.val % 3 - 1) 55) := by
  have e1 : (i * 56 + j) / 56 = i := by omega
  have e2 : (i * 56 + j) % 56 = j := by omega
  unfold res_main_v297
  clean_types
  pointwise [res_main_v269, res_main_v351]
  refine (congrArg₂ IntOp.addi (congrArg (IntOp.muli · 56#32) (near56 ⟨(i * 56 + j) / 56, by omega⟩ ⟨t.val / 3, by omega⟩))
    (near56 ⟨(i * 56 + j) % 56, by omega⟩ ⟨t.val % 3, by omega⟩)).trans ?_
  rw [mul_word, add_word]
  dsimp only
  rw [e1, e2]

theorem near28 : ∀ (a : Fin 28) (s : Fin 3), IntOp.minsi (IntOp.maxsi (IntOp.addi (BitVec.ofNat 32 a.val) (IntOp.subi (BitVec.ofNat 32 s.val) 1#32)) 0#32) 27#32
    = BitVec.ofNat 32 (min (a.val + s.val - 1) 27) := by decide +kernel

/-- The neighbours of a pixel, the edge standing for what lies beyond it. -/
theorem tab28 (i j : ℕ) (hi : i < 28) (hj : j < 28) (t : Fin 9) :
    (broadcastInDim S784x9x1 ![0, 1] bcast_S784x9_S784x9x1_0_1 (res_main_v379 V) : IVec S784x9x1 32) (ix3 (⟨i * 28 + j, by omega⟩ : Fin 784) t 0)
      = BitVec.ofNat 32 (min (i + t.val / 3 - 1) 27 * 28 + min (j + t.val % 3 - 1) 27) := by
  have e1 : (i * 28 + j) / 28 = i := by omega
  have e2 : (i * 28 + j) % 28 = j := by omega
  unfold res_main_v379
  clean_types
  pointwise [res_main_v269, res_main_v351]
  refine (congrArg₂ IntOp.addi (congrArg (IntOp.muli · 28#32) (near28 ⟨(i * 28 + j) / 28, by omega⟩ ⟨t.val / 3, by omega⟩))
    (near28 ⟨(i * 28 + j) % 28, by omega⟩ ⟨t.val % 3, by omega⟩)).trans ?_
  rw [mul_word, add_word]
  dsimp only
  rw [e1, e2]

/-- The rows of the four pixels of each 2 by 2 square. -/
def pick56 : IVec S3136x4 32 := (shapeCast _ (addi (broadcastInDim S56x56x2x2 ![0, 1, 2, 3] bcast_S56x1x2x1_S56x56x2x2_0_1_2_3 (muli (broadcastInDim S56x1x2x1 ![0, 2] bcast_S56x2_S56x1x2x1_0_2 (addi (broadcastInDim S56x2 ![0, 1] bcast_S56x1_S56x2_0_1 (muli (broadcastInDim S56x1 ![] bcast_S_S56x1 (constantI S_ 32 2#32)) (broadcastInDim S56x1 ![0] bcast_S56_S56x1_0 (iotaInDim S56 32 0)))) (broadcastInDim S56x2 ![0, 1] bcast_S1x2_S56x2_0_1 (broadcastInDim S1x2 ![1] bcast_S2_S1x2_1 (res_main_v240 V))))) (broadcastInDim S56x1x2x1 ![] bcast_S_S56x1x2x1 (constantI S_ 32 112#32)))) (broadcastInDim S56x56x2x2 ![0, 1, 2, 3] bcast_S1x56x1x2_S56x56x2x2_0_1_2_3 (broadcastInDim S1x56x1x2 ![1, 3] bcast_S56x2_S1x56x1x2_1_3 (addi (broadcastInDim S56x2 ![0, 1] bcast_S56x1_S56x2_0_1 (muli (broadcastInDim S56x1 ![] bcast_S_S56x1 (constantI S_ 32 2#32)) (broadcastInDim S56x1 ![0] bcast_S56_S56x1_0 (iotaInDim S56 32 0)))) (broadcastInDim S56x2 ![0, 1] bcast_S1x2_S56x2_0_1 (broadcastInDim S1x2 ![1] bcast_S2_S1x2_1 (res_main_v240 V))))))) shapeCasts_S56x56x2x2_S3136x4)

theorem pick56_at (i j : ℕ) (hi : i < 56) (hj : j < 56) (q : Fin 4) :
    (broadcastInDim S3136x4x1 ![0, 1] bcast_S3136x4_S3136x4x1_0_1 (pick56 V) : IVec S3136x4x1 32) (ix3 (⟨i * 56 + j, by omega⟩ : Fin 3136) q 0)
      = BitVec.ofNat 32 ((2 * i + q.val / 2) * 112 + (2 * j + q.val % 2)) := by
  have e1 : (i * 56 + j) / 56 = i := by omega
  have e2 : (i * 56 + j) % 56 = j := by omega
  unfold pick56
  clean_types
  pointwise [res_main_v240, res_main_v322]
  rw [e1, e2]
  simp only [add_word, mul_word]

/-- The same on the coarser grid. -/
def pick28 : IVec S784x4 32 := (shapeCast _ (addi (broadcastInDim S28x28x2x2 ![0, 1, 2, 3] bcast_S28x1x2x1_S28x28x2x2_0_1_2_3 (muli (broadcastInDim S28x1x2x1 ![0, 2] bcast_S28x2_S28x1x2x1_0_2 (addi (broadcastInDim S28x2 ![0, 1] bcast_S28x1_S28x2_0_1 (muli (broadcastInDim S28x1 ![] bcast_S_S28x1 (constantI S_ 32 2#32)) (broadcastInDim S28x1 ![0] bcast_S28_S28x1_0 (iotaInDim S28 32 0)))) (broadcastInDim S28x2 ![0, 1] bcast_S1x2_S28x2_0_1 (broadcastInDim S1x2 ![1] bcast_S2_S1x2_1 (res_main_v322 V))))) (broadcastInDim S28x1x2x1 ![] bcast_S_S28x1x2x1 (constantI S_ 32 56#32)))) (broadcastInDim S28x28x2x2 ![0, 1, 2, 3] bcast_S1x28x1x2_S28x28x2x2_0_1_2_3 (broadcastInDim S1x28x1x2 ![1, 3] bcast_S28x2_S1x28x1x2_1_3 (addi (broadcastInDim S28x2 ![0, 1] bcast_S28x1_S28x2_0_1 (muli (broadcastInDim S28x1 ![] bcast_S_S28x1 (constantI S_ 32 2#32)) (broadcastInDim S28x1 ![0] bcast_S28_S28x1_0 (iotaInDim S28 32 0)))) (broadcastInDim S28x2 ![0, 1] bcast_S1x2_S28x2_0_1 (broadcastInDim S1x2 ![1] bcast_S2_S1x2_1 (res_main_v322 V))))))) shapeCasts_S28x28x2x2_S784x4)

theorem pick28_at (i j : ℕ) (hi : i < 28) (hj : j < 28) (q : Fin 4) :
    (broadcastInDim S784x4x1 ![0, 1] bcast_S784x4_S784x4x1_0_1 (pick28 V) : IVec S784x4x1 32) (ix3 (⟨i * 28 + j, by omega⟩ : Fin 784) q 0)
      = BitVec.ofNat 32 ((2 * i + q.val / 2) * 56 + (2 * j + q.val % 2)) := by
  have e1 : (i * 28 + j) / 28 = i := by omega
  have e2 : (i * 28 + j) % 28 = j := by omega
  unfold pick28
  clean_types
  pointwise [res_main_v240, res_main_v322]
  rw [e1, e2]
  simp only [add_word, mul_word]

/-- Pooling by rows: the greatest of four picked rows. -/
def poolA (x : FVec Ideal S1x12544x128 .f32) : FVec Ideal S1x3136x128 .f32 := (Host.reduce FloatOps.maximumf (Host.gather gather_S1x12544x128_S3136x4x1_S1x3136x4x128_03_1_n_n_1_2_11128 x (broadcastInDim S3136x4x1 ![0, 1] bcast_S3136x4_S3136x4x1_0_1 (pick56 V))) (constant S_ .f32 0xFF800000#32) reducesTo_S1x3136x4x128_S1x3136x128_d2 h_S_)

def poolB (x : FVec Ideal S1x3136x256 .f32) : FVec Ideal S1x784x256 .f32 := (Host.reduce FloatOps.maximumf (Host.gather gather_S1x3136x256_S784x4x1_S1x784x4x256_03_1_n_n_1_2_11256 x (broadcastInDim S784x4x1 ![0, 1] bcast_S784x4_S784x4x1_0_1 (pick28 V))) (constant S_ .f32 0xFF800000#32) reducesTo_S1x784x4x256_S1x784x256_d2 h_S_)

theorem poolA_at {x : FVec Ideal S1x12544x128 .f32} {G : Img}
    (hx : ∀ (i j c : ℕ) (hi : i < 112) (hj : j < 112) (hc : c < 128), x (ix3 0 (⟨i * 112 + j, by omega⟩ : Fin 12544) (⟨c, hc⟩ : Fin 128)) = G i j c)
    (i j c : ℕ) (hi : i < 56) (hj : j < 56) (hc : c < 128) :
    poolA V x (ix3 0 (⟨i * 56 + j, by omega⟩ : Fin 3136) (⟨c, hc⟩ : Fin 128)) = pool G i j c := by
  have e : ∀ q : Fin 4, Host.gather gather_S1x12544x128_S3136x4x1_S1x3136x4x128_03_1_n_n_1_2_11128 x (broadcastInDim S3136x4x1 ![0, 1] bcast_S3136x4_S3136x4x1_0_1 (pick56 V) : IVec S3136x4x1 32)
      (ix4 0 (⟨i * 56 + j, by omega⟩ : Fin 3136) q (⟨c, hc⟩ : Fin 128)) = G (2 * i + q.val / 2) (2 * j + q.val % 2) c := fun q =>
    (rows_at (M := 12544) x _ _ q _ (by omega) (by decide) (pick56_at V i j hi hj q)).trans (hx _ _ _ (by omega) (by omega) hc)
  unfold poolA
  refine (four_at _ (by decide) _ neg_inf _ _).trans ?_
  rw [e, e, e, e]
  rfl

theorem poolB_at {x : FVec Ideal S1x3136x256 .f32} {G : Img}
    (hx : ∀ (i j c : ℕ) (hi : i < 56) (hj : j < 56) (hc : c < 256), x (ix3 0 (⟨i * 56 + j, by omega⟩ : Fin 3136) (⟨c, hc⟩ : Fin 256)) = G i j c)
    (i j c : ℕ) (hi : i < 28) (hj : j < 28) (hc : c < 256) :
    poolB V x (ix3 0 (⟨i * 28 + j, by omega⟩ : Fin 784) (⟨c, hc⟩ : Fin 256)) = pool G i j c := by
  have e : ∀ q : Fin 4, Host.gather gather_S1x3136x256_S784x4x1_S1x784x4x256_03_1_n_n_1_2_11256 x (broadcastInDim S784x4x1 ![0, 1] bcast_S784x4_S784x4x1_0_1 (pick28 V) : IVec S784x4x1 32)
      (ix4 0 (⟨i * 28 + j, by omega⟩ : Fin 784) q (⟨c, hc⟩ : Fin 256)) = G (2 * i + q.val / 2) (2 * j + q.val % 2) c := fun q =>
    (rows_at (M := 3136) x _ _ q _ (by omega) (by decide) (pick28_at V i j hi hj q)).trans (hx _ _ _ (by omega) (by omega) hc)
  unfold poolB
  refine (four_at _ (by decide) _ neg_inf _ _).trans ?_
  rw [e, e, e, e]
  rfl

/-- A layer on the 56 by 56 grid, 128 channels in, 256 out, the rows of the neighbours laid end to end. -/
def lay5 (x : FVec Ideal S1x3136x128 .f32) (W : FVec Ideal S1152x256 .f32) (b : FVec Ideal S256 .f32) : FVec Ideal S1x3136x256 .f32 := (maximumf (addf (Host.dotGeneral dot_S1x3136x1152_S1152x256_S1x3136x256_2_0_01_1_n_n none (shapeCast _ (Host.gather gather_S1x3136x128_S3136x9x1_S1x3136x9x128_03_1_n_n_1_2_11128 x (broadcastInDim S3136x9x1 ![0, 1] bcast_S3136x9_S3136x9x1_0_1 (res_main_v297 V))) shapeCasts_S1x3136x9x128_S1x3136x1152) W) (broadcastInDim S1x3136x256 ![0, 1, 2] bcast_S1x1x256_S1x3136x256_0_1_2 (broadcastInDim S1x1x256 ![2] bcast_S256_S1x1x256_2 b))) (broadcastInDim S1x3136x256 ![] bcast_S_S1x3136x256 (constant S_ .f32 0x00000000#32)))

theorem lay5_at {x : FVec Ideal S1x3136x128 .f32} {G : Img} (W : FVec Ideal S1152x256 .f32) (b : FVec Ideal S256 .f32)
    (hx : ∀ (i j c : ℕ) (hi : i < 56) (hj : j < 56) (hc : c < 128), x (ix3 0 (⟨i * 56 + j, by omega⟩ : Fin 3136) (⟨c, hc⟩ : Fin 128)) = G i j c)
    (i j o : ℕ) (hi : i < 56) (hj : j < 56) (ho : o < 256) :
    lay5 V x W b (ix3 0 (⟨i * 56 + j, by omega⟩ : Fin 3136) (⟨o, ho⟩ : Fin 256)) = gconv 56 56 128 (gw 128 W) (arr1 b) G i j o := by
  pointwise [lay5]
  unfold gconv dot9
  refine congrArg (fun z : EReal => max z 0) (congrArg₂ (fun y z : EReal => y + z) (sum_nine (n := 128) rfl _
    (fun t c => G (min (i + t / 3 - 1) 55) (min (j + t % 3 - 1) 55) c * gw 128 W t c o) fun x => ?_) (arr1_apply b _).symm)
  refine congrArg₂ (fun y z : EReal => y * z) ((rows_at (M := 3136) _ _ _ _ _ (by omega) (by decide) (tab56 V i j hi hj _)).trans (hx _ _ _ (by omega) (by omega) (by omega))) ?_
  show _ = arr W (x.val / 128 * 128 + x.val % 128) o
  rw [Nat.div_add_mod']
  exact (arr_apply W x ⟨o, ho⟩).symm

/-- A layer on the 56 by 56 grid, 256 channels in, 256 out, the rows of the neighbours laid end to end. -/
def lay6 (x : FVec Ideal S1x3136x256 .f32) (W : FVec Ideal S2304x256 .f32) (b : FVec Ideal S256 .f32) : FVec Ideal S1x3136x256 .f32 := (maximumf (addf (Host.dotGeneral dot_S1x3136x2304_S2304x256_S1x3136x256_2_0_01_1_n_n none (shapeCast _ (Host.gather gather_S1x3136x256_S3136x9x1_S1x3136x9x256_03_1_n_n_1_2_11256 x (broadcastInDim S3136x9x1 ![0, 1] bcast_S3136x9_S3136x9x1_0_1 (res_main_v297 V))) shapeCasts_S1x3136x9x256_S1x3136x2304) W) (broadcastInDim S1x3136x256 ![0, 1, 2] bcast_S1x1x256_S1x3136x256_0_1_2 (broadcastInDim S1x1x256 ![2] bcast_S256_S1x1x256_2 b))) (broadcastInDim S1x3136x256 ![] bcast_S_S1x3136x256 (constant S_ .f32 0x00000000#32)))

theorem lay6_at {x : FVec Ideal S1x3136x256 .f32} {G : Img} (W : FVec Ideal S2304x256 .f32) (b : FVec Ideal S256 .f32)
    (hx : ∀ (i j c : ℕ) (hi : i < 56) (hj : j < 56) (hc : c < 256), x (ix3 0 (⟨i * 56 + j, by omega⟩ : Fin 3136) (⟨c, hc⟩ : Fin 256)) = G i j c)
    (i j o : ℕ) (hi : i < 56) (hj : j < 56) (ho : o < 256) :
    lay6 V x W b (ix3 0 (⟨i * 56 + j, by omega⟩ : Fin 3136) (⟨o, ho⟩ : Fin 256)) = gconv 56 56 256 (gw 256 W) (arr1 b) G i j o := by
  pointwise [lay6]
  unfold gconv dot9
  refine congrArg (fun z : EReal => max z 0) (congrArg₂ (fun y z : EReal => y + z) (sum_nine (n := 256) rfl _
    (fun t c => G (min (i + t / 3 - 1) 55) (min (j + t % 3 - 1) 55) c * gw 256 W t c o) fun x => ?_) (arr1_apply b _).symm)
  refine congrArg₂ (fun y z : EReal => y * z) ((rows_at (M := 3136) _ _ _ _ _ (by omega) (by decide) (tab56 V i j hi hj _)).trans (hx _ _ _ (by omega) (by omega) (by omega))) ?_
  show _ = arr W (x.val / 256 * 256 + x.val % 256) o
  rw [Nat.div_add_mod']
  exact (arr_apply W x ⟨o, ho⟩).symm

/-- A layer on the 28 by 28 grid, 256 channels in, 512 out, the rows of the neighbours laid end to end. -/
def lay8 (x : FVec Ideal S1x784x256 .f32) (W : FVec Ideal S2304x512 .f32) (b : FVec Ideal S512 .f32) : FVec Ideal S1x784x512 .f32 := (maximumf (addf (Host.dotGeneral dot_S1x784x2304_S2304x512_S1x784x512_2_0_01_1_n_n none (shapeCast _ (Host.gather gather_S1x784x256_S784x9x1_S1x784x9x256_03_1_n_n_1_2_11256 x (broadcastInDim S784x9x1 ![0, 1] bcast_S784x9_S784x9x1_0_1 (res_main_v379 V))) shapeCasts_S1x784x9x256_S1x784x2304) W) (broadcastInDim S1x784x512 ![0, 1, 2] bcast_S1x1x512_S1x784x512_0_1_2 (broadcastInDim S1x1x512 ![2] bcast_S512_S1x1x512_2 b))) (broadcastInDim S1x784x512 ![] bcast_S_S1x784x512 (constant S_ .f32 0x00000000#32)))

theorem lay8_at {x : FVec Ideal S1x784x256 .f32} {G : Img} (W : FVec Ideal S2304x512 .f32) (b : FVec Ideal S512 .f32)
    (hx : ∀ (i j c : ℕ) (hi : i < 28) (hj : j < 28) (hc : c < 256), x (ix3 0 (⟨i * 28 + j, by omega⟩ : Fin 784) (⟨c, hc⟩ : Fin 256)) = G i j c)
    (i j o : ℕ) (hi : i < 28) (hj : j < 28) (ho : o < 512) :
    lay8 V x W b (ix3 0 (⟨i * 28 + j, by omega⟩ : Fin 784) (⟨o, ho⟩ : Fin 512)) = gconv 28 28 256 (gw 256 W) (arr1 b) G i j o := by
  pointwise [lay8]
  unfold gconv dot9
  refine congrArg (fun z : EReal => max z 0) (congrArg₂ (fun y z : EReal => y + z) (sum_nine (n := 256) rfl _
    (fun t c => G (min (i + t / 3 - 1) 27) (min (j + t % 3 - 1) 27) c * gw 256 W t c o) fun x => ?_) (arr1_apply b _).symm)
  refine congrArg₂ (fun y z : EReal => y * z) ((rows_at (M := 784) _ _ _ _ _ (by omega) (by decide) (tab28 V i j hi hj _)).trans (hx _ _ _ (by omega) (by omega) (by omega))) ?_
  show _ = arr W (x.val / 256 * 256 + x.val % 256) o
  rw [Nat.div_add_mod']
  exact (arr_apply W x ⟨o, ho⟩).symm

/-- A layer on the 28 by 28 grid, 512 channels in, 512 out, the rows of the neighbours laid end to end. -/
def lay9 (x : FVec Ideal S1x784x512 .f32) (W : FVec Ideal S4608x512 .f32) (b : FVec Ideal S512 .f32) : FVec Ideal S1x784x512 .f32 := (maximumf (addf (Host.dotGeneral dot_S1x784x4608_S4608x512_S1x784x512_2_0_01_1_n_n none (shapeCast _ (Host.gather gather_S1x784x512_S784x9x1_S1x784x9x512_03_1_n_n_1_2_11512 x (broadcastInDim S784x9x1 ![0, 1] bcast_S784x9_S784x9x1_0_1 (res_main_v379 V))) shapeCasts_S1x784x9x512_S1x784x4608) W) (broadcastInDim S1x784x512 ![0, 1, 2] bcast_S1x1x512_S1x784x512_0_1_2 (broadcastInDim S1x1x512 ![2] bcast_S512_S1x1x512_2 b))) (broadcastInDim S1x784x512 ![] bcast_S_S1x784x512 (constant S_ .f32 0x00000000#32)))

theorem lay9_at {x : FVec Ideal S1x784x512 .f32} {G : Img} (W : FVec Ideal S4608x512 .f32) (b : FVec Ideal S512 .f32)
    (hx : ∀ (i j c : ℕ) (hi : i < 28) (hj : j < 28) (hc : c < 512), x (ix3 0 (⟨i * 28 + j, by omega⟩ : Fin 784) (⟨c, hc⟩ : Fin 512)) = G i j c)
    (i j o : ℕ) (hi : i < 28) (hj : j < 28) (ho : o < 512) :
    lay9 V x W b (ix3 0 (⟨i * 28 + j, by omega⟩ : Fin 784) (⟨o, ho⟩ : Fin 512)) = gconv 28 28 512 (gw 512 W) (arr1 b) G i j o := by
  pointwise [lay9]
  unfold gconv dot9
  refine congrArg (fun z : EReal => max z 0) (congrArg₂ (fun y z : EReal => y + z) (sum_nine (n := 512) rfl _
    (fun t c => G (min (i + t / 3 - 1) 27) (min (j + t % 3 - 1) 27) c * gw 512 W t c o) fun x => ?_) (arr1_apply b _).symm)
  refine congrArg₂ (fun y z : EReal => y * z) ((rows_at (M := 784) _ _ _ _ _ (by omega) (by decide) (tab28 V i j hi hj _)).trans (hx _ _ _ (by omega) (by omega) (by omega))) ?_
  show _ = arr W (x.val / 512 * 512 + x.val % 512) o
  rw [Nat.div_add_mod']
  exact (arr_apply W x ⟨o, ho⟩).symm

end Cert.Proof.R

end
end
-- ==== Proof.RefOut.lean ====
module

public import proofs.«01_k».proof.Proof.RefGraph
public import proofs.«01_k».proof.Proof.Net

@[expose] public section

set_option maxRecDepth 16384

noncomputable section

namespace Cert.Proof.R

open Cert.ReferenceIdeal Cert.ReferenceIdeal.Gen Cert.ReferenceIdeal.Value
open Idealize.ShloMosaic Cert.Proof.Net
open Idealize.ShloMosaic.TcCoe Idealize.ShloMosaic.Tactic

variable (V : Valuation τ sig (Elt Ideal))

/-- The image as rows, one a pixel, after the fourth convolution. -/
def rows : FVec Ideal S1x12544x128 .f32 := (transpose S1x12544x128 [0, 2, 1] (shapeCast _ (maximumf (addf (res_main_v232 V) (broadcastInDim S1x128x112x112 ![0, 1, 2, 3] bcast_S1x128x1x1_S1x128x112x112_0_1_2_3 (broadcastInDim S1x128x1x1 ![1] bcast_S128_S1x128x1x1_1 (V (Proc.devRef .tc main_arg9))))) (broadcastInDim S1x128x112x112 ![] bcast_S_S1x128x112x112 (constant S_ .f32 0x00000000#32))) shapeCasts_S1x128x112x112_S1x128x12544) transposes_S1x128x12544_S1x12544x128_0_2_1)

theorem rows_eq (i j c : ℕ) (hi : i < 112) (hj : j < 112) (hc : c < 128) :
    rows V (ix3 0 (⟨i * 112 + j, by omega⟩ : Fin 12544) (⟨c, hc⟩ : Fin 128)) = G4 V i j c := by
  have e1 : (i * 112 + j) / 112 = i := by omega
  have e2 : (i * 112 + j) % 112 = j := by omega
  unfold rows
  clean_types
  pointwise
  refine (r232 V ⟨c, hc⟩ _ _).trans ?_
  dsimp only
  rw [e1, e2]

/-- The six layers over the rows of neighbours, and the poolings before them. -/
def out : FVec Ideal S1x784x512 .f32 :=
  lay9 V (lay9 V (lay8 V (poolB V (lay6 V (lay6 V (lay5 V (poolA V (rows V)) (V (Proc.devRef .tc main_arg10)) (V (Proc.devRef .tc main_arg11))) (V (Proc.devRef .tc main_arg12)) (V (Proc.devRef .tc main_arg13))) (V (Proc.devRef .tc main_arg14)) (V (Proc.devRef .tc main_arg15)))) (V (Proc.devRef .tc main_arg16)) (V (Proc.devRef .tc main_arg17))) (V (Proc.devRef .tc main_arg18)) (V (Proc.devRef .tc main_arg19))) (V (Proc.devRef .tc main_arg20)) (V (Proc.devRef .tc main_arg21))

/-- What the reference's result holds, element by element. -/
theorem value (o : Fin 512) (i j : Fin 28) :
    (shapeCast S1x512x28x28 (transpose S1x512x784 [0, 2, 1] (out V) transposes_S1x784x512_S1x512x784_0_2_1) shapeCasts_S1x512x784_S1x512x28x28 : FVec Ideal S1x512x28x28 .f32) (ix4 0 o i j)
      = net (im (V (Proc.devRef .tc main_arg0) : FVec Ideal S1x3x224x224 .f32)) (cw (V (Proc.devRef .tc main_arg2) : FVec Ideal S64x3x3x3 .f32)) (arr1 (V (Proc.devRef .tc main_arg3) : FVec Ideal S64 .f32)) (cw (V (Proc.devRef .tc main_arg4) : FVec Ideal S64x64x3x3 .f32)) (arr1 (V (Proc.devRef .tc main_arg5) : FVec Ideal S64 .f32)) (cw (V (Proc.devRef .tc main_arg6) : FVec Ideal S128x64x3x3 .f32)) (arr1 (V (Proc.devRef .tc main_arg7) : FVec Ideal S128 .f32)) (cw (V (Proc.devRef .tc main_arg8) : FVec Ideal S128x128x3x3 .f32)) (arr1 (V (Proc.devRef .tc main_arg9) : FVec Ideal S128 .f32)) (gw 128 (V (Proc.devRef .tc main_arg10) : FVec Ideal S1152x256 .f32)) (arr1 (V (Proc.devRef .tc main_arg11) : FVec Ideal S256 .f32)) (gw 256 (V (Proc.devRef .tc main_arg12) : FVec Ideal S2304x256 .f32)) (arr1 (V (Proc.devRef .tc main_arg13) : FVec Ideal S256 .f32)) (gw 256 (V (Proc.devRef .tc main_arg14) : FVec Ideal S2304x256 .f32)) (arr1 (V (Proc.devRef .tc main_arg15) : FVec Ideal S256 .f32)) (gw 256 (V (Proc.devRef .tc main_arg16) : FVec Ideal S2304x512 .f32)) (arr1 (V (Proc.devRef .tc main_arg17) : FVec Ideal S512 .f32)) (gw 512 (V (Proc.devRef .tc main_arg18) : FVec Ideal S4608x512 .f32)) (arr1 (V (Proc.devRef .tc main_arg19) : FVec Ideal S512 .f32)) (gw 512 (V (Proc.devRef .tc main_arg20) : FVec Ideal S4608x512 .f32)) (arr1 (V (Proc.devRef .tc main_arg21) : FVec Ideal S512 .f32)) i j o := by
  pointwise
  refine Eq.trans (b := out V (ix3 0 (⟨i.val * 28 + j.val, by omega⟩ : Fin 784) (⟨o.val, o.isLt⟩ : Fin 512))) ?_ ?_
  · rfl
  refine (lay9_at V _ _ (lay9_at V _ _ (lay8_at V _ _ (poolB_at V (lay6_at V _ _ (lay6_at V _ _ (lay5_at V _ _ (poolA_at V (rows_eq V)))))))) i.val j.val o.val i.isLt j.isLt o.isLt).trans ?_
  rfl

end Cert.Proof.R

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import proofs.«01_k».proof.Proof.Gen.ReferenceIdeal.Run
public import Idealize.ShloMosaic.Init
public import proofs.«01_k».proof.Proof.Frame
public import proofs.«01_k».proof.Proof.Same
public import proofs.«01_k».proof.Proof.Value
public import proofs.«01_k».proof.Proof.RefOut

@[expose] public section

noncomputable section

namespace Cert.Proof

open Idealize.ShloMosaic Idealize.SL.Sem

theorem frame_kernelIdeal : Cert.quiescent_KernelIdeal (hKernelIdeal := Cert.KernelIdeal.Gen.facts) := fun m ρ _ => K.frame (F := Ideal) m ρ

set_option maxHeartbeats 0 in
theorem frame_kernel : Cert.quiescent_Kernel (hKernel := Cert.Kernel.Gen.facts) := fun m ρ _ => by
  have h := K.frame (F := Bits) m ρ
  rw [← Same.defs, ← Same.main] at h
  exact h

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

/-- The reference's result, from the memory it starts in. -/
def result (m' : (ℓ : Loc Cert.ReferenceIdeal.nD Cert.ReferenceIdeal.τ Cert.ReferenceIdeal.sig) → Buf (Elt Ideal) ℓ) (c : Dev Cert.ReferenceIdeal.nD) : FVec Ideal Cert.ReferenceIdeal.S1x512x28x28 .f32 :=
  shapeCast Cert.ReferenceIdeal.S1x512x28x28 (transpose Cert.ReferenceIdeal.S1x512x784 [0, 2, 1] (R.out (StableHlo.launchContents m' c))
    Cert.ReferenceIdeal.Gen.transposes_S1x784x512_S1x512x784_0_2_1) Cert.ReferenceIdeal.Gen.shapeCasts_S1x512x784_S1x512x28x28

set_option maxRecDepth 16384 in
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => result m' c, (θ_run _ _ _).mono ?_ (K.outcome m g), (θ_run _ _ _).mono ?_ (Cert.ReferenceIdeal.Value.run (F := Ideal) m' g')⟩
  · intro r h c
    obtain ⟨hv, ha⟩ := h c
    obtain ⟨h0, h1, h2, h3, h4, h5, h6, h7, h8, h9, h10, h11, h12, h13, h14, h15, h16, h17, h18, h19, h20, h21⟩ := hargs c
    refine ⟨funext fun y => ?_, ha _ (by decide : Cert.KernelIdeal.main_arg0 ∈ K.args), ha _ (by decide : Cert.KernelIdeal.main_arg1 ∈ K.args), ha _ (by decide : Cert.KernelIdeal.main_arg2 ∈ K.args), ha _ (by decide : Cert.KernelIdeal.main_arg3 ∈ K.args), ha _ (by decide : Cert.KernelIdeal.main_arg4 ∈ K.args), ha _ (by decide : Cert.KernelIdeal.main_arg5 ∈ K.args), ha _ (by decide : Cert.KernelIdeal.main_arg6 ∈ K.args), ha _ (by decide : Cert.KernelIdeal.main_arg7 ∈ K.args), ha _ (by decide : Cert.KernelIdeal.main_arg8 ∈ K.args), ha _ (by decide : Cert.KernelIdeal.main_arg9 ∈ K.args), ha _ (by decide : Cert.KernelIdeal.main_arg10 ∈ K.args), ha _ (by decide : Cert.KernelIdeal.main_arg11 ∈ K.args), ha _ (by decide : Cert.KernelIdeal.main_arg12 ∈ K.args), ha _ (by decide : Cert.KernelIdeal.main_arg13 ∈ K.args), ha _ (by decide : Cert.KernelIdeal.main_arg14 ∈ K.args), ha _ (by decide : Cert.KernelIdeal.main_arg15 ∈ K.args), ha _ (by decide : Cert.KernelIdeal.main_arg16 ∈ K.args), ha _ (by decide : Cert.KernelIdeal.main_arg17 ∈ K.args), ha _ (by decide : Cert.KernelIdeal.main_arg18 ∈ K.args), ha _ (by decide : Cert.KernelIdeal.main_arg19 ∈ K.args), ha _ (by decide : Cert.KernelIdeal.main_arg20 ∈ K.args), ha _ (by decide : Cert.KernelIdeal.main_arg21 ∈ K.args)⟩
    obtain ⟨z, o, i, j, rfl⟩ : ∃ (z : Fin 1) (o : Fin 512) (i j : Fin 28), y = ix4 z o i j := ⟨_, _, _, _, eq_ix4 y⟩
    obtain rfl : z = 0 := Subsingleton.elim _ _
    refine (hv o i j).trans (Eq.trans ?_ (R.value (StableHlo.launchContents m' c) o i j).symm)
    rw [← h0, ← h2, ← h3, ← h4, ← h5, ← h6, ← h7, ← h8, ← h9, ← h10, ← h11, ← h12, ← h13, ← h14, ← h15, ← h16, ← h17, ← h18, ← h19, ← h20, ← h21]
  · intro r h c
    refine ⟨(h c).1.trans ?_, (h c).2⟩
    unfold Cert.ReferenceIdeal.Value.res_main_v347
    rfl

theorem claim : Cert.Claim := ⟨Cert.Kernel.Gen.facts, Cert.KernelIdeal.Gen.facts, Cert.ReferenceIdeal.Gen.facts,
  frame_kernel, frame_kernelIdeal, frame_reference, trivial, algebraic⟩

end Cert.Proof

end
